-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 [hPre_pages_of_pool : Cert.Pre_pages_of_pool.Facts] (m : (ℓ : Loc Cert.Kernel17.nD Cert.Kernel17.τ Cert.Kernel17.sig) → Buf (Elt Bits) ℓ) : Prop :=
  ∀ c : Dev Cert.Kernel17.nD,
    (Cert.Pre_pages_of_pool.fn (F := Bits) (m ((c.tc : Thread Cert.Kernel17.nD Cert.Kernel17.τ).loc Cert.Kernel17.main_arg0)) (m ((c.tc : Thread Cert.Kernel17.nD Cert.Kernel17.τ).loc Cert.Kernel17.main_arg1))) = (fun _ => 1#1)

def Pre_Kernel17Ideal [hPre_pages_of_pool : Cert.Pre_pages_of_pool.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_pages_of_pool.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))) = (fun _ => 1#1)

def Pre_Reference17Ideal [hPre_pages_of_pool : Cert.Pre_pages_of_pool.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_pages_of_pool.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] [hPre_pages_of_pool : Cert.Pre_pages_of_pool.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] [hPre_pages_of_pool : Cert.Pre_pages_of_pool.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] [hPre_pages_of_pool : Cert.Pre_pages_of_pool.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_v43) = v3 c
          ∧ r.2.mem ((c.tc : Thread Cert.Reference8Ideal.nD Cert.Reference8Ideal.τ).loc Cert.Reference8Ideal.main_v44) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)) (v4 : (c : Dev Cert.Kernel11Ideal.nD) → Buf (Elt Ideal) ((c.tc : Thread Cert.Kernel11Ideal.nD Cert.Kernel11Ideal.τ).loc Cert.Kernel11Ideal.main_v2_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_v2_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_v35) = v3 c
          ∧ r.2.mem ((c.tc : Thread Cert.Reference11Ideal.nD Cert.Reference11Ideal.τ).loc Cert.Reference11Ideal.main_v39) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] [hPre_pages_of_pool : Cert.Pre_pages_of_pool.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v48) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_pages_of_pool : Cert.Pre_pages_of_pool.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17) (hPre_pages_of_pool := hPre_pages_of_pool)
    ∧ quiescent_Kernel17Ideal (hKernel17Ideal := hKernel17Ideal) (hPre_pages_of_pool := hPre_pages_of_pool)
    ∧ quiescent_Reference17Ideal (hReference17Ideal := hReference17Ideal) (hPre_pages_of_pool := hPre_pages_of_pool)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal) (hPre_pages_of_pool := hPre_pages_of_pool)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_pages_of_pool.lean ====
abbrev S2x1280x128x16x128 : Shape := ⟨5, ![2, 1280, 128, 16, 128]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S2x1280x128x16x128 .f32) (main_arg1 : IVec S8x128 32) : IVec S_ 1 :=
  let main_c : IVec S_ 32 := constantI S_ 32 0#32
  let main_v0 : IVec S8x128 32 := broadcastInDim S8x128 ![] bcast_S_S8x128 main_c
  let main_v1 : IVec S8x128 1 := cmpi .sge main_arg1 main_v0
  let main_c_0 : IVec S_ 32 := constantI S_ 32 1280#32
  let main_v2 : IVec S8x128 32 := broadcastInDim S8x128 ![] bcast_S_S8x128 main_c_0
  let main_v3 : IVec S8x128 1 := cmpi .slt main_arg1 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S16x1x4352 : Shape := ⟨3, ![16, 1, 4352]⟩
abbrev S2x4096x2048 : Shape := ⟨3, ![2, 4096, 2048]⟩
abbrev S2x2048x4096 : Shape := ⟨3, ![2, 2048, 4096]⟩
abbrev S2x16x1x2048 : Shape := ⟨4, ![2, 16, 1, 2048]⟩
abbrev S4x1x4352 : Shape := ⟨3, ![4, 1, 4352]⟩
abbrev S1x256x512 : Shape := ⟨3, ![1, 256, 512]⟩
abbrev S1x4096x512 : Shape := ⟨3, ![1, 4096, 512]⟩
abbrev S1x512x4096 : Shape := ⟨3, ![1, 512, 4096]⟩
abbrev S1x16x1x512 : Shape := ⟨4, ![1, 16, 1, 512]⟩
abbrev S4x16x256x256 : Shape := ⟨4, ![4, 16, 256, 256]⟩
abbrev S256x512 : Shape := ⟨2, ![256, 512]⟩
abbrev S4x16x256 : Shape := ⟨3, ![4, 16, 256]⟩
abbrev S1x1x512 : Shape := ⟨3, ![1, 1, 512]⟩
abbrev S1x512 : Shape := ⟨2, ![1, 512]⟩
abbrev S256x256 : Shape := ⟨2, ![256, 256]⟩
abbrev S1x1x256x256 : Shape := ⟨4, ![1, 1, 256, 256]⟩
abbrev S1x256x128 : Shape := ⟨3, ![1, 256, 128]⟩
abbrev S256x128 : Shape := ⟨2, ![256, 128]⟩
abbrev S16x256 : Shape := ⟨2, ![16, 256]⟩
abbrev S1x16x1x128 : Shape := ⟨4, ![1, 16, 1, 128]⟩
abbrev S16x128 : Shape := ⟨2, ![16, 128]⟩
abbrev S1x256 : Shape := ⟨2, ![1, 256]⟩
abbrev S1x16x256 : Shape := ⟨3, ![1, 16, 256]⟩
abbrev S256 : Shape := ⟨1, ![256]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x1x256 : Shape := ⟨3, ![1, 1, 256]⟩
abbrev S1x128x512 : Shape := ⟨3, ![1, 128, 512]⟩
abbrev S128x512 : Shape := ⟨2, ![128, 512]⟩

abbrev nBuf : Space → Nat
  | .hbm => 6
  | .vmem => 15
  | .smem => 0
  | _ => 0

abbrev bufTy : (tb : Table) → Fin (tcTables nBuf tb) → BufTy
  | .hbm, ⟨0, _⟩ => ⟨S16x1x4352, .f32⟩
  | .hbm, ⟨1, _⟩ => ⟨S2x4096x2048, .bf16⟩
  | .hbm, ⟨2, _⟩ => ⟨S2x4096x2048, .bf16⟩
  | .hbm, ⟨3, _⟩ => ⟨S2x2048x4096, .bf16⟩
  | .hbm, ⟨4, _⟩ => ⟨S2x16x1x2048, .f32⟩
  | .hbm, ⟨5, _⟩ => ⟨S2x4096x2048, .bf16⟩
  | .local _ .vmem, ⟨0, _⟩ => ⟨S4x1x4352, .f32⟩
  | .local _ .vmem, ⟨1, _⟩ => ⟨S4x1x4352, .f32⟩
  | .local _ .vmem, ⟨2, _⟩ => ⟨S1x256x512, .bf16⟩
  | .local _ .vmem, ⟨3, _⟩ => ⟨S1x256x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S1x16x1x512, .f32⟩
  | .local _ .vmem, ⟨9, _⟩ => ⟨S1x16x1x512, .f32⟩
  | .local _ .vmem, ⟨10, _⟩ => ⟨S1x256x512, .bf16⟩
  | .local _ .vmem, ⟨11, _⟩ => ⟨S1x256x512, .bf16⟩
  | .local _ .vmem, ⟨12, _⟩ => ⟨S4x16x256x256, .f32⟩
  | .local _ .vmem, ⟨13, _⟩ => ⟨S256x512, .f32⟩
  | .local _ .vmem, ⟨14, _⟩ => ⟨S4x16x256, .f32⟩
  | _, _ => ⟨S16x1x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg2 : BitVec 32 := BitVec.ofNat 32 (i 2).val
  let c256_i32_378 : BitVec 32 := 256#32
  let v1269 : BitVec 32 := Scalar.muli arg2 c256_i32_378
  v1269
def k0_off1 (i : grid0.Coords) : Fin 3 → Nat :=
  let c0_379 : Index := 0#32
  let c0_380 : Index := 0#32
  let arg2 : BitVec 32 := BitVec.ofNat 32 (i 2).val
  let c256_i32_378 : BitVec 32 := 256#32
  let v1269 : BitVec 32 := Scalar.muli arg2 c256_i32_378
  let v1270 : BitVec 32 := v1269
  let v1271 : Index := Scalar.indexCast v1270
  ![0, 0, v1271.toNat]
def k0_off2 (i : grid0.Coords) : Fin 4 → Nat :=
  let c0_385 : Index := 0#32
  let arg2 : BitVec 32 := BitVec.ofNat 32 (i 2).val
  let v1282 : Index := Scalar.indexCast arg2
  let c0_386 : Index := 0#32
  let c0_387 : Index := 0#32
  ![0, v1282.toNat, 0, 0]
def k0_off3 (i : grid0.Coords) : Fin 3 → Nat :=
  let c1_388 : Index := 1#32
  let c0_389 : Index := 0#32
  let arg2 : BitVec 32 := BitVec.ofNat 32 (i 2).val
  let c256_i32_378 : BitVec 32 := 256#32
  let v1269 : BitVec 32 := Scalar.muli arg2 c256_i32_378
  let v1270 : BitVec 32 := v1269
  let v1286 : Index := Scalar.indexCast v1270
  ![1, 0, v1286.toNat]
def k0_off4 (i : grid0.Coords) : Fin 4 → Nat :=
  let c1_395 : Index := 1#32
  let arg2 : BitVec 32 := BitVec.ofNat 32 (i 2).val
  let v1297 : Index := Scalar.indexCast arg2
  let c0_396 : Index := 0#32
  let c0_397 : Index := 0#32
  ![1, v1297.toNat, 0, 0]
def k0_off5 (i : grid0.Coords) : Fin 3 → Nat :=
  let c2_398 : Index := 2#32
  let c0_399 : Index := 0#32
  let arg2 : BitVec 32 := BitVec.ofNat 32 (i 2).val
  let c256_i32_378 : BitVec 32 := 256#32
  let v1269 : BitVec 32 := Scalar.muli arg2 c256_i32_378
  let v1270 : BitVec 32 := v1269
  let v1301 : Index := Scalar.indexCast v1270
  ![2, 0, v1301.toNat]
def k0_off6 (i : grid0.Coords) : Fin 4 → Nat :=
  let c2_405 : Index := 2#32
  let arg2 : BitVec 32 := BitVec.ofNat 32 (i 2).val
  let v1312 : Index := Scalar.indexCast arg2
  let c0_406 : Index := 0#32
  let c0_407 : Index := 0#32
  ![2, v1312.toNat, 0, 0]
def k0_off7 (i : grid0.Coords) : Fin 3 → Nat :=
  let c3_408 : Index := 3#32
  let c0_409 : Index := 0#32
  let arg2 : BitVec 32 := BitVec.ofNat 32 (i 2).val
  let c256_i32_378 : BitVec 32 := 256#32
  let v1269 : BitVec 32 := Scalar.muli arg2 c256_i32_378
  let v1270 : BitVec 32 := v1269
  let v1316 : Index := Scalar.indexCast v1270
  ![3, 0, v1316.toNat]
def k0_off8 (i : grid0.Coords) : Fin 4 → Nat :=
  let c3_415 : Index := 3#32
  let arg2 : BitVec 32 := BitVec.ofNat 32 (i 2).val
  let v1327 : Index := Scalar.indexCast arg2
  let c0_416 : Index := 0#32
  let c0_417 : Index := 0#32
  ![3, v1327.toNat, 0, 0]
def k0_mult2 (i : grid0.Coords) : BitVec 32 :=
  let arg2 : BitVec 32 := BitVec.ofNat 32 (i 2).val
  let c256_i32 : BitVec 32 := 256#32
  let v1118 : BitVec 32 := Scalar.muli arg2 c256_i32
  v1118
def k0_off9 (i : grid0.Coords) : Fin 3 → Nat :=
  let c0_298 : Index := 0#32
  let arg2 : BitVec 32 := BitVec.ofNat 32 (i 2).val
  let c256_i32 : BitVec 32 := 256#32
  let v1118 : BitVec 32 := Scalar.muli arg2 c256_i32
  let v1119 : BitVec 32 := v1118
  let v1120 : Index := Scalar.indexCast v1119
  let c0_299 : Index := 0#32
  ![0, v1120.toNat, 0]
def k0_off10 (i : grid0.Coords) : Fin 3 → Nat :=
  let c0_301 : Index := 0#32
  let arg2 : BitVec 32 := BitVec.ofNat 32 (i 2).val
  let c256_i32 : BitVec 32 := 256#32
  let v1118 : BitVec 32 := Scalar.muli arg2 c256_i32
  let v1119 : BitVec 32 := v1118
  let v1124 : Index := Scalar.indexCast v1119
  let c128_302 : Index := 128#32
  ![0, v1124.toNat, 128]
def k0_off11 (i : grid0.Coords) : Fin 3 → Nat :=
  let c0_304 : Index := 0#32
  let arg2 : BitVec 32 := BitVec.ofNat 32 (i 2).val
  let c256_i32 : BitVec 32 := 256#32
  let v1118 : BitVec 32 := Scalar.muli arg2 c256_i32
  let v1119 : BitVec 32 := v1118
  let v1128 : Index := Scalar.indexCast v1119
  let c256_305 : Index := 256#32
  ![0, v1128.toNat, 256]
def k0_off12 (i : grid0.Coords) : Fin 3 → Nat :=
  let c0_307 : Index := 0#32
  let arg2 : BitVec 32 := BitVec.ofNat 32 (i 2).val
  let c256_i32 : BitVec 32 := 256#32
  let v1118 : BitVec 32 := Scalar.muli arg2 c256_i32
  let v1119 : BitVec 32 := v1118
  let v1132 : Index := Scalar.indexCast v1119
  let c384_308 : Index := 384#32
  ![0, v1132.toNat, 384]
def k0_off13 (i : grid0.Coords) : Fin 3 → Nat :=
  let c0_342 : Index := 0#32
  let c0_343 : Index := 0#32
  let arg2 : BitVec 32 := BitVec.ofNat 32 (i 2).val
  let c256_i32 : BitVec 32 := 256#32
  let v1118 : BitVec 32 := Scalar.muli arg2 c256_i32
  let v1119 : BitVec 32 := v1118
  let v1196 : Index := Scalar.indexCast v1119
  ![0, 0, v1196.toNat]
def k0_off14 (i : grid0.Coords) : Fin 3 → Nat :=
  let c0_345 : Index := 0#32
  let c128_346 : Index := 128#32
  let arg2 : BitVec 32 := BitVec.ofNat 32 (i 2).val
  let c256_i32 : BitVec 32 := 256#32
  let v1118 : BitVec 32 := Scalar.muli arg2 c256_i32
  let v1119 : BitVec 32 := v1118
  let v1201 : Index := Scalar.indexCast v1119
  ![0, 128, v1201.toNat]
def k0_off15 (i : grid0.Coords) : Fin 3 → Nat :=
  let c0_348 : Index := 0#32
  let c256_349 : Index := 256#32
  let arg2 : BitVec 32 := BitVec.ofNat 32 (i 2).val
  let c256_i32 : BitVec 32 := 256#32
  let v1118 : BitVec 32 := Scalar.muli arg2 c256_i32
  let v1119 : BitVec 32 := v1118
  let v1206 : Index := Scalar.indexCast v1119
  ![0, 256, v1206.toNat]
def k0_off16 (i : grid0.Coords) : Fin 3 → Nat :=
  let c0_351 : Index := 0#32
  let c384_352 : Index := 384#32
  let arg2 : BitVec 32 := BitVec.ofNat 32 (i 2).val
  let c256_i32 : BitVec 32 := 256#32
  let v1118 : BitVec 32 := Scalar.muli arg2 c256_i32
  let v1119 : BitVec 32 := v1118
  let v1211 : Index := Scalar.indexCast v1119
  ![0, 384, v1211.toNat]
@[reducible] def k0_t1_loop (i : grid0.Coords) : Scf.Loop 32 :=
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_364 : BitVec 32 := 1#32
  ⟨c0_i32_362, v1238, c1_i32_364⟩
def k0_mult3 (i : grid0.Coords) (k0_t1 : Fin (k0_t1_loop i).trips) : BitVec 32 :=
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  v1270
def k0_off17 (i : grid0.Coords) (k0_t1 : Fin (k0_t1_loop i).trips) : Fin 3 → Nat :=
  let c0_382 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1275 : Index := Scalar.indexCast v1271
  let c0_383 : Index := 0#32
  ![0, v1275.toNat, 0]
def k0_off18 (i : grid0.Coords) (k0_t1 : Fin (k0_t1_loop i).trips) : Fin 3 → Nat :=
  let c0_385 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1279 : Index := Scalar.indexCast v1271
  let c128_386 : Index := 128#32
  ![0, v1279.toNat, 128]
def k0_off19 (i : grid0.Coords) (k0_t1 : Fin (k0_t1_loop i).trips) : Fin 3 → Nat :=
  let c0_388 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1283 : Index := Scalar.indexCast v1271
  let c256_389 : Index := 256#32
  ![0, v1283.toNat, 256]
def k0_off20 (i : grid0.Coords) (k0_t1 : Fin (k0_t1_loop i).trips) : Fin 3 → Nat :=
  let c0_391 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1287 : Index := Scalar.indexCast v1271
  let c384_392 : Index := 384#32
  ![0, v1287.toNat, 384]
def k0_off21 (i : grid0.Coords) (k0_t1 : Fin (k0_t1_loop i).trips) : Fin 4 → Nat :=
  let c0_394 : Index := 0#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1291 : BitVec 32 := Scalar.subi arg2 v1269
  let v1292 : Index := Scalar.indexCast v1291
  let c0_395 : Index := 0#32
  let c0_396 : Index := 0#32
  ![0, v1292.toNat, 0, 0]
def k0_off22 (i : grid0.Coords) (k0_t1 : Fin (k0_t1_loop i).trips) : Fin 3 → Nat :=
  let c0_397 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1295 : Index := Scalar.indexCast v1269
  let c0_398 : Index := 0#32
  ![0, v1295.toNat, 0]
def k0_off23 (i : grid0.Coords) (k0_t1 : Fin (k0_t1_loop i).trips) : Fin 4 → Nat :=
  let c0_399 : Index := 0#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1300 : Index := Scalar.indexCast v1274
  let c0_400 : Index := 0#32
  let c0_401 : Index := 0#32
  ![0, v1300.toNat, 0, 0]
def k0_off24 (i : grid0.Coords) (k0_t1 : Fin (k0_t1_loop i).trips) : Fin 3 → Nat :=
  let c0_403 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c1_i32_402 : BitVec 32 := 1#32
  let v1303 : BitVec 32 := Scalar.addi v1269 c1_i32_402
  let v1304 : Index := Scalar.indexCast v1303
  let c0_404 : Index := 0#32
  ![0, v1304.toNat, 0]
def k0_off25 (i : grid0.Coords) (k0_t1 : Fin (k0_t1_loop i).trips) : Fin 4 → Nat :=
  let c1_405 : Index := 1#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1310 : BitVec 32 := Scalar.subi arg2 v1269
  let v1311 : Index := Scalar.indexCast v1310
  let c0_406 : Index := 0#32
  let c0_407 : Index := 0#32
  ![1, v1311.toNat, 0, 0]
def k0_off26 (i : grid0.Coords) (k0_t1 : Fin (k0_t1_loop i).trips) : Fin 3 → Nat :=
  let c1_408 : Index := 1#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1314 : Index := Scalar.indexCast v1269
  let c0_409 : Index := 0#32
  ![1, v1314.toNat, 0]
def k0_off27 (i : grid0.Coords) (k0_t1 : Fin (k0_t1_loop i).trips) : Fin 4 → Nat :=
  let c1_410 : Index := 1#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1319 : Index := Scalar.indexCast v1274
  let c0_411 : Index := 0#32
  let c0_412 : Index := 0#32
  ![1, v1319.toNat, 0, 0]
def k0_off28 (i : grid0.Coords) (k0_t1 : Fin (k0_t1_loop i).trips) : Fin 3 → Nat :=
  let c1_414 : Index := 1#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c1_i32_413 : BitVec 32 := 1#32
  let v1322 : BitVec 32 := Scalar.addi v1269 c1_i32_413
  let v1323 : Index := Scalar.indexCast v1322
  let c0_415 : Index := 0#32
  ![1, v1323.toNat, 0]
def k0_off29 (i : grid0.Coords) (k0_t1 : Fin (k0_t1_loop i).trips) : Fin 4 → Nat :=
  let c2_416 : Index := 2#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1329 : BitVec 32 := Scalar.subi arg2 v1269
  let v1330 : Index := Scalar.indexCast v1329
  let c0_417 : Index := 0#32
  let c0_418 : Index := 0#32
  ![2, v1330.toNat, 0, 0]
def k0_off30 (i : grid0.Coords) (k0_t1 : Fin (k0_t1_loop i).trips) : Fin 3 → Nat :=
  let c2_419 : Index := 2#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1333 : Index := Scalar.indexCast v1269
  let c0_420 : Index := 0#32
  ![2, v1333.toNat, 0]
def k0_off31 (i : grid0.Coords) (k0_t1 : Fin (k0_t1_loop i).trips) : Fin 4 → Nat :=
  let c2_421 : Index := 2#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1338 : Index := Scalar.indexCast v1274
  let c0_422 : Index := 0#32
  let c0_423 : Index := 0#32
  ![2, v1338.toNat, 0, 0]
def k0_off32 (i : grid0.Coords) (k0_t1 : Fin (k0_t1_loop i).trips) : Fin 3 → Nat :=
  let c2_425 : Index := 2#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c1_i32_424 : BitVec 32 := 1#32
  let v1341 : BitVec 32 := Scalar.addi v1269 c1_i32_424
  let v1342 : Index := Scalar.indexCast v1341
  let c0_426 : Index := 0#32
  ![2, v1342.toNat, 0]
def k0_off33 (i : grid0.Coords) (k0_t1 : Fin (k0_t1_loop i).trips) : Fin 4 → Nat :=
  let c3_427 : Index := 3#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1348 : BitVec 32 := Scalar.subi arg2 v1269
  let v1349 : Index := Scalar.indexCast v1348
  let c0_428 : Index := 0#32
  let c0_429 : Index := 0#32
  ![3, v1349.toNat, 0, 0]
def k0_off34 (i : grid0.Coords) (k0_t1 : Fin (k0_t1_loop i).trips) : Fin 3 → Nat :=
  let c3_430 : Index := 3#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1352 : Index := Scalar.indexCast v1269
  let c0_431 : Index := 0#32
  ![3, v1352.toNat, 0]
def k0_off35 (i : grid0.Coords) (k0_t1 : Fin (k0_t1_loop i).trips) : Fin 4 → Nat :=
  let c3_432 : Index := 3#32
  let arg2 : BitVec 32 := BitVec.ofNat 32 (i 2).val
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1357 : Index := Scalar.indexCast v1274
  let c0_433 : Index := 0#32
  let c0_434 : Index := 0#32
  ![3, v1357.toNat, 0, 0]
def k0_off36 (i : grid0.Coords) (k0_t1 : Fin (k0_t1_loop i).trips) : Fin 3 → Nat :=
  let c3_436 : Index := 3#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c1_i32_435 : BitVec 32 := 1#32
  let v1360 : BitVec 32 := Scalar.addi v1269 c1_i32_435
  let v1361 : Index := Scalar.indexCast v1360
  let c0_437 : Index := 0#32
  ![3, v1361.toNat, 0]
def k0_off37 (i : grid0.Coords) (k0_t1 : Fin (k0_t1_loop i).trips) : Fin 3 → Nat :=
  let c0_450 : Index := 0#32
  let c0_451 : Index := 0#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1427 : Index := Scalar.indexCast v1271
  ![0, 0, v1427.toNat]
def k0_off38 (i : grid0.Coords) (k0_t1 : Fin (k0_t1_loop i).trips) : Fin 3 → Nat :=
  let c0_453 : Index := 0#32
  let c128_454 : Index := 128#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1432 : Index := Scalar.indexCast v1271
  ![0, 128, v1432.toNat]
def k0_off39 (i : grid0.Coords) (k0_t1 : Fin (k0_t1_loop i).trips) : Fin 3 → Nat :=
  let c0_456 : Index := 0#32
  let c256_457 : Index := 256#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1437 : Index := Scalar.indexCast v1271
  ![0, 256, v1437.toNat]
def k0_off40 (i : grid0.Coords) (k0_t1 : Fin (k0_t1_loop i).trips) : Fin 3 → Nat :=
  let c0_459 : Index := 0#32
  let c384_460 : Index := 384#32
  let c2_i32_378 : BitVec 32 := 2#32
  let c0_i32_362 : BitVec 32 := 0#32
  let c1_i32_364 : BitVec 32 := 1#32
  let arg12 : BitVec 32 := Scf.iv c0_i32_362 c1_i32_364 k0_t1
  let v1269 : BitVec 32 := Scalar.muli c2_i32_378 arg12
  let c256_i32_379 : BitVec 32 := 256#32
  let v1270 : BitVec 32 := Scalar.muli v1269 c256_i32_379
  let v1271 : BitVec 32 := v1270
  let v1442 : Index := Scalar.indexCast v1271
  ![0, 384, v1442.toNat]
@[reducible] def k0_t2_loop (i : grid0.Coords) : Scf.Loop 32 :=
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let v1235 : BitVec 32 := Scalar.addi c0_i32_362 v1234
  let c1_i32_365 : BitVec 32 := 1#32
  ⟨v1238, v1235, c1_i32_365⟩
def k0_mult4 (i : grid0.Coords) (k0_t2 : Fin (k0_t2_loop i).trips) : BitVec 32 :=
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  v1270
def k0_off41 (i : grid0.Coords) (k0_t2 : Fin (k0_t2_loop i).trips) : Fin 3 → Nat :=
  let c0_382 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1275 : Index := Scalar.indexCast v1271
  let c0_383 : Index := 0#32
  ![0, v1275.toNat, 0]
def k0_off42 (i : grid0.Coords) (k0_t2 : Fin (k0_t2_loop i).trips) : Fin 3 → Nat :=
  let c0_385 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1279 : Index := Scalar.indexCast v1271
  let c128_386 : Index := 128#32
  ![0, v1279.toNat, 128]
def k0_off43 (i : grid0.Coords) (k0_t2 : Fin (k0_t2_loop i).trips) : Fin 3 → Nat :=
  let c0_388 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1283 : Index := Scalar.indexCast v1271
  let c256_389 : Index := 256#32
  ![0, v1283.toNat, 256]
def k0_off44 (i : grid0.Coords) (k0_t2 : Fin (k0_t2_loop i).trips) : Fin 3 → Nat :=
  let c0_391 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1287 : Index := Scalar.indexCast v1271
  let c384_392 : Index := 384#32
  ![0, v1287.toNat, 384]
def k0_off45 (i : grid0.Coords) (k0_t2 : Fin (k0_t2_loop i).trips) : Fin 4 → Nat :=
  let c0_394 : Index := 0#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1291 : BitVec 32 := Scalar.subi arg2 v1269
  let v1292 : Index := Scalar.indexCast v1291
  let c0_395 : Index := 0#32
  let c0_396 : Index := 0#32
  ![0, v1292.toNat, 0, 0]
def k0_off46 (i : grid0.Coords) (k0_t2 : Fin (k0_t2_loop i).trips) : Fin 3 → Nat :=
  let c0_397 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1295 : Index := Scalar.indexCast v1269
  let c0_398 : Index := 0#32
  ![0, v1295.toNat, 0]
def k0_off47 (i : grid0.Coords) (k0_t2 : Fin (k0_t2_loop i).trips) : Fin 4 → Nat :=
  let c0_399 : Index := 0#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1300 : Index := Scalar.indexCast v1274
  let c0_400 : Index := 0#32
  let c0_401 : Index := 0#32
  ![0, v1300.toNat, 0, 0]
def k0_off48 (i : grid0.Coords) (k0_t2 : Fin (k0_t2_loop i).trips) : Fin 3 → Nat :=
  let c0_403 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c1_i32_402 : BitVec 32 := 1#32
  let v1303 : BitVec 32 := Scalar.addi v1269 c1_i32_402
  let v1304 : Index := Scalar.indexCast v1303
  let c0_404 : Index := 0#32
  ![0, v1304.toNat, 0]
def k0_off49 (i : grid0.Coords) (k0_t2 : Fin (k0_t2_loop i).trips) : Fin 4 → Nat :=
  let c1_405 : Index := 1#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1310 : BitVec 32 := Scalar.subi arg2 v1269
  let v1311 : Index := Scalar.indexCast v1310
  let c0_406 : Index := 0#32
  let c0_407 : Index := 0#32
  ![1, v1311.toNat, 0, 0]
def k0_off50 (i : grid0.Coords) (k0_t2 : Fin (k0_t2_loop i).trips) : Fin 3 → Nat :=
  let c1_408 : Index := 1#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1314 : Index := Scalar.indexCast v1269
  let c0_409 : Index := 0#32
  ![1, v1314.toNat, 0]
def k0_off51 (i : grid0.Coords) (k0_t2 : Fin (k0_t2_loop i).trips) : Fin 4 → Nat :=
  let c1_410 : Index := 1#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1319 : Index := Scalar.indexCast v1274
  let c0_411 : Index := 0#32
  let c0_412 : Index := 0#32
  ![1, v1319.toNat, 0, 0]
def k0_off52 (i : grid0.Coords) (k0_t2 : Fin (k0_t2_loop i).trips) : Fin 3 → Nat :=
  let c1_414 : Index := 1#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c1_i32_413 : BitVec 32 := 1#32
  let v1322 : BitVec 32 := Scalar.addi v1269 c1_i32_413
  let v1323 : Index := Scalar.indexCast v1322
  let c0_415 : Index := 0#32
  ![1, v1323.toNat, 0]
def k0_off53 (i : grid0.Coords) (k0_t2 : Fin (k0_t2_loop i).trips) : Fin 4 → Nat :=
  let c2_416 : Index := 2#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1329 : BitVec 32 := Scalar.subi arg2 v1269
  let v1330 : Index := Scalar.indexCast v1329
  let c0_417 : Index := 0#32
  let c0_418 : Index := 0#32
  ![2, v1330.toNat, 0, 0]
def k0_off54 (i : grid0.Coords) (k0_t2 : Fin (k0_t2_loop i).trips) : Fin 3 → Nat :=
  let c2_419 : Index := 2#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1333 : Index := Scalar.indexCast v1269
  let c0_420 : Index := 0#32
  ![2, v1333.toNat, 0]
def k0_off55 (i : grid0.Coords) (k0_t2 : Fin (k0_t2_loop i).trips) : Fin 4 → Nat :=
  let c2_421 : Index := 2#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1338 : Index := Scalar.indexCast v1274
  let c0_422 : Index := 0#32
  let c0_423 : Index := 0#32
  ![2, v1338.toNat, 0, 0]
def k0_off56 (i : grid0.Coords) (k0_t2 : Fin (k0_t2_loop i).trips) : Fin 3 → Nat :=
  let c2_425 : Index := 2#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c1_i32_424 : BitVec 32 := 1#32
  let v1341 : BitVec 32 := Scalar.addi v1269 c1_i32_424
  let v1342 : Index := Scalar.indexCast v1341
  let c0_426 : Index := 0#32
  ![2, v1342.toNat, 0]
def k0_off57 (i : grid0.Coords) (k0_t2 : Fin (k0_t2_loop i).trips) : Fin 4 → Nat :=
  let c3_427 : Index := 3#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1348 : BitVec 32 := Scalar.subi arg2 v1269
  let v1349 : Index := Scalar.indexCast v1348
  let c0_428 : Index := 0#32
  let c0_429 : Index := 0#32
  ![3, v1349.toNat, 0, 0]
def k0_off58 (i : grid0.Coords) (k0_t2 : Fin (k0_t2_loop i).trips) : Fin 3 → Nat :=
  let c3_430 : Index := 3#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1352 : Index := Scalar.indexCast v1269
  let c0_431 : Index := 0#32
  ![3, v1352.toNat, 0]
def k0_off59 (i : grid0.Coords) (k0_t2 : Fin (k0_t2_loop i).trips) : Fin 4 → Nat :=
  let c3_432 : Index := 3#32
  let arg2 : BitVec 32 := BitVec.ofNat 32 (i 2).val
  let c2_i32_378 : BitVec 32 := 2#32
  let c0_i32_362 : BitVec 32 := 0#32
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let v1272 : BitVec 32 := Scalar.subi arg2 v1269
  let c1_i32_380 : BitVec 32 := 1#32
  let v1273 : BitVec 32 := Scalar.subi v1272 c1_i32_380
  let c0_i32_381 : BitVec 32 := 0#32
  let v1274 : BitVec 32 := Scalar.maxsi v1273 c0_i32_381
  let v1357 : Index := Scalar.indexCast v1274
  let c0_433 : Index := 0#32
  let c0_434 : Index := 0#32
  ![3, v1357.toNat, 0, 0]
def k0_off60 (i : grid0.Coords) (k0_t2 : Fin (k0_t2_loop i).trips) : Fin 3 → Nat :=
  let c3_436 : Index := 3#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c1_i32_435 : BitVec 32 := 1#32
  let v1360 : BitVec 32 := Scalar.addi v1269 c1_i32_435
  let v1361 : Index := Scalar.indexCast v1360
  let c0_437 : Index := 0#32
  ![3, v1361.toNat, 0]
def k0_off61 (i : grid0.Coords) (k0_t2 : Fin (k0_t2_loop i).trips) : Fin 3 → Nat :=
  let c0_450 : Index := 0#32
  let c0_451 : Index := 0#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1427 : Index := Scalar.indexCast v1271
  ![0, 0, v1427.toNat]
def k0_off62 (i : grid0.Coords) (k0_t2 : Fin (k0_t2_loop i).trips) : Fin 3 → Nat :=
  let c0_453 : Index := 0#32
  let c128_454 : Index := 128#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1432 : Index := Scalar.indexCast v1271
  ![0, 128, v1432.toNat]
def k0_off63 (i : grid0.Coords) (k0_t2 : Fin (k0_t2_loop i).trips) : Fin 3 → Nat :=
  let c0_456 : Index := 0#32
  let c256_457 : Index := 256#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1437 : Index := Scalar.indexCast v1271
  ![0, 256, v1437.toNat]
def k0_off64 (i : grid0.Coords) (k0_t2 : Fin (k0_t2_loop i).trips) : Fin 3 → Nat :=
  let c0_459 : Index := 0#32
  let c384_460 : Index := 384#32
  let c2_i32_378 : BitVec 32 := 2#32
  let c0_i32_362 : BitVec 32 := 0#32
  let arg2 : BitVec 32 := BitVec.ofNat 32 (i 2).val
  let c1_i32_354 : BitVec 32 := 1#32
  let v1216 : BitVec 32 := Scalar.addi arg2 c1_i32_354
  let c0_i32_356 : BitVec 32 := 0#32
  let v1218 : BitVec 1 := Scalar.cmpi .sgt v1216 c0_i32_356
  let v1219 : BitVec 32 := Scalar.extui v1218
  let c0_i32_357 : BitVec 32 := 0#32
  let v1220 : BitVec 1 := Scalar.cmpi .slt v1216 c0_i32_357
  let v1221 : BitVec 32 := Scalar.extui v1220
  let v1222 : BitVec 32 := Scalar.subi v1219 v1221
  let c2_i32_355 : BitVec 32 := 2#32
  let c0_i32_358 : BitVec 32 := 0#32
  let v1223 : BitVec 1 := Scalar.cmpi .sgt c2_i32_355 c0_i32_358
  let v1224 : BitVec 32 := Scalar.extui v1223
  let c0_i32_359 : BitVec 32 := 0#32
  let v1225 : BitVec 1 := Scalar.cmpi .slt c2_i32_355 c0_i32_359
  let v1226 : BitVec 32 := Scalar.extui v1225
  let v1227 : BitVec 32 := Scalar.subi v1224 v1226
  let v1228 : BitVec 1 := Scalar.cmpi .ne v1222 v1227
  let v1229 : BitVec 32 := Scalar.remsi v1216 c2_i32_355
  let c0_i32_360 : BitVec 32 := 0#32
  let v1230 : BitVec 1 := Scalar.cmpi .ne v1229 c0_i32_360
  let v1231 : BitVec 1 := Scalar.andi v1228 v1230
  let v1217 : BitVec 32 := Scalar.divsi v1216 c2_i32_355
  let c1_i32_361 : BitVec 32 := 1#32
  let v1232 : BitVec 32 := Scalar.subi v1217 c1_i32_361
  let v1233 : BitVec 32 := Scalar.select v1231 v1232 v1217
  let v1234 : BitVec 32 := Scalar.subi v1233 c0_i32_362
  let c1_i32_363 : BitVec 32 := 1#32
  let v1236 : BitVec 32 := Scalar.divsi v1234 c1_i32_363
  let v1237 : BitVec 32 := Scalar.muli v1236 c1_i32_363
  let v1238 : BitVec 32 := Scalar.addi c0_i32_362 v1237
  let c1_i32_365 : BitVec 32 := 1#32
  let arg12 : BitVec 32 := Scf.iv v1238 c1_i32_365 k0_t2
  let v1269 : BitVec 32 := Scalar.muli c2_i32_378 arg12
  let c256_i32_379 : BitVec 32 := 256#32
  let v1270 : BitVec 32 := Scalar.muli v1269 c256_i32_379
  let v1271 : BitVec 32 := v1270
  let v1442 : Index := Scalar.indexCast v1271
  ![0, 384, v1442.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S4x1x4352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x1x4352 : Shape := ⟨3, ![16, 1, 4352]⟩
abbrev S2x4096x2048 : Shape := ⟨3, ![2, 4096, 2048]⟩
abbrev S2x2048x4096 : Shape := ⟨3, ![2, 2048, 4096]⟩
abbrev S2x16x1x2048 : Shape := ⟨4, ![2, 16, 1, 2048]⟩
abbrev S2x4096x16x128 : Shape := ⟨4, ![2, 4096, 16, 128]⟩
abbrev S2x16x4096x128 : Shape := ⟨4, ![2, 16, 4096, 128]⟩
abbrev S2x16x16x128 : Shape := ⟨4, ![2, 16, 16, 128]⟩
abbrev S4096 : Shape := ⟨1, ![4096]⟩
abbrev S_ : Shape := ⟨0, ![]⟩
abbrev S2x16x4096x16 : Shape := ⟨4, ![2, 16, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S2x16x4096x3 : Shape := ⟨4, ![2, 16, 4096, 3]⟩
abbrev S3 : Shape := ⟨1, ![3]⟩
abbrev S1x3 : Shape := ⟨2, ![1, 3]⟩
abbrev S4096x3 : Shape := ⟨2, ![4096, 3]⟩
abbrev S4096x1x3 : Shape := ⟨3, ![4096, 1, 3]⟩
abbrev S2x16x4096x1x3 : Shape := ⟨5, ![2, 16, 4096, 1, 3]⟩
abbrev S16x1 : Shape := ⟨2, ![16, 1]⟩
abbrev S1x1x1x16x1 : Shape := ⟨5, ![1, 1, 1, 16, 1]⟩
abbrev S2x16x4096x16x3 : Shape := ⟨5, ![2, 16, 4096, 16, 3]⟩
abbrev S1x1x4096x1x3 : Shape := ⟨5, ![1, 1, 4096, 1, 3]⟩
abbrev S1x4096 : Shape := ⟨2, ![1, 4096]⟩
abbrev S4096x4096 : Shape := ⟨2, ![4096, 4096]⟩
abbrev S2x16x4096x16x1 : Shape := ⟨5, ![2, 16, 4096, 16, 1]⟩
abbrev S2x16x4096x16x256 : Shape := ⟨5, ![2, 16, 4096, 16, 256]⟩
abbrev S2x16x4096x4096 : Shape := ⟨4, ![2, 16, 4096, 4096]⟩
abbrev S16x4352 : Shape := ⟨2, ![16, 4352]⟩
abbrev S4096x4096x1 : Shape := ⟨3, ![4096, 4096, 1]⟩
abbrev S1 : Shape := ⟨1, ![1]⟩
abbrev S1x1x1 : Shape := ⟨3, ![1, 1, 1]⟩
abbrev S16x4096x4096 : Shape := ⟨3, ![16, 4096, 4096]⟩
abbrev S1x16x4096x4096 : Shape := ⟨4, ![1, 16, 4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩

abbrev nBuf : Space → Nat
  | .hbm => 188
  | .vmem => 0
  | .smem => 0
  | _ => 0

abbrev hbmTy0_0 (i : Nat) : BufTy := match i % 128 with
  | 0 => ⟨S16x1x4352, .f32⟩
  | 1 => ⟨S2x4096x2048, .bf16⟩
  | 2 => ⟨S2x4096x2048, .bf16⟩
  | 3 => ⟨S2x2048x4096, .bf16⟩
  | 4 => ⟨S2x16x1x2048, .f32⟩
  | 5 => ⟨S2x4096x2048, .f32⟩
  | 6 => ⟨S2x4096x16x128, .f32⟩
  | 7 => ⟨S2x16x4096x128, .f32⟩
  | 8 => ⟨S2x4096x2048, .f32⟩
  | 9 => ⟨S2x4096x16x128, .f32⟩
  | 10 => ⟨S2x16x4096x128, .f32⟩
  | 11 => ⟨S2x4096x2048, .bf16⟩
  | 12 => ⟨S2x4096x2048, .f32⟩
  | 13 => ⟨S2x4096x16x128, .f32⟩
  | 14 => ⟨S2x16x4096x128, .f32⟩
  | 15 => ⟨S2x16x16x128, .f32⟩
  | 16 => ⟨S2x16x16x128, .f32⟩
  | 17 => ⟨S4096, .i32⟩
  | 18 => ⟨S_, .i32⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S4096, .i32⟩
  | 27 => ⟨S4096, .i32⟩
  | 28 => ⟨S_, .i32⟩
  | 29 => ⟨S4096, .i32⟩
  | 30 => ⟨S4096, .i1⟩
  | 31 => ⟨S4096, .i1⟩
  | 32 => ⟨S_, .i32⟩
  | 33 => ⟨S4096, .i32⟩
  | 34 => ⟨S4096, .i32⟩
  | 35 => ⟨S4096, .i32⟩
  | 36 => ⟨S2x16x4096x16, .f32⟩
  | 37 => ⟨S16, .i32⟩
  | 38 => ⟨S1x16, .i32⟩
  | 39 => ⟨S4096x1, .i32⟩
  | 40 => ⟨S4096x16, .i32⟩
  | 41 => ⟨S4096x16, .i32⟩
  | 42 => ⟨S4096x16, .i1⟩
  | 43 => ⟨S_, .f32⟩
  | 44 => ⟨S_, .f32⟩
  | 45 => ⟨S2x16x4096x16, .i1⟩
  | 46 => ⟨S2x16x4096x16, .f32⟩
  | 47 => ⟨S2x16x4096x16, .f32⟩
  | 48 => ⟨S2x16x4096x3, .f32⟩
  | 49 => ⟨S2x16x4096x3, .i32⟩
  | 50 => ⟨S3, .i32⟩
  | 51 => ⟨S1x3, .i32⟩
  | 52 => ⟨S_, .i32⟩
  | 53 => ⟨S4096, .i32⟩
  | 54 => ⟨S4096, .i32⟩
  | 55 => ⟨S4096x1, .i32⟩
  | 56 => ⟨S4096x3, .i32⟩
  | 57 => ⟨S4096x3, .i32⟩
  | 58 => ⟨S4096x3, .i1⟩
  | 59 => ⟨S4096x1x3, .i1⟩
  | 60 => ⟨S2x16x4096x1x3, .i32⟩
  | 61 => ⟨S16, .i32⟩
  | 62 => ⟨S16x1, .i32⟩
  | 63 => ⟨S1x1x1x16x1, .i32⟩
  | 64 => ⟨S2x16x4096x16x3, .i32⟩
  | 65 => ⟨S2x16x4096x16x3, .i32⟩
  | 66 => ⟨S2x16x4096x16x3, .i1⟩
  | 67 => ⟨S1x1x4096x1x3, .i1⟩
  | 68 => ⟨S2x16x4096x16x3, .i1⟩
  | 69 => ⟨S2x16x4096x16x3, .i1⟩
  | 70 => ⟨S_, .i1⟩
  | 71 => ⟨S2x16x4096x16, .i1⟩
  | 72 => ⟨S4096x1, .i32⟩
  | 73 => ⟨S1x4096, .i32⟩
  | 74 => ⟨S_, .i32⟩
  | 75 => ⟨S_, .i32⟩
  | 76 => ⟨S4096x1, .i32⟩
  | 77 => ⟨S4096x1, .i32⟩
  | 78 => ⟨S4096x1, .i32⟩
  | 79 => ⟨S_, .i32⟩
  | 80 => ⟨S4096x1, .i32⟩
  | 81 => ⟨S4096x1, .i1⟩
  | 82 => ⟨S4096x1, .i32⟩
  | 83 => ⟨S4096x1, .i32⟩
  | 84 => ⟨S_, .i32⟩
  | 85 => ⟨S4096x1, .i32⟩
  | 86 => ⟨S4096x1, .i1⟩
  | 87 => ⟨S4096x1, .i1⟩
  | 88 => ⟨S_, .i32⟩
  | 89 => ⟨S4096x1, .i32⟩
  | 90 => ⟨S4096x1, .i32⟩
  | 91 => ⟨S4096x1, .i32⟩
  | 92 => ⟨S_, .i32⟩
  | 93 => ⟨S_, .i32⟩
  | 94 => ⟨S1x4096, .i32⟩
  | 95 => ⟨S1x4096, .i32⟩
  | 96 => ⟨S1x4096, .i32⟩
  | 97 => ⟨S_, .i32⟩
  | 98 => ⟨S1x4096, .i32⟩
  | 99 => ⟨S1x4096, .i1⟩
  | 100 => ⟨S1x4096, .i32⟩
  | 101 => ⟨S1x4096, .i32⟩
  | 102 => ⟨S_, .i32⟩
  | 103 => ⟨S1x4096, .i32⟩
  | 104 => ⟨S1x4096, .i1⟩
  | 105 => ⟨S1x4096, .i1⟩
  | 106 => ⟨S_, .i32⟩
  | 107 => ⟨S1x4096, .i32⟩
  | 108 => ⟨S1x4096, .i32⟩
  | 109 => ⟨S1x4096, .i32⟩
  | 110 => ⟨S4096x4096, .i32⟩
  | 111 => ⟨S4096x4096, .i32⟩
  | 112 => ⟨S4096x4096, .i1⟩
  | 113 => ⟨S4096x4096, .i32⟩
  | 114 => ⟨S4096x4096, .i32⟩
  | 115 => ⟨S4096x4096, .i1⟩
  | 116 => ⟨S4096x4096, .i1⟩
  | 117 => ⟨S2x16x4096x16x1, .i1⟩
  | 118 => ⟨S2x16x4096x16x256, .i1⟩
  | 119 => ⟨S2x16x4096x4096, .i1⟩
  | 120 => ⟨S4096x4096, .i32⟩
  | 121 => ⟨S4096x4096, .i32⟩
  | 122 => ⟨S4096x4096, .i32⟩
  | 123 => ⟨S16x4352, .f32⟩
  | 124 => ⟨S_, .i32⟩
  | 125 => ⟨S4096x4096, .i32⟩
  | 126 => ⟨S4096x4096, .i32⟩
  | 127 => ⟨S_, .i32⟩
  | _ => ⟨S16x1x4352, .f32⟩

abbrev hbmTy0_1 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S_, .i32⟩
  | 6 => ⟨S4096x4096, .i32⟩
  | 7 => ⟨S4096x4096, .i1⟩
  | 8 => ⟨S_, .i32⟩
  | 9 => ⟨S4096x4096, .i32⟩
  | 10 => ⟨S4096x4096, .i32⟩
  | 11 => ⟨S4096x4096, .i32⟩
  | 12 => ⟨S4096x4096x1, .i32⟩
  | 13 => ⟨S1, .i32⟩
  | 14 => ⟨S_, .i32⟩
  | 15 => ⟨S4096x4096x1, .i32⟩
  | 16 => ⟨S4096x4096x1, .i1⟩
  | 17 => ⟨S1x1x1, .i32⟩
  | 18 => ⟨S4096x4096x1, .i32⟩
  | 19 => ⟨S4096x4096x1, .i1⟩
  | 20 => ⟨S4096x4096x1, .i1⟩
  | 21 => ⟨S_, .i1⟩
  | 22 => ⟨S4096x4096, .i1⟩
  | 23 => ⟨S16x4096x4096, .f32⟩
  | 24 => ⟨S16x4096x4096, .i1⟩
  | 25 => ⟨S_, .f32⟩
  | 26 => ⟨S16x4096x4096, .f32⟩
  | 27 => ⟨S16x4096x4096, .f32⟩
  | 28 => ⟨S2x16x4096x4096, .f32⟩
  | 29 => ⟨S_, .f32⟩
  | 30 => ⟨S2x16x4096x4096, .f32⟩
  | 31 => ⟨S2x16x4096x4096, .f32⟩
  | 32 => ⟨S1x16x4096x4096, .f32⟩
  | 33 => ⟨S2x16x4096x4096, .f32⟩
  | 34 => ⟨S2x16x4096x4096, .f32⟩
  | 35 => ⟨S1x1x4096x4096, .i1⟩
  | 36 => ⟨S2x16x4096x4096, .i1⟩
  | 37 => ⟨S2x16x4096x4096, .i1⟩
  | 38 => ⟨S_, .f32⟩
  | 39 => ⟨S_, .f32⟩
  | 40 => ⟨S2x16x4096x4096, .f32⟩
  | 41 => ⟨S2x16x4096x4096, .f32⟩
  | 42 => ⟨S_, .f32⟩
  | 43 => ⟨S2x16x4096, .f32⟩
  | 44 => ⟨S_, .f32⟩
  | 45 => ⟨S2x16x4096, .f32⟩
  | 46 => ⟨S2x16x4096, .f32⟩
  | 47 => ⟨S2x16x4096x1, .f32⟩
  | 48 => ⟨S2x16x4096x4096, .f32⟩
  | 49 => ⟨S2x16x4096x4096, .f32⟩
  | 50 => ⟨S2x16x4096x4096, .f32⟩
  | 51 => ⟨S_, .f32⟩
  | 52 => ⟨S2x16x4096, .f32⟩
  | 53 => ⟨S2x16x4096x1, .f32⟩
  | 54 => ⟨S2x16x4096x4096, .f32⟩
  | 55 => ⟨S2x16x4096x4096, .f32⟩
  | 56 => ⟨S2x16x4096x128, .f32⟩
  | 57 => ⟨S2x4096x16x128, .f32⟩
  | 58 => ⟨S2x4096x2048, .f32⟩
  | 59 => ⟨S2x4096x2048, .bf16⟩
  | _ => ⟨S16x1x4352, .f32⟩

abbrev hbmTy (i : Nat) : BufTy := match i / 128 with
  | 0 => hbmTy0_0 i
  | 1 => hbmTy0_1 i
  | _ => ⟨S16x1x4352, .f32⟩

abbrev bufTy : (tb : Table) → Fin (tcTables nBuf tb) → BufTy
  | .hbm, ⟨i, _⟩ => hbmTy i
  | _, _ => ⟨S16x1x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v21 : Ref sig .tc := ⟨.hbm, 47, rfl⟩
abbrev main_values : Ref sig .tc := ⟨.hbm, 48, rfl⟩
abbrev main_indices : Ref sig .tc := ⟨.hbm, 49, rfl⟩
abbrev main_v22 : Ref sig .tc := ⟨.hbm, 50, rfl⟩
abbrev main_v23 : Ref sig .tc := ⟨.hbm, 51, rfl⟩
abbrev main_c_0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_2 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v44 : Ref sig .tc := ⟨.hbm, 91, rfl⟩
abbrev main_c_3 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_c : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_0 : Ref sig .tc := ⟨.hbm, 106, rfl⟩
abbrev main_call3_v12 : Ref sig .tc := ⟨.hbm, 107, rfl⟩
abbrev main_call3_v13 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_c_4 : Ref sig .tc := ⟨.hbm, 124, rfl⟩
abbrev main_v60 : Ref sig .tc := ⟨.hbm, 125, rfl⟩
abbrev main_v61 : Ref sig .tc := ⟨.hbm, 126, rfl⟩
abbrev main_c_5 : Ref sig .tc := ⟨.hbm, 127, rfl⟩
abbrev main_v62 : Ref sig .tc := ⟨.hbm, 128, rfl⟩
abbrev main_v63 : Ref sig .tc := ⟨.hbm, 129, rfl⟩
abbrev main_c_6 : Ref sig .tc := ⟨.hbm, 130, rfl⟩
abbrev main_v64 : Ref sig .tc := ⟨.hbm, 131, rfl⟩
abbrev main_v65 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v66 : Ref sig .tc := ⟨.hbm, 155, rfl⟩
abbrev main_v67 : Ref sig .tc := ⟨.hbm, 156, rfl⟩
abbrev main_cst_7 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_cst_8 : Ref sig .tc := ⟨.hbm, 166, rfl⟩
abbrev main_call5_v0 : Ref sig .tc := ⟨.hbm, 167, rfl⟩
abbrev main_call5_v1 : Ref sig .tc := ⟨.hbm, 168, rfl⟩
abbrev main_v76 : Ref sig .tc := ⟨.hbm, 169, rfl⟩
abbrev main_cst_9 : Ref sig .tc := ⟨.hbm, 170, rfl⟩
abbrev main_v77 : Ref sig .tc := ⟨.hbm, 171, rfl⟩
abbrev main_cst_10 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_cst_11 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S8192x8192 : Shape := ⟨2, ![8192, 8192]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S1x2048, .f32⟩
  | .hbm, ⟨4, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x12288 : Shape := ⟨2, ![2048, 12288]⟩
abbrev S1x2048 : Shape := ⟨2, ![1, 2048]⟩
abbrev S8192x12288 : Shape := ⟨2, ![8192, 12288]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x12288, .bf16⟩
  | .hbm, ⟨3, _⟩ => ⟨S1x2048, .f32⟩
  | .hbm, ⟨4, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x12288 : Shape := ⟨2, ![2048, 12288]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x12288 : Shape := ⟨2, ![8192, 12288]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x12288, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x12288, .f32⟩
  | .hbm, ⟨20, _⟩ => ⟨S8192x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x6144 : Shape := ⟨2, ![2048, 6144]⟩
abbrev S1x2048 : Shape := ⟨2, ![1, 2048]⟩
abbrev S8192x6144 : Shape := ⟨2, ![8192, 6144]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .bf16⟩
  | .hbm, ⟨3, _⟩ => ⟨S1x2048, .f32⟩
  | .hbm, ⟨4, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S2048x6144 : Shape := ⟨2, ![2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6144, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6144, .f32⟩
  | .hbm, ⟨20, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2x4096x6144 : Shape := ⟨3, ![2, 4096, 6144]⟩
abbrev S128 : Shape := ⟨1, ![128]⟩
abbrev S1x128 : Shape := ⟨2, ![1, 128]⟩
abbrev S2x4096x2048 : Shape := ⟨3, ![2, 4096, 2048]⟩
abbrev S2x2048x4096 : Shape := ⟨3, ![2, 2048, 4096]⟩
abbrev S2x16x1x2048 : Shape := ⟨4, ![2, 16, 1, 2048]⟩
abbrev S1x256x2048 : Shape := ⟨3, ![1, 256, 2048]⟩
abbrev S1x2048x256 : Shape := ⟨3, ![1, 2048, 256]⟩
abbrev S1x1x1x2048 : Shape := ⟨4, ![1, 1, 1, 2048]⟩
abbrev S256x2048 : Shape := ⟨2, ![256, 2048]⟩
abbrev S2048x256 : Shape := ⟨2, ![2048, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x1x1x128 : Shape := ⟨4, ![1, 1, 1, 128]⟩

abbrev nBuf : Space → Nat
  | .hbm => 10
  | .vmem => 18
  | .smem => 0
  | _ => 0

abbrev bufTy : (tb : Table) → Fin (tcTables nBuf tb) → BufTy
  | .hbm, ⟨0, _⟩ => ⟨S2x4096x6144, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S2x4096x2048, .f32⟩
  | .hbm, ⟨6, _⟩ => ⟨S2x4096x2048, .bf16⟩
  | .hbm, ⟨7, _⟩ => ⟨S2x4096x2048, .bf16⟩
  | .hbm, ⟨8, _⟩ => ⟨S2x2048x4096, .bf16⟩
  | .hbm, ⟨9, _⟩ => ⟨S2x16x1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128, .f32⟩
  | .local _ .vmem, ⟨7, _⟩ => ⟨S1x128, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x1x1x2048, .f32⟩
  | .local _ .vmem, ⟨17, _⟩ => ⟨S1x1x1x2048, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S2x4096x6144 : Shape := ⟨3, ![2, 4096, 6144]⟩
abbrev S128 : Shape := ⟨1, ![128]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S2x4096x2048 : Shape := ⟨3, ![2, 4096, 2048]⟩
abbrev S2x16x256x2048 : Shape := ⟨4, ![2, 16, 256, 2048]⟩
abbrev S2x16x2048 : Shape := ⟨3, ![2, 16, 2048]⟩
abbrev S2x2048x4096 : Shape := ⟨3, ![2, 2048, 4096]⟩
abbrev S2x16x1x2048 : Shape := ⟨4, ![2, 16, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x6144, .f32⟩
  | .hbm, ⟨1, _⟩ => ⟨S128, .f32⟩
  | .hbm, ⟨2, _⟩ => ⟨S128, .f32⟩
  | .hbm, ⟨3, _⟩ => ⟨S2x4096x3x16x128, .f32⟩
  | .hbm, ⟨4, _⟩ => ⟨S2x4096x1x16x128, .f32⟩
  | .hbm, ⟨5, _⟩ => ⟨S2x4096x16x128, .f32⟩
  | .hbm, ⟨6, _⟩ => ⟨S2x4096x16x128, .f32⟩
  | .hbm, ⟨7, _⟩ => ⟨S_, .f32⟩
  | .hbm, ⟨8, _⟩ => ⟨S2x4096x16, .f32⟩
  | .hbm, ⟨9, _⟩ => ⟨S2x4096x16x1, .f32⟩
  | .hbm, ⟨10, _⟩ => ⟨S_, .f32⟩
  | .hbm, ⟨11, _⟩ => ⟨S2x4096x16x1, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S2x4096x16x1, .f32⟩
  | .hbm, ⟨17, _⟩ => ⟨S2x4096x16x128, .f32⟩
  | .hbm, ⟨18, _⟩ => ⟨S2x4096x16x128, .f32⟩
  | .hbm, ⟨19, _⟩ => ⟨S1x1x1x128, .f32⟩
  | .hbm, ⟨20, _⟩ => ⟨S2x4096x16x128, .f32⟩
  | .hbm, ⟨21, _⟩ => ⟨S2x4096x16x128, .f32⟩
  | .hbm, ⟨22, _⟩ => ⟨S2x4096x2048, .f32⟩
  | .hbm, ⟨23, _⟩ => ⟨S2x4096x1x16x128, .f32⟩
  | .hbm, ⟨24, _⟩ => ⟨S2x4096x16x128, .f32⟩
  | .hbm, ⟨25, _⟩ => ⟨S2x4096x16x128, .f32⟩
  | .hbm, ⟨26, _⟩ => ⟨S_, .f32⟩
  | .hbm, ⟨27, _⟩ => ⟨S2x4096x16, .f32⟩
  | .hbm, ⟨28, _⟩ => ⟨S2x4096x16x1, .f32⟩
  | .hbm, ⟨29, _⟩ => ⟨S_, .f32⟩
  | .hbm, ⟨30, _⟩ => ⟨S2x4096x16x1, .f32⟩
  | .hbm, ⟨31, _⟩ => ⟨S2x4096x16x1, .f32⟩
  | .hbm, ⟨32, _⟩ => ⟨S_, .f32⟩
  | .hbm, ⟨33, _⟩ => ⟨S2x4096x16x1, .f32⟩
  | .hbm, ⟨34, _⟩ => ⟨S2x4096x16x1, .f32⟩
  | .hbm, ⟨35, _⟩ => ⟨S2x4096x16x1, .f32⟩
  | .hbm, ⟨36, _⟩ => ⟨S2x4096x16x128, .f32⟩
  | .hbm, ⟨37, _⟩ => ⟨S2x4096x16x128, .f32⟩
  | .hbm, ⟨38, _⟩ => ⟨S1x1x1x128, .f32⟩
  | .hbm, ⟨39, _⟩ => ⟨S2x4096x16x128, .f32⟩
  | .hbm, ⟨40, _⟩ => ⟨S2x4096x16x128, .f32⟩
  | .hbm, ⟨41, _⟩ => ⟨S2x4096x2048, .f32⟩
  | .hbm, ⟨42, _⟩ => ⟨S2x4096x1x16x128, .f32⟩
  | .hbm, ⟨43, _⟩ => ⟨S2x4096x16x128, .f32⟩
  | .hbm, ⟨44, _⟩ => ⟨S2x4096x2048, .f32⟩
  | .hbm, ⟨45, _⟩ => ⟨S2x16x256x2048, .f32⟩
  | .hbm, ⟨46, _⟩ => ⟨S_, .f32⟩
  | .hbm, ⟨47, _⟩ => ⟨S2x16x2048, .f32⟩
  | .hbm, ⟨48, _⟩ => ⟨S_, .f32⟩
  | .hbm, ⟨49, _⟩ => ⟨S2x16x2048, .f32⟩
  | .hbm, ⟨50, _⟩ => ⟨S2x16x2048, .f32⟩
  | .hbm, ⟨51, _⟩ => ⟨S2x4096x2048, .bf16⟩
  | .hbm, ⟨52, _⟩ => ⟨S2x4096x2048, .bf16⟩
  | .hbm, ⟨53, _⟩ => ⟨S2x2048x4096, .f32⟩
  | .hbm, ⟨54, _⟩ => ⟨S2x2048x4096, .bf16⟩
  | .hbm, ⟨55, _⟩ => ⟨S2x16x1x2048, .f32⟩
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel9.lean ====
abbrev S32x2048 : Shape := ⟨2, ![32, 2048]⟩
abbrev S2048 : Shape := ⟨1, ![2048]⟩
abbrev S2048x12288 : Shape := ⟨2, ![2048, 12288]⟩
abbrev S1x2048 : Shape := ⟨2, ![1, 2048]⟩
abbrev S32x12288 : Shape := ⟨2, ![32, 12288]⟩
abbrev S2048x2048 : Shape := ⟨2, ![2048, 2048]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x12288, .bf16⟩
  | .hbm, ⟨3, _⟩ => ⟨S1x2048, .f32⟩
  | .hbm, ⟨4, _⟩ => ⟨S32x12288, .f32⟩
  | .local _ .vmem, ⟨0, _⟩ => ⟨S32x2048, .f32⟩
  | .local _ .vmem, ⟨1, _⟩ => ⟨S1x2048, .f32⟩
  | .local _ .vmem, ⟨2, _⟩ => ⟨S2048x2048, .bf16⟩
  | .local _ .vmem, ⟨3, _⟩ => ⟨S2048x2048, .bf16⟩
  | .local _ .vmem, ⟨4, _⟩ => ⟨S32x2048, .f32⟩
  | .local _ .vmem, ⟨5, _⟩ => ⟨S32x2048, .f32⟩
  | .local _ .vmem, ⟨6, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S32x2048 : Shape := ⟨2, ![32, 2048]⟩
abbrev S2048 : Shape := ⟨1, ![2048]⟩
abbrev S2048x12288 : Shape := ⟨2, ![2048, 12288]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x12288 : Shape := ⟨2, ![32, 12288]⟩

abbrev nBuf : Space → Nat
  | .hbm => 21
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x12288, .bf16⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S2048x12288, .f32⟩
  | .hbm, ⟨20, _⟩ => ⟨S32x12288, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S32x2048 : Shape := ⟨2, ![32, 2048]⟩
abbrev S2048 : Shape := ⟨1, ![2048]⟩
abbrev S2048x6144 : Shape := ⟨2, ![2048, 6144]⟩
abbrev S1x2048 : Shape := ⟨2, ![1, 2048]⟩
abbrev S32x6144 : Shape := ⟨2, ![32, 6144]⟩
abbrev S2048x2048 : Shape := ⟨2, ![2048, 2048]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x6144, .bf16⟩
  | .hbm, ⟨3, _⟩ => ⟨S1x2048, .f32⟩
  | .hbm, ⟨4, _⟩ => ⟨S32x6144, .f32⟩
  | .local _ .vmem, ⟨0, _⟩ => ⟨S32x2048, .f32⟩
  | .local _ .vmem, ⟨1, _⟩ => ⟨S1x2048, .f32⟩
  | .local _ .vmem, ⟨2, _⟩ => ⟨S2048x2048, .bf16⟩
  | .local _ .vmem, ⟨3, _⟩ => ⟨S2048x2048, .bf16⟩
  | .local _ .vmem, ⟨4, _⟩ => ⟨S32x2048, .f32⟩
  | .local _ .vmem, ⟨5, _⟩ => ⟨S32x2048, .f32⟩
  | .local _ .vmem, ⟨6, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32x2048 : Shape := ⟨2, ![32, 2048]⟩
abbrev S2048 : Shape := ⟨1, ![2048]⟩
abbrev S2048x6144 : Shape := ⟨2, ![2048, 6144]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x6144 : Shape := ⟨2, ![32, 6144]⟩

abbrev nBuf : Space → Nat
  | .hbm => 21
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x6144, .bf16⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S2048x6144, .f32⟩
  | .hbm, ⟨20, _⟩ => ⟨S32x6144, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S8x4x6144 : Shape := ⟨3, ![8, 4, 6144]⟩
abbrev S128 : Shape := ⟨1, ![128]⟩
abbrev S1x128 : Shape := ⟨2, ![1, 128]⟩
abbrev S8x4x2048 : Shape := ⟨3, ![8, 4, 2048]⟩
abbrev S8x1x1x2048 : Shape := ⟨4, ![8, 1, 1, 2048]⟩
abbrev S1x4x2048 : Shape := ⟨3, ![1, 4, 2048]⟩
abbrev S1x1x1x2048 : Shape := ⟨4, ![1, 1, 1, 2048]⟩
abbrev S4x2048 : Shape := ⟨2, ![4, 2048]⟩
abbrev S1x4x128 : Shape := ⟨3, ![1, 4, 128]⟩
abbrev S4x128 : Shape := ⟨2, ![4, 128]⟩
abbrev S4 : Shape := ⟨1, ![4]⟩
abbrev S4x1 : Shape := ⟨2, ![4, 1]⟩
abbrev S1x1x1x128 : Shape := ⟨4, ![1, 1, 1, 128]⟩

abbrev nBuf : Space → Nat
  | .hbm => 10
  | .vmem => 18
  | .smem => 0
  | _ => 0

abbrev bufTy : (tb : Table) → Fin (tcTables nBuf tb) → BufTy
  | .hbm, ⟨0, _⟩ => ⟨S8x4x6144, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S8x4x2048, .f32⟩
  | .hbm, ⟨9, _⟩ => ⟨S8x1x1x2048, .f32⟩
  | .local _ .vmem, ⟨0, _⟩ => ⟨S1x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x128, .f32⟩
  | .local _ .vmem, ⟨7, _⟩ => ⟨S1x128, .f32⟩
  | .local _ .vmem, ⟨8, _⟩ => ⟨S1x4x2048, .f32⟩
  | .local _ .vmem, ⟨9, _⟩ => ⟨S1x4x2048, .f32⟩
  | .local _ .vmem, ⟨10, _⟩ => ⟨S1x4x2048, .f32⟩
  | .local _ .vmem, ⟨11, _⟩ => ⟨S1x4x2048, .f32⟩
  | .local _ .vmem, ⟨12, _⟩ => ⟨S1x4x2048, .f32⟩
  | .local _ .vmem, ⟨13, _⟩ => ⟨S1x4x2048, .f32⟩
  | .local _ .vmem, ⟨14, _⟩ => ⟨S1x4x2048, .f32⟩
  | .local _ .vmem, ⟨15, _⟩ => ⟨S1x4x2048, .f32⟩
  | .local _ .vmem, ⟨16, _⟩ => ⟨S1x1x1x2048, .f32⟩
  | .local _ .vmem, ⟨17, _⟩ => ⟨S1x1x1x2048, .f32⟩
  | _, _ => ⟨S8x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S8x4x6144 : Shape := ⟨3, ![8, 4, 6144]⟩
abbrev S128 : Shape := ⟨1, ![128]⟩
abbrev S8x4x3x16x128 : Shape := ⟨5, ![8, 4, 3, 16, 128]⟩
abbrev S8x4x1x16x128 : Shape := ⟨5, ![8, 4, 1, 16, 128]⟩
abbrev S8x4x16x128 : Shape := ⟨4, ![8, 4, 16, 128]⟩
abbrev S_ : Shape := ⟨0, ![]⟩
abbrev S8x4x16 : Shape := ⟨3, ![8, 4, 16]⟩
abbrev S8x4x16x1 : Shape := ⟨4, ![8, 4, 16, 1]⟩
abbrev S1x1x1x128 : Shape := ⟨4, ![1, 1, 1, 128]⟩
abbrev S8x4x2048 : Shape := ⟨3, ![8, 4, 2048]⟩
abbrev S8x2048 : Shape := ⟨2, ![8, 2048]⟩
abbrev S8x1x1x2048 : Shape := ⟨4, ![8, 1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x4x6144, .f32⟩
  | .hbm, ⟨1, _⟩ => ⟨S128, .f32⟩
  | .hbm, ⟨2, _⟩ => ⟨S128, .f32⟩
  | .hbm, ⟨3, _⟩ => ⟨S8x4x3x16x128, .f32⟩
  | .hbm, ⟨4, _⟩ => ⟨S8x4x1x16x128, .f32⟩
  | .hbm, ⟨5, _⟩ => ⟨S8x4x16x128, .f32⟩
  | .hbm, ⟨6, _⟩ => ⟨S8x4x16x128, .f32⟩
  | .hbm, ⟨7, _⟩ => ⟨S_, .f32⟩
  | .hbm, ⟨8, _⟩ => ⟨S8x4x16, .f32⟩
  | .hbm, ⟨9, _⟩ => ⟨S8x4x16x1, .f32⟩
  | .hbm, ⟨10, _⟩ => ⟨S_, .f32⟩
  | .hbm, ⟨11, _⟩ => ⟨S8x4x16x1, .f32⟩
  | .hbm, ⟨12, _⟩ => ⟨S8x4x16x1, .f32⟩
  | .hbm, ⟨13, _⟩ => ⟨S_, .f32⟩
  | .hbm, ⟨14, _⟩ => ⟨S8x4x16x1, .f32⟩
  | .hbm, ⟨15, _⟩ => ⟨S8x4x16x1, .f32⟩
  | .hbm, ⟨16, _⟩ => ⟨S8x4x16x1, .f32⟩
  | .hbm, ⟨17, _⟩ => ⟨S8x4x16x128, .f32⟩
  | .hbm, ⟨18, _⟩ => ⟨S8x4x16x128, .f32⟩
  | .hbm, ⟨19, _⟩ => ⟨S1x1x1x128, .f32⟩
  | .hbm, ⟨20, _⟩ => ⟨S8x4x16x128, .f32⟩
  | .hbm, ⟨21, _⟩ => ⟨S8x4x16x128, .f32⟩
  | .hbm, ⟨22, _⟩ => ⟨S8x4x2048, .f32⟩
  | .hbm, ⟨23, _⟩ => ⟨S8x4x1x16x128, .f32⟩
  | .hbm, ⟨24, _⟩ => ⟨S8x4x16x128, .f32⟩
  | .hbm, ⟨25, _⟩ => ⟨S8x4x16x128, .f32⟩
  | .hbm, ⟨26, _⟩ => ⟨S_, .f32⟩
  | .hbm, ⟨27, _⟩ => ⟨S8x4x16, .f32⟩
  | .hbm, ⟨28, _⟩ => ⟨S8x4x16x1, .f32⟩
  | .hbm, ⟨29, _⟩ => ⟨S_, .f32⟩
  | .hbm, ⟨30, _⟩ => ⟨S8x4x16x1, .f32⟩
  | .hbm, ⟨31, _⟩ => ⟨S8x4x16x1, .f32⟩
  | .hbm, ⟨32, _⟩ => ⟨S_, .f32⟩
  | .hbm, ⟨33, _⟩ => ⟨S8x4x16x1, .f32⟩
  | .hbm, ⟨34, _⟩ => ⟨S8x4x16x1, .f32⟩
  | .hbm, ⟨35, _⟩ => ⟨S8x4x16x1, .f32⟩
  | .hbm, ⟨36, _⟩ => ⟨S8x4x16x128, .f32⟩
  | .hbm, ⟨37, _⟩ => ⟨S8x4x16x128, .f32⟩
  | .hbm, ⟨38, _⟩ => ⟨S1x1x1x128, .f32⟩
  | .hbm, ⟨39, _⟩ => ⟨S8x4x16x128, .f32⟩
  | .hbm, ⟨40, _⟩ => ⟨S8x4x16x128, .f32⟩
  | .hbm, ⟨41, _⟩ => ⟨S8x4x2048, .f32⟩
  | .hbm, ⟨42, _⟩ => ⟨S8x4x1x16x128, .f32⟩
  | .hbm, ⟨43, _⟩ => ⟨S8x4x16x128, .f32⟩
  | .hbm, ⟨44, _⟩ => ⟨S8x4x2048, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S8x1x1x2048, .f32⟩
  | _, _ => ⟨S8x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel12.lean ====
abbrev S8192x2048 : Shape := ⟨2, ![8192, 2048]⟩
abbrev S2048 : Shape := ⟨1, ![2048]⟩
abbrev S2048x128 : Shape := ⟨2, ![2048, 128]⟩
abbrev S1x2048 : Shape := ⟨2, ![1, 2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .bf16⟩
  | .hbm, ⟨3, _⟩ => ⟨S1x2048, .f32⟩
  | .hbm, ⟨4, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x128, .f32⟩
  | .hbm, ⟨20, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S32x2048 : Shape := ⟨2, ![32, 2048]⟩
abbrev S2048 : Shape := ⟨1, ![2048]⟩
abbrev S2048x8192 : Shape := ⟨2, ![2048, 8192]⟩
abbrev S1x2048 : Shape := ⟨2, ![1, 2048]⟩
abbrev S32x8192 : Shape := ⟨2, ![32, 8192]⟩
abbrev S2048x2048 : Shape := ⟨2, ![2048, 2048]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x8192, .bf16⟩
  | .hbm, ⟨3, _⟩ => ⟨S1x2048, .f32⟩
  | .hbm, ⟨4, _⟩ => ⟨S32x8192, .bf16⟩
  | .local _ .vmem, ⟨0, _⟩ => ⟨S32x2048, .f32⟩
  | .local _ .vmem, ⟨1, _⟩ => ⟨S1x2048, .f32⟩
  | .local _ .vmem, ⟨2, _⟩ => ⟨S2048x2048, .bf16⟩
  | .local _ .vmem, ⟨3, _⟩ => ⟨S2048x2048, .bf16⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S32x2048 : Shape := ⟨2, ![32, 2048]⟩
abbrev S2048 : Shape := ⟨1, ![2048]⟩
abbrev S2048x8192 : Shape := ⟨2, ![2048, 8192]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x8192 : Shape := ⟨2, ![32, 8192]⟩

abbrev nBuf : Space → Nat
  | .hbm => 26
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x8192, .bf16⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S2048x8192, .f32⟩
  | .hbm, ⟨20, _⟩ => ⟨S32x8192, .f32⟩
  | .hbm, ⟨21, _⟩ => ⟨S_, .f32⟩
  | .hbm, ⟨22, _⟩ => ⟨S32x8192, .f32⟩
  | .hbm, ⟨23, _⟩ => ⟨S32x8192, .f32⟩
  | .hbm, ⟨24, _⟩ => ⟨S32x8192, .f32⟩
  | .hbm, ⟨25, _⟩ => ⟨S32x8192, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel14.lean ====
abbrev S32x8192 : Shape := ⟨2, ![32, 8192]⟩
abbrev S8192x2048 : Shape := ⟨2, ![8192, 2048]⟩
abbrev S32x2048 : Shape := ⟨2, ![32, 2048]⟩
abbrev S2048x1024 : Shape := ⟨2, ![2048, 1024]⟩
abbrev S32x1024 : Shape := ⟨2, ![32, 1024]⟩

abbrev nBuf : Space → Nat
  | .hbm => 4
  | .vmem => 9
  | .smem => 0
  | _ => 0

abbrev bufTy : (tb : Table) → Fin (tcTables nBuf tb) → BufTy
  | .hbm, ⟨0, _⟩ => ⟨S32x8192, .bf16⟩
  | .hbm, ⟨1, _⟩ => ⟨S8192x2048, .bf16⟩
  | .hbm, ⟨2, _⟩ => ⟨S32x2048, .f32⟩
  | .hbm, ⟨3, _⟩ => ⟨S32x2048, .f32⟩
  | .local _ .vmem, ⟨0, _⟩ => ⟨S32x2048, .bf16⟩
  | .local _ .vmem, ⟨1, _⟩ => ⟨S32x2048, .bf16⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S32x8192 : Shape := ⟨2, ![32, 8192]⟩
abbrev S8192x2048 : Shape := ⟨2, ![8192, 2048]⟩
abbrev S32x2048 : Shape := ⟨2, ![32, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32x8192, .bf16⟩
  | .hbm, ⟨1, _⟩ => ⟨S8192x2048, .bf16⟩
  | .hbm, ⟨2, _⟩ => ⟨S32x2048, .f32⟩
  | .hbm, ⟨3, _⟩ => ⟨S32x8192, .f32⟩
  | .hbm, ⟨4, _⟩ => ⟨S8192x2048, .f32⟩
  | .hbm, ⟨5, _⟩ => ⟨S32x2048, .f32⟩
  | .hbm, ⟨6, _⟩ => ⟨S32x2048, .f32⟩
  | _, _ => ⟨S32x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S32x16 : Shape := ⟨2, ![32, 16]⟩
abbrev S16x32 : Shape := ⟨2, ![16, 32]⟩
abbrev S1x16x4352 : Shape := ⟨3, ![1, 16, 4352]⟩
abbrev S1x4352 : Shape := ⟨2, ![1, 4352]⟩
abbrev S16x4352 : Shape := ⟨2, ![16, 4352]⟩
abbrev S16x1 : Shape := ⟨2, ![16, 1]⟩

abbrev nBuf : Space → Nat
  | .hbm => 3
  | .vmem => 2
  | .smem => 0
  | _ => 0

abbrev bufTy : (tb : Table) → Fin (tcTables nBuf tb) → BufTy
  | .hbm, ⟨0, _⟩ => ⟨S32x16, .f32⟩
  | .hbm, ⟨1, _⟩ => ⟨S16x32, .f32⟩
  | .hbm, ⟨2, _⟩ => ⟨S1x16x4352, .f32⟩
  | .local _ .vmem, ⟨0, _⟩ => ⟨S16x32, .f32⟩
  | .local _ .vmem, ⟨1, _⟩ => ⟨S1x16x4352, .f32⟩
  | _, _ => ⟨S32x16, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16x4352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference15Ideal.lean ====
abbrev S32x16 : Shape := ⟨2, ![32, 16]⟩
abbrev S4352 : Shape := ⟨1, ![4352]⟩
abbrev S_ : Shape := ⟨0, ![]⟩
abbrev S16 : Shape := ⟨1, ![16]⟩
abbrev S16x1 : Shape := ⟨2, ![16, 1]⟩
abbrev S16x32 : Shape := ⟨2, ![16, 32]⟩
abbrev S1x4352 : Shape := ⟨2, ![1, 4352]⟩
abbrev S16x4352 : Shape := ⟨2, ![16, 4352]⟩
abbrev S16x4352x1 : Shape := ⟨3, ![16, 4352, 1]⟩
abbrev S16x4352x2 : Shape := ⟨3, ![16, 4352, 2]⟩
abbrev S1x16x4352 : Shape := ⟨3, ![1, 16, 4352]⟩

abbrev nBuf : Space → Nat
  | .hbm => 58
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S4352, .i32⟩
  | .hbm, ⟨2, _⟩ => ⟨S_, .i32⟩
  | .hbm, ⟨3, _⟩ => ⟨S4352, .i32⟩
  | .hbm, ⟨4, _⟩ => ⟨S4352, .i32⟩
  | .hbm, ⟨5, _⟩ => ⟨S16, .i32⟩
  | .hbm, ⟨6, _⟩ => ⟨S16x1, .i32⟩
  | .hbm, ⟨7, _⟩ => ⟨S16x32, .f32⟩
  | .hbm, ⟨8, _⟩ => ⟨S_, .i32⟩
  | .hbm, ⟨9, _⟩ => ⟨S4352, .i32⟩
  | .hbm, ⟨10, _⟩ => ⟨S4352, .i32⟩
  | .hbm, ⟨11, _⟩ => ⟨S_, .i32⟩
  | .hbm, ⟨12, _⟩ => ⟨S4352, .i32⟩
  | .hbm, ⟨13, _⟩ => ⟨S4352, .i32⟩
  | .hbm, ⟨14, _⟩ => ⟨S4352, .f32⟩
  | .hbm, ⟨15, _⟩ => ⟨S_, .f32⟩
  | .hbm, ⟨16, _⟩ => ⟨S4352, .f32⟩
  | .hbm, ⟨17, _⟩ => ⟨S4352, .f32⟩
  | .hbm, ⟨18, _⟩ => ⟨S4352, .f32⟩
  | .hbm, ⟨19, _⟩ => ⟨S_, .f32⟩
  | .hbm, ⟨20, _⟩ => ⟨S4352, .f32⟩
  | .hbm, ⟨21, _⟩ => ⟨S4352, .f32⟩
  | .hbm, ⟨22, _⟩ => ⟨S_, .f32⟩
  | .hbm, ⟨23, _⟩ => ⟨S4352, .f32⟩
  | .hbm, ⟨24, _⟩ => ⟨S4352, .f32⟩
  | .hbm, ⟨25, _⟩ => ⟨S4352, .i32⟩
  | .hbm, ⟨26, _⟩ => ⟨S_, .i32⟩
  | .hbm, ⟨27, _⟩ => ⟨S4352, .i32⟩
  | .hbm, ⟨28, _⟩ => ⟨S4352, .i32⟩
  | .hbm, ⟨29, _⟩ => ⟨S_, .i32⟩
  | .hbm, ⟨30, _⟩ => ⟨S4352, .i32⟩
  | .hbm, ⟨31, _⟩ => ⟨S4352, .i32⟩
  | .hbm, ⟨32, _⟩ => ⟨S_, .i32⟩
  | .hbm, ⟨33, _⟩ => ⟨S4352, .i32⟩
  | .hbm, ⟨34, _⟩ => ⟨S4352, .i1⟩
  | .hbm, ⟨35, _⟩ => ⟨S4352, .i32⟩
  | .hbm, ⟨36, _⟩ => ⟨S1x4352, .i32⟩
  | .hbm, ⟨37, _⟩ => ⟨S_, .i32⟩
  | .hbm, ⟨38, _⟩ => ⟨S16x1, .i32⟩
  | .hbm, ⟨39, _⟩ => ⟨S16x1, .i1⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S16x1, .i32⟩
  | .hbm, ⟨44, _⟩ => ⟨S_, .i32⟩
  | .hbm, ⟨45, _⟩ => ⟨S1x4352, .i32⟩
  | .hbm, ⟨46, _⟩ => ⟨S1x4352, .i1⟩
  | .hbm, ⟨47, _⟩ => ⟨S_, .i32⟩
  | .hbm, ⟨48, _⟩ => ⟨S1x4352, .i32⟩
  | .hbm, ⟨49, _⟩ => ⟨S1x4352, .i32⟩
  | .hbm, ⟨50, _⟩ => ⟨S1x4352, .i32⟩
  | .hbm, ⟨51, _⟩ => ⟨S16x4352, .i32⟩
  | .hbm, ⟨52, _⟩ => ⟨S16x4352, .i32⟩
  | .hbm, ⟨53, _⟩ => ⟨S16x4352x1, .i32⟩
  | .hbm, ⟨54, _⟩ => ⟨S16x4352x1, .i32⟩
  | .hbm, ⟨55, _⟩ => ⟨S16x4352x2, .i32⟩
  | .hbm, ⟨56, _⟩ => ⟨S16x4352, .f32⟩
  | .hbm, ⟨57, _⟩ => ⟨S1x16x4352, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel16.lean ====
abbrev S4x2048x8192 : Shape := ⟨3, ![4, 2048, 8192]⟩
abbrev S2048x8192 : Shape := ⟨2, ![2048, 8192]⟩
abbrev S1x512x2048 : Shape := ⟨3, ![1, 512, 2048]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x8192, .f32⟩
  | .hbm, ⟨1, _⟩ => ⟨S2048x8192, .bf16⟩
  | .local _ .vmem, ⟨0, _⟩ => ⟨S1x512x2048, .f32⟩
  | .local _ .vmem, ⟨1, _⟩ => ⟨S1x512x2048, .f32⟩
  | .local _ .vmem, ⟨2, _⟩ => ⟨S512x2048, .bf16⟩
  | .local _ .vmem, ⟨3, _⟩ => ⟨S512x2048, .bf16⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  ![c3_i32.toNat, arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference16Ideal.lean ====
abbrev S4x2048x8192 : Shape := ⟨3, ![4, 2048, 8192]⟩
abbrev S1x2048x8192 : Shape := ⟨3, ![1, 2048, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x8192, .f32⟩
  | .hbm, ⟨1, _⟩ => ⟨S1x2048x8192, .f32⟩
  | .hbm, ⟨2, _⟩ => ⟨S2048x8192, .f32⟩
  | .hbm, ⟨3, _⟩ => ⟨S2048x8192, .bf16⟩
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel17.lean ====
abbrev S2x1280x128x16x128 : Shape := ⟨5, ![2, 1280, 128, 16, 128]⟩
abbrev S8x128 : Shape := ⟨2, ![8, 128]⟩
abbrev S1024 : Shape := ⟨1, ![1024]⟩
abbrev S8x64x16x128 : Shape := ⟨4, ![8, 64, 16, 128]⟩
abbrev S1x1x128x16x128 : Shape := ⟨5, ![1, 1, 128, 16, 128]⟩
abbrev S1 : Shape := ⟨1, ![1]⟩
abbrev S1x2x16x128 : Shape := ⟨4, ![1, 2, 16, 128]⟩
abbrev S128x16x128 : Shape := ⟨3, ![128, 16, 128]⟩
abbrev S16x128 : Shape := ⟨2, ![16, 128]⟩
abbrev S1x1x16x128 : Shape := ⟨4, ![1, 1, 16, 128]⟩

abbrev nBuf : Space → Nat
  | .hbm => 3
  | .vmem => 10
  | .smem => 1
  | _ => 0

abbrev bufTy : (tb : Table) → Fin (tcTables nBuf tb) → BufTy
  | .hbm, ⟨0, _⟩ => ⟨S2x1280x128x16x128, .f32⟩
  | .hbm, ⟨1, _⟩ => ⟨S8x128, .i32⟩
  | .hbm, ⟨2, _⟩ => ⟨S8x64x16x128, .f32⟩
  | .local _ .vmem, ⟨0, _⟩ => ⟨S1x1x128x16x128, .f32⟩
  | .local _ .vmem, ⟨1, _⟩ => ⟨S1x1x128x16x128, .f32⟩
  | .local _ .vmem, ⟨2, _⟩ => ⟨S1x1x128x16x128, .f32⟩
  | .local _ .vmem, ⟨3, _⟩ => ⟨S1x1x128x16x128, .f32⟩
  | .local _ .vmem, ⟨4, _⟩ => ⟨S1x1x128x16x128, .f32⟩
  | .local _ .vmem, ⟨5, _⟩ => ⟨S1x1x128x16x128, .f32⟩
  | .local _ .vmem, ⟨6, _⟩ => ⟨S1x1x128x16x128, .f32⟩
  | .local _ .vmem, ⟨7, _⟩ => ⟨S1x1x128x16x128, .f32⟩
  | .local _ .vmem, ⟨8, _⟩ => ⟨S1x2x16x128, .f32⟩
  | .local _ .vmem, ⟨9, _⟩ => ⟨S1x2x16x128, .f32⟩
  | .local _ .smem, ⟨0, _⟩ => ⟨S1024, .i32⟩
  | _, _ => ⟨S2x1280x128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let arg1 : BitVec 32 := BitVec.ofNat 32 (i 1).val
  let v1 : BitVec 32 := Scalar.muli c4_i32 arg1
  let v2 : BitVec 32 := Scalar.addi v0 v1
  let v3 : BitVec 32 := Scalar.addi v2 c0_i32
  let v4 : Index := Scalar.indexCast v3
  ![v4.toNat]
def cc0_transform_0 (k0_off1_inb : ∀ i : grid0.Coords, ∀ (r : Fin 4), ∀ a, (k0_off1 i (BitVec.ofNat 32 r.val)) a + S1.size a ≤ S1024.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S1024) ![v4.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  let c0_i32_3 : BitVec 32 := 0#32
  ![c1_i32.toNat, v5.toNat, c0_i32_0.toNat, c0_i32_1.toNat, c0_i32_2.toNat]

def cc0_transform_1 (k0_off1_inb : ∀ i : grid0.Coords, ∀ (r : Fin 4), ∀ a, (k0_off1 i (BitVec.ofNat 32 r.val)) a + S1.size a ≤ S1024.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S1024) ![v4.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32_0.toNat, v5.toNat, c0_i32.toNat, c0_i32_1.toNat, c0_i32_2.toNat]

def cc0_transform_2 (k0_off1_inb : ∀ i : grid0.Coords, ∀ (r : Fin 4), ∀ a, (k0_off1 i (BitVec.ofNat 32 r.val)) a + S1.size a ≤ S1024.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S1024) ![v4.toNat] S1.size (k0_off1_inb i 2)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v5.toNat, c0_i32.toNat, c0_i32_0.toNat, c0_i32_1.toNat]

def cc0_transform_3 (k0_off1_inb : ∀ i : grid0.Coords, ∀ (r : Fin 4), ∀ a, (k0_off1 i (BitVec.ofNat 32 r.val)) a + S1.size a ≤ S1024.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli c4_i32 arg1
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S1024) ![v4.toNat] S1.size (k0_off1_inb i 3)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v5.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S2x1280x128x16x128 : Shape := ⟨5, ![2, 1280, 128, 16, 128]⟩
abbrev S8x128 : Shape := ⟨2, ![8, 128]⟩
abbrev S_ : Shape := ⟨0, ![]⟩
abbrev S8x128x1 : Shape := ⟨3, ![8, 128, 1]⟩
abbrev S8x128x2 : Shape := ⟨3, ![8, 128, 2]⟩
abbrev S8x128x128x16x128 : Shape := ⟨5, ![8, 128, 128, 16, 128]⟩
abbrev S8x128x16x128 : Shape := ⟨4, ![8, 128, 16, 128]⟩
abbrev S8x64x2x16x128 : Shape := ⟨5, ![8, 64, 2, 16, 128]⟩
abbrev S8x64x16x128 : Shape := ⟨4, ![8, 64, 16, 128]⟩

abbrev nBuf : Space → Nat
  | .hbm => 24
  | .vmem => 0
  | .smem => 0
  | _ => 0

abbrev bufTy : (tb : Table) → Fin (tcTables nBuf tb) → BufTy
  | .hbm, ⟨0, _⟩ => ⟨S2x1280x128x16x128, .f32⟩
  | .hbm, ⟨1, _⟩ => ⟨S8x128, .i32⟩
  | .hbm, ⟨2, _⟩ => ⟨S_, .i32⟩
  | .hbm, ⟨3, _⟩ => ⟨S8x128, .i32⟩
  | .hbm, ⟨4, _⟩ => ⟨S8x128, .i1⟩
  | .hbm, ⟨5, _⟩ => ⟨S_, .i32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128x1, .i32⟩
  | .hbm, ⟨13, _⟩ => ⟨S8x128x1, .i32⟩
  | .hbm, ⟨14, _⟩ => ⟨S8x128x2, .i32⟩
  | .hbm, ⟨15, _⟩ => ⟨S8x128x128x16x128, .f32⟩
  | .hbm, ⟨16, _⟩ => ⟨S_, .f32⟩
  | .hbm, ⟨17, _⟩ => ⟨S8x128x16x128, .f32⟩
  | .hbm, ⟨18, _⟩ => ⟨S8x64x2x16x128, .f32⟩
  | .hbm, ⟨19, _⟩ => ⟨S_, .f32⟩
  | .hbm, ⟨20, _⟩ => ⟨S8x64x16x128, .f32⟩
  | .hbm, ⟨21, _⟩ => ⟨S_, .f32⟩
  | .hbm, ⟨22, _⟩ => ⟨S8x64x16x128, .f32⟩
  | .hbm, ⟨23, _⟩ => ⟨S8x64x16x128, .f32⟩
  | _, _ => ⟨S2x1280x128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel18.lean ====
abbrev S32x4096 : Shape := ⟨2, ![32, 4096]⟩
abbrev S4096x2048 : Shape := ⟨2, ![4096, 2048]⟩
abbrev S32x2048 : Shape := ⟨2, ![32, 2048]⟩
abbrev S2048x1024 : Shape := ⟨2, ![2048, 1024]⟩
abbrev S32x1024 : Shape := ⟨2, ![32, 1024]⟩

abbrev nBuf : Space → Nat
  | .hbm => 4
  | .vmem => 9
  | .smem => 0
  | _ => 0

abbrev bufTy : (tb : Table) → Fin (tcTables nBuf tb) → BufTy
  | .hbm, ⟨0, _⟩ => ⟨S32x4096, .bf16⟩
  | .hbm, ⟨1, _⟩ => ⟨S4096x2048, .bf16⟩
  | .hbm, ⟨2, _⟩ => ⟨S32x2048, .f32⟩
  | .hbm, ⟨3, _⟩ => ⟨S32x2048, .f32⟩
  | .local _ .vmem, ⟨0, _⟩ => ⟨S32x2048, .bf16⟩
  | .local _ .vmem, ⟨1, _⟩ => ⟨S32x2048, .bf16⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S32x4096 : Shape := ⟨2, ![32, 4096]⟩
abbrev S4096x2048 : Shape := ⟨2, ![4096, 2048]⟩
abbrev S32x2048 : Shape := ⟨2, ![32, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S4096x2048, .bf16⟩
  | .hbm, ⟨2, _⟩ => ⟨S32x2048, .f32⟩
  | .hbm, ⟨3, _⟩ => ⟨S32x4096, .f32⟩
  | .hbm, ⟨4, _⟩ => ⟨S4096x2048, .f32⟩
  | .hbm, ⟨5, _⟩ => ⟨S32x2048, .f32⟩
  | .hbm, ⟨6, _⟩ => ⟨S32x2048, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S32x2048 : Shape := ⟨2, ![32, 2048]⟩
abbrev S2048x2048 : Shape := ⟨2, ![2048, 2048]⟩
abbrev S2048x1024 : Shape := ⟨2, ![2048, 1024]⟩
abbrev S32x1024 : Shape := ⟨2, ![32, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32x2048, .bf16⟩
  | .hbm, ⟨1, _⟩ => ⟨S2048x2048, .bf16⟩
  | .hbm, ⟨2, _⟩ => ⟨S32x2048, .f32⟩
  | .hbm, ⟨3, _⟩ => ⟨S32x2048, .f32⟩
  | .local _ .vmem, ⟨0, _⟩ => ⟨S32x2048, .bf16⟩
  | .local _ .vmem, ⟨1, _⟩ => ⟨S2048x1024, .bf16⟩
  | .local _ .vmem, ⟨2, _⟩ => ⟨S2048x1024, .bf16⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S32x2048 : Shape := ⟨2, ![32, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x2048, .bf16⟩
  | .hbm, ⟨2, _⟩ => ⟨S32x2048, .f32⟩
  | .hbm, ⟨3, _⟩ => ⟨S32x2048, .f32⟩
  | .hbm, ⟨4, _⟩ => ⟨S2048x2048, .f32⟩
  | .hbm, ⟨5, _⟩ => ⟨S32x2048, .f32⟩
  | .hbm, ⟨6, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S32x16 : Shape := ⟨2, ![32, 16]⟩
abbrev S16x32 : Shape := ⟨2, ![16, 32]⟩
abbrev S4x16x16512 : Shape := ⟨3, ![4, 16, 16512]⟩
abbrev S1x16x16512 : Shape := ⟨3, ![1, 16, 16512]⟩
abbrev S1x16512 : Shape := ⟨2, ![1, 16512]⟩
abbrev S16x16512 : Shape := ⟨2, ![16, 16512]⟩
abbrev S16x1 : Shape := ⟨2, ![16, 1]⟩

abbrev nBuf : Space → Nat
  | .hbm => 3
  | .vmem => 3
  | .smem => 0
  | _ => 0

abbrev bufTy : (tb : Table) → Fin (tcTables nBuf tb) → BufTy
  | .hbm, ⟨0, _⟩ => ⟨S32x16, .f32⟩
  | .hbm, ⟨1, _⟩ => ⟨S16x32, .f32⟩
  | .hbm, ⟨2, _⟩ => ⟨S4x16x16512, .f32⟩
  | .local _ .vmem, ⟨0, _⟩ => ⟨S16x32, .f32⟩
  | .local _ .vmem, ⟨1, _⟩ => ⟨S1x16x16512, .f32⟩
  | .local _ .vmem, ⟨2, _⟩ => ⟨S1x16x16512, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x16512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S32x16 : Shape := ⟨2, ![32, 16]⟩
abbrev S4 : Shape := ⟨1, ![4]⟩
abbrev S_ : Shape := ⟨0, ![]⟩
abbrev S4x1 : Shape := ⟨2, ![4, 1]⟩
abbrev S16512 : Shape := ⟨1, ![16512]⟩
abbrev S1x16512 : Shape := ⟨2, ![1, 16512]⟩
abbrev S4x16512 : Shape := ⟨2, ![4, 16512]⟩
abbrev S16 : Shape := ⟨1, ![16]⟩
abbrev S16x1 : Shape := ⟨2, ![16, 1]⟩
abbrev S16x32 : Shape := ⟨2, ![16, 32]⟩
abbrev S4x1x16512 : Shape := ⟨3, ![4, 1, 16512]⟩
abbrev S4x16x16512 : Shape := ⟨3, ![4, 16, 16512]⟩
abbrev S4x16x16512x1 : Shape := ⟨4, ![4, 16, 16512, 1]⟩
abbrev S4x16x16512x2 : Shape := ⟨4, ![4, 16, 16512, 2]⟩

abbrev nBuf : Space → Nat
  | .hbm => 63
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S4x1, .i32⟩
  | .hbm, ⟨6, _⟩ => ⟨S16512, .i32⟩
  | .hbm, ⟨7, _⟩ => ⟨S1x16512, .i32⟩
  | .hbm, ⟨8, _⟩ => ⟨S4x16512, .i32⟩
  | .hbm, ⟨9, _⟩ => ⟨S4x16512, .i32⟩
  | .hbm, ⟨10, _⟩ => ⟨S4x16512, .i32⟩
  | .hbm, ⟨11, _⟩ => ⟨S16, .i32⟩
  | .hbm, ⟨12, _⟩ => ⟨S16x1, .i32⟩
  | .hbm, ⟨13, _⟩ => ⟨S16x32, .f32⟩
  | .hbm, ⟨14, _⟩ => ⟨S_, .i32⟩
  | .hbm, ⟨15, _⟩ => ⟨S4x16512, .i32⟩
  | .hbm, ⟨16, _⟩ => ⟨S4x16512, .i32⟩
  | .hbm, ⟨17, _⟩ => ⟨S_, .i32⟩
  | .hbm, ⟨18, _⟩ => ⟨S4x16512, .i32⟩
  | .hbm, ⟨19, _⟩ => ⟨S4x16512, .i32⟩
  | .hbm, ⟨20, _⟩ => ⟨S4x16512, .f32⟩
  | .hbm, ⟨21, _⟩ => ⟨S_, .f32⟩
  | .hbm, ⟨22, _⟩ => ⟨S4x16512, .f32⟩
  | .hbm, ⟨23, _⟩ => ⟨S4x16512, .f32⟩
  | .hbm, ⟨24, _⟩ => ⟨S4x16512, .f32⟩
  | .hbm, ⟨25, _⟩ => ⟨S_, .f32⟩
  | .hbm, ⟨26, _⟩ => ⟨S4x16512, .f32⟩
  | .hbm, ⟨27, _⟩ => ⟨S4x16512, .f32⟩
  | .hbm, ⟨28, _⟩ => ⟨S_, .f32⟩
  | .hbm, ⟨29, _⟩ => ⟨S4x16512, .f32⟩
  | .hbm, ⟨30, _⟩ => ⟨S4x16512, .f32⟩
  | .hbm, ⟨31, _⟩ => ⟨S4x16512, .i32⟩
  | .hbm, ⟨32, _⟩ => ⟨S_, .i32⟩
  | .hbm, ⟨33, _⟩ => ⟨S4x16512, .i32⟩
  | .hbm, ⟨34, _⟩ => ⟨S4x16512, .i32⟩
  | .hbm, ⟨35, _⟩ => ⟨S_, .i32⟩
  | .hbm, ⟨36, _⟩ => ⟨S4x16512, .i32⟩
  | .hbm, ⟨37, _⟩ => ⟨S4x16512, .i32⟩
  | .hbm, ⟨38, _⟩ => ⟨S_, .i32⟩
  | .hbm, ⟨39, _⟩ => ⟨S4x16512, .i32⟩
  | .hbm, ⟨40, _⟩ => ⟨S4x16512, .i1⟩
  | .hbm, ⟨41, _⟩ => ⟨S4x16512, .i32⟩
  | .hbm, ⟨42, _⟩ => ⟨S4x1x16512, .i32⟩
  | .hbm, ⟨43, _⟩ => ⟨S_, .i32⟩
  | .hbm, ⟨44, _⟩ => ⟨S16x1, .i32⟩
  | .hbm, ⟨45, _⟩ => ⟨S16x1, .i1⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S16x1, .i32⟩
  | .hbm, ⟨50, _⟩ => ⟨S_, .i32⟩
  | .hbm, ⟨51, _⟩ => ⟨S4x1x16512, .i32⟩
  | .hbm, ⟨52, _⟩ => ⟨S4x1x16512, .i1⟩
  | .hbm, ⟨53, _⟩ => ⟨S_, .i32⟩
  | .hbm, ⟨54, _⟩ => ⟨S4x1x16512, .i32⟩
  | .hbm, ⟨55, _⟩ => ⟨S4x1x16512, .i32⟩
  | .hbm, ⟨56, _⟩ => ⟨S4x1x16512, .i32⟩
  | .hbm, ⟨57, _⟩ => ⟨S4x16x16512, .i32⟩
  | .hbm, ⟨58, _⟩ => ⟨S4x16x16512, .i32⟩
  | .hbm, ⟨59, _⟩ => ⟨S4x16x16512x1, .i32⟩
  | .hbm, ⟨60, _⟩ => ⟨S4x16x16512x1, .i32⟩
  | .hbm, ⟨61, _⟩ => ⟨S4x16x16512x2, .i32⟩
  | .hbm, ⟨62, _⟩ => ⟨S4x16x16512, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_9 : Ref sig .tc := ⟨.hbm, 50, rfl⟩
abbrev main_v38 : Ref sig .tc := ⟨.hbm, 51, rfl⟩
abbrev main_v39 : Ref sig .tc := ⟨.hbm, 52, rfl⟩
abbrev main_c_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.LoopIdeal.lean ====
module

public import proofs.«01_k».proof.Proof.Gen.KernelIdeal.Loops
public import proofs.«01_k».proof.Proof.Gen.KernelIdeal.Frame

@[expose] public section

set_option maxRecDepth 16384
set_option warn.classDefReducibility false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The remainder of the loop over pairs of past blocks is empty at every grid point. -/
theorem t2_trips (i : grid0.Coords) : (k0_t2_loop i).trips = 0 := by
  have h : ∀ x : Fin 16, ∀ j : grid0.Coords, j 2 = x → (k0_t2_loop j).trips = 0 := by
    intro x j hj
    unfold k0_t2_loop
    simp only [hj]
    clear hj
    revert x; decide
  exact h _ i rfl

/-- The loop over pairs of past blocks, with the values its region does not read filled in. -/
def loopPairs (𝒱 : Variants) (c : Dev nD) (bd : Option 𝒱.V) (E : Set ℕ) (i : grid0.Coords) (arg3 : Memref sig .tc .vmem S4x1x4352 .f32) (harg3 : arg3.IsWhole) (arg4 : Memref sig .tc .vmem S1x256x512 .bf16) (harg4 : arg4.IsWhole) (arg5 : Memref sig .tc .vmem S1x4096x512 .bf16) (harg5 : arg5.IsWhole) (arg6 : Memref sig .tc .vmem S1x512x4096 .bf16) (harg6 : arg6.IsWhole) (arg7 : Memref sig .tc .vmem S1x16x1x512 .f32) (harg7 : arg7.IsWhole) (arg8 : Memref sig .tc .vmem S1x256x512 .bf16) (harg8 : arg8.IsWhole) (arg9 : Memref sig .tc .vmem S4x16x256x256 .f32) (harg9 : arg9.IsWhole) (arg10 : Memref sig .tc .vmem S256x512 .f32) (harg10 : arg10.IsWhole) (arg11 : Memref sig .tc .vmem S4x16x256 .f32) (harg11 : arg11.IsWhole) (arg2 : BitVec 32) (v4 : FVec F S256x128 .bf16) (v6 : FVec F S256x128 .bf16) (v8 : FVec F S256x128 .bf16) (v10 : FVec F S256x128 .bf16) (X_arg5 : BufTy.Contents (Elt F) arg5.view.ty) (X_arg6 : BufTy.Contents (Elt F) arg6.view.ty) (X_arg9 : BufTy.Contents (Elt F) arg9.view.ty) (X_arg11 : BufTy.Contents (Elt F) arg11.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S128x256 .f32 × FVec F S128x256 .f32 × FVec F S128x256 .f32 × FVec F S128x256 .f32) :=
  loopInv_k0_t1 (F := F) 𝒱 c bd E i arg3 harg3 arg4 harg4 arg5 harg5 arg6 harg6 arg7 harg7 arg8 harg8 arg9 harg9 arg10 harg10 arg11 harg11 arg2 v4 v6 v8 v10 init.1 init.2.1 init.2.2.1 init.2.2.2.1 init.2.2.2.2.1 init.2.2.2.2.2.1 init.2.2.2.2.2.2.1 init.2.2.2.2.2.2.2.1 init.2.2.2.2.2.2.2.2.1 init.2.2.2.2.2.2.2.2.2.1 init.2.2.2.2.2.2.2.2.2.2.1 init.2.2.2.2.2.2.2.2.2.2.2 0#32 0#32 0#32 0#32 0#32 0#32 X_arg5 X_arg6 X_arg9 X_arg11 init

attribute [sl_loop] loopPairs

end Cert.KernelIdeal.Attn

end
-- ==== Proof.RunFirstIdeal.lean ====
module

public import proofs.«01_k».proof.Proof.LoopIdeal
public import proofs.«01_k».proof.Proof.Gen.KernelIdeal.Frame

@[expose] public section

set_option maxRecDepth 16384
set_option warn.classDefReducibility false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of the first batch entry, where the bias tiles of the query block are written into the scratch: the pieces its stores leave,
    with the proof that it runs to them from whole staging buffers and the bias scratch at `xs`. -/
noncomputable def runFirst (c : Dev nD) (i : grid0.Coords) (arg3 : Memref sig .tc .vmem S4x1x4352 .f32) (harg3 : arg3.IsWhole) (arg4 : Memref sig .tc .vmem S1x256x512 .bf16) (harg4 : arg4.IsWhole)
    (arg5 : Memref sig .tc .vmem S1x4096x512 .bf16) (harg5 : arg5.IsWhole) (arg6 : Memref sig .tc .vmem S1x512x4096 .bf16) (harg6 : arg6.IsWhole)
    (arg7 : Memref sig .tc .vmem S1x16x1x512 .f32) (harg7 : arg7.IsWhole) (arg8 : Memref sig .tc .vmem S1x256x512 .bf16) (harg8 : arg8.IsWhole)
    (arg9 : Memref sig .tc .vmem S4x16x256x256 .f32) (harg9 : arg9.IsWhole) (arg10 : Memref sig .tc .vmem S256x512 .f32) (harg10 : arg10.IsWhole)
    (arg11 : Memref sig .tc .vmem S4x16x256 .f32) (harg11 : arg11.IsWhole) (hc : k0_cond1 i = 1#1)
    (x0 : Vec F S4x1x4352 .f32) (x1 : Vec F S1x256x512 .bf16) (x2 : Vec F S1x4096x512 .bf16) (x3 : Vec F S1x512x4096 .bf16)
    (x4 : Vec F S1x16x1x512 .f32) (xs : Vec F S4x16x256x256 .f32) :
    Σ' (L8 : List (View.Piece (Elt F) S1x256x512 .bf16)), { L9 : List (View.Piece (Elt F) S4x16x256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8)
                ∗ (arg9.view.loc (c : Thread nD τ) ↦[arg9.view.set]{fullShare} arg9.view.writes (Elt F) (harg9.unread xs) L9)
                ∗ (∃ d, owns (c : Thread nD τ) arg10 fullShare d) ∗ (∃ d, owns (c : Thread nD τ) arg11 fullShare d)) -∗ K ⟨⟩))
          ⊢ wp frame (wpE (defs₀ (F := F)) Variants.none c none) E (cc0_moba_prompt_attention i arg3 harg3 arg4 harg4 arg5 harg5 arg6 harg6 arg7 harg7 arg8 harg8 arg9 harg9 arg10 harg10 arg11 harg11) K } := by
  refine ⟨?_, ?_, fun E K => ?run⟩
  case run =>
    simp only [cc0_moba_prompt_attention_eq_skeleton]; unfold cc0_moba_prompt_attention_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, ⟨%d10, %f10, -, H10⟩, ⟨%d11, %f11, -, H11⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hf9
    have htr : (k0_t2_loop i).trips = 0 := t2_trips i
    sl_exec_parts (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H8]; · iexists _; iexact H8
    isplitl [H9]
    · iexact H9
    isplitl [H10]
    · iexists _, _; isplitr; swap; · iexact H10
      ipureintro; rfl
    iexists _, _; isplitr; swap; · iexact H11
    ipureintro; rfl

end Cert.KernelIdeal.Attn

end
-- ==== Proof.RunLaterIdeal.lean ====
module

public import proofs.«01_k».proof.Proof.LoopIdeal
public import proofs.«01_k».proof.Proof.Gen.KernelIdeal.Frame

@[expose] public section

set_option maxRecDepth 16384
set_option warn.classDefReducibility false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of the second batch entry, where the bias tiles are only read: the pieces its stores leave,
    with the proof that it runs to them from whole staging buffers and the bias scratch at `xs`. -/
noncomputable def runLater (c : Dev nD) (i : grid0.Coords) (arg3 : Memref sig .tc .vmem S4x1x4352 .f32) (harg3 : arg3.IsWhole) (arg4 : Memref sig .tc .vmem S1x256x512 .bf16) (harg4 : arg4.IsWhole)
    (arg5 : Memref sig .tc .vmem S1x4096x512 .bf16) (harg5 : arg5.IsWhole) (arg6 : Memref sig .tc .vmem S1x512x4096 .bf16) (harg6 : arg6.IsWhole)
    (arg7 : Memref sig .tc .vmem S1x16x1x512 .f32) (harg7 : arg7.IsWhole) (arg8 : Memref sig .tc .vmem S1x256x512 .bf16) (harg8 : arg8.IsWhole)
    (arg9 : Memref sig .tc .vmem S4x16x256x256 .f32) (harg9 : arg9.IsWhole) (arg10 : Memref sig .tc .vmem S256x512 .f32) (harg10 : arg10.IsWhole)
    (arg11 : Memref sig .tc .vmem S4x16x256 .f32) (harg11 : arg11.IsWhole) (hc : ¬ k0_cond1 i = 1#1)
    (x0 : Vec F S4x1x4352 .f32) (x1 : Vec F S1x256x512 .bf16) (x2 : Vec F S1x4096x512 .bf16) (x3 : Vec F S1x512x4096 .bf16)
    (x4 : Vec F S1x16x1x512 .f32) (xs : Vec F S4x16x256x256 .f32) :
    { L8 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8)
                ∗ owns (c : Thread nD τ) arg9 fullShare xs
                ∗ (∃ d, owns (c : Thread nD τ) arg10 fullShare d) ∗ (∃ d, owns (c : Thread nD τ) arg11 fullShare d)) -∗ K ⟨⟩))
          ⊢ wp frame (wpE (defs₀ (F := F)) Variants.none c none) E (cc0_moba_prompt_attention i arg3 harg3 arg4 harg4 arg5 harg5 arg6 harg6 arg7 harg7 arg8 harg8 arg9 harg9 arg10 harg10 arg11 harg11) K } := by
  refine ⟨?_, fun E K => ?run⟩
  case run =>
    simp only [cc0_moba_prompt_attention_eq_skeleton]; unfold cc0_moba_prompt_attention_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, ⟨%d10, %f10, -, H10⟩, ⟨%d11, %f11, -, H11⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hf9
    have htr : (k0_t2_loop i).trips = 0 := t2_trips i
    sl_exec_parts (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H8]; · iexists _; iexact H8
    isplitl [H9]
    · iexists _; isplitr; · ipureintro; exact harg9.read_unread _
      iexact H9
    isplitl [H10]
    · iexists _, _; isplitr; swap; · iexact H10
      ipureintro; rfl
    iexists _, _; isplitr; swap; · iexact H11
    ipureintro; rfl

end Cert.KernelIdeal.Attn

end
-- ==== Proof.AttnIdealFrame.lean ====
module

public import proofs.«01_k».proof.Proof.RunFirstIdeal
public import proofs.«01_k».proof.Proof.RunLaterIdeal
public import proofs.«01_k».proof.Proof.Gen.KernelIdeal.Frame

public import Idealize.ShloMosaic.Lib.Claim

@[expose] public section

set_option maxRecDepth 16384
set_option warn.classDefReducibility false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers and the generator register, the scratch as memrefs owned at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The one output window, of which the frame states nothing. -/
def forgets : Fin 6 → Bool := fun w => w.val == 5

/-- What the pipeline's buffers hold for the frame: each input its block, the output anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body starts from at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

set_option maxHeartbeats 1600000 in
/-- The body at any point, by its run in the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl, after_0, after_1, after_2, after_3, after_4]
  rw [show (dats m 0 c).Φ t.castSucc = Pipeline.ΦA spec0 c from rfl, scratch_eq]
  by_cases h0 : k0_cond1 (grid0.coords t) = 1#1
  · iintro ⟨⟨⟨⟨%xs, HS0⟩, HS1, HS2⟩, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ _ _ _ _ h0 (iblk m c 0 t) (iblk m c 1 t) (iblk m c 2 t) (iblk m c 3 t) (iblk m c 4 t) xs).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%f5, H5⟩, HS0, HS1, HS2⟩
    isplitl [HS0 HS1 HS2 Hg]
    · isplitl [HS0 HS1 HS2]
      · isplitl [HS0]
        · iexists _; unfold owns; iexists _; isplitr; swap; · iexact HS0
          ipureintro; rfl
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; unfold owns; iexists _; isplitr; swap; · iexact H5
    ipureintro; rfl
  · iintro ⟨⟨⟨⟨%xs, HS0⟩, HS1, HS2⟩, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ _ _ _ _ h0 (iblk m c 0 t) (iblk m c 1 t) (iblk m c 2 t) (iblk m c 3 t) (iblk m c 4 t) xs).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%f5, H5⟩, HS0, HS1, HS2⟩
    isplitl [HS0 HS1 HS2 Hg]
    · isplitl [HS0 HS1 HS2]
      · isplitl [HS0]
        · iexists _; iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; unfold owns; iexists _; isplitr; swap; · iexact H5
    ipureintro; rfl

theorem body_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets := fun t => by
  rw [bigSep_W0, bigSep_W0, body_row]
  exact triple_restated (sound_body m c t) rfl .rfl fun _ => .rfl

set_option backward.isDefEq.respectTransparency.types false in
/-- The launch: every execution ends, with the inputs as they were and every counter back at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the attention kernel: it ends, its arguments end unchanged, and every counter is back at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ hh c => have h := hh.1; ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ))
    ((θ_run defs _ _).mono (fun _ h => h.2) (run_main m ρ))

end Cert.KernelIdeal.Attn

end
-- ==== Proof.AttnClaims.lean ====
/- The claims about the prompt attention: its launch's frame and that of its reference, and the mask's name. -/
module

public import proofs.«01_k».proof.Defs
public import proofs.«01_k».proof.Proof.AttnFrame
public import proofs.«01_k».proof.Proof.AttnIdealFrame
public import proofs.«01_k».proof.Proof.Gen.ReferenceIdeal.Run
public import Idealize.ShloMosaic.Lib.Claim

@[expose] public section

set_option maxRecDepth 8192

noncomputable section

namespace Cert.Proof.AttnClaims

open Idealize.ShloMosaic Idealize.ShloMosaic.TcCoe Idealize.SL.Sem

/-- The launch ends with its arguments unchanged and every counter at zero, -/
theorem frame : Cert.quiescent_Kernel := fun m g _ => Cert.Kernel.Attn.frame_main m g
/-- over the extended reals too; -/
theorem frame_ideal : Cert.quiescent_KernelIdeal := fun m g _ => Cert.KernelIdeal.Attn.frame_main m g
/-- and so does the reference, which has no counters. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The mask constant is named −∞. -/
theorem preserves : Cert.preserves_Kernel_KernelIdeal :=
  IdealRules.named_const.statement Cert.KernelIdeal.κ "mask" .f32 0xF149F2CA#32 ⊥ rfl

end Cert.Proof.AttnClaims

end
-- ==== Proof.Sweeps.lean ====
/- What a launch leaves that walks over blocks of two arrays, apart from any one launch. First the row normalisation and
   a product with the normalised rows, where the first column block normalises the rows into a carried block and the
   later ones read it. Then a product that is accumulated over the blocks of its contracted axis. Every launch of these
   two kinds applies them with its own numbers of rows, columns and blocks. -/
module

public import Idealize.ShloMosaic.Lib.Pointwise
public import Idealize.ShloMosaic.Lib.Pipeline.Value

@[expose] public section

noncomputable section

namespace Cert.Sweeps

open Idealize.ShloMosaic
open scoped BigOperators

/-- The zero offsets of a whole-block access, on two axes and on three. -/
theorem zero_offsets : (![0, 0] : Fin 2 → Nat) = fun _ => 0 := funext fun a => by fin_cases a <;> rfl
theorem zero_offsets3 : (![0, 0, 0] : Fin 3 → Nat) = fun _ => 0 := funext fun a => by fin_cases a <;> rfl

/-- A place of a two-axis array, from its two coordinates. -/
theorem place {n0 n1 : ℕ} (j : (⟨2, ![n0, n1]⟩ : Shape).Idx) (a : Fin n0) (b : Fin n1) (h0 : (j 0).val = a.val)
    (h1 : (j 1).val = b.val) : j = ix2 a b := by
  rw [eq_ix2 j]
  exact congr (congrArg ix2 (Fin.ext h0)) (Fin.ext h1)

/-! ## A product with normalised rows -/

/-- A row's normalised element, from the row `x`, the gains `g` and a position. -/
def normed (x g : Fin 2048 → EReal) (k : Fin 2048) : EReal :=
  x k * Ideal.rsqrt (Ideal.div (∑ d : Fin 2048, x d * x d) (Ideal.ofBits .f32 0x45000000#32) + Ideal.ofBits .f32 0x358637BD#32) * g k

section Rows

variable {N B nt R Cb C : ℕ} (rows : Fin R → Fin 2048 → EReal) (g : Fin 2048 → EReal) (w : Fin 2048 → Fin C → EReal)
  (lhs carry : (n : ℕ) → n < N → Fin B → Fin 2048 → EReal) (rhs : (n : ℕ) → n < N → Fin 2048 → Fin Cb → EReal)
  (hlhs : ∀ n hn a k (r : Fin R), r.val = B * (n / nt) + a.val → lhs n hn a k = rows r k)
  (hrhs : ∀ n hn k b (c : Fin C), c.val = Cb * (n % nt) + b.val → rhs n hn k b = w k c)
  (first : ∀ n hn, n % nt = 0 → ∀ a k, carry n hn a k = normed (lhs n hn a) g k)
  (later : ∀ n (hn : n + 1 < N), ¬(n + 1) % nt = 0 → ∀ a k, carry (n + 1) hn a k = carry n (Nat.lt_of_succ_lt hn) a k)

include hlhs first later in
/-- After every point the carried block holds the normalised rows of the point's row block. -/
theorem carried_rows : ∀ (n : ℕ) (hn : n < N) (a : Fin B) (k : Fin 2048) (r : Fin R), r.val = B * (n / nt) + a.val →
    carry n hn a k = normed (rows r) g k := by
  have fresh : ∀ n hn, n % nt = 0 → ∀ a k (r : Fin R), r.val = B * (n / nt) + a.val → carry n hn a k = normed (rows r) g k := by
    intro n hn h0 a k r hr
    rw [first n hn h0, show lhs n hn a = rows r from funext fun d => hlhs n hn a d r hr]
  intro n
  induction n with
  | zero => exact fun hn => fresh 0 hn (Nat.zero_mod _)
  | succ n ih =>
    intro hn a k r hr
    by_cases h0 : (n + 1) % nt = 0
    · exact fresh _ hn h0 a k r hr
    · rw [later n hn h0]
      rw [Nat.succ_div_of_not_dvd fun h => h0 (Nat.mod_eq_zero_of_dvd h)] at hr
      exact ih _ a k r hr

include hlhs hrhs first later in
/-- So a point's product with the carried block is the product of the normalised rows. -/
theorem normed_product (n : ℕ) (hn : n < N) (a : Fin B) (b : Fin Cb) (r : Fin R) (c : Fin C) (hr : r.val = B * (n / nt) + a.val)
    (hc : c.val = Cb * (n % nt) + b.val) :
    (∑ k, carry n hn a k * rhs n hn k b : EReal) = ∑ k, normed (rows r) g k * w k c :=
  Finset.sum_congr rfl fun k _ => by
    rw [carried_rows rows g lhs carry hlhs first later n hn a k r hr, hrhs n hn k b c hc]

end Rows

/-! ## A product accumulated over blocks -/

/-- A block that starts as the first of `nk` partial sums and takes on one more at each point holds, after the point `j`,
    the sum over the first `j + 1` blocks of length `L`. -/
theorem accumulated {L nk : ℕ} (f : ℕ → EReal) (carry part : ℕ → EReal) (hpart : ∀ j, j < nk → part j = ∑ k : Fin L, f (L * j + k.val))
    (first : carry 0 = part 0) (step : ∀ j, j + 2 < nk → carry (j + 1) = carry j + part (j + 1)) :
    ∀ j, j + 1 < nk → carry j = ∑ k ∈ Finset.range (L * (j + 1)), f k := by
  intro j
  induction j with
  | zero =>
    intro h
    rw [first, hpart 0 (by omega), Fin.sum_univ_eq_sum_range (fun k => f (L * 0 + k)) L]
    simp
  | succ j ih =>
    intro h
    rw [step j (by omega), ih (by omega), hpart (j + 1) (by omega), Fin.sum_univ_eq_sum_range (fun k => f (L * (j + 1) + k)) L,
      Nat.mul_succ L (j + 1), Finset.sum_range_add]

/-- The last point adds its own partial sum and has the whole. -/
theorem accumulated_all {L nk : ℕ} (f : ℕ → EReal) (carry part : ℕ → EReal) (hpart : ∀ j, j < nk + 2 → part j = ∑ k : Fin L, f (L * j + k.val))
    (first : carry 0 = part 0) (step : ∀ j, j < nk → carry (j + 1) = carry j + part (j + 1)) :
    carry nk + part (nk + 1) = ∑ k : Fin (L * (nk + 2)), f k.val := by
  rw [accumulated f carry part hpart first (fun j hj => step j (by omega)) nk (by omega), hpart (nk + 1) (by omega),
    Fin.sum_univ_eq_sum_range (fun k => f (L * (nk + 1) + k)) L, Fin.sum_univ_eq_sum_range (fun k => f k) (L * (nk + 2)),
    Nat.mul_succ L (nk + 1), Finset.sum_range_add]

/-- So the points from `p` on, whose blocks are the contracted axis' blocks in order, leave a row's product with a column. -/
theorem accumulated_product {N L M nk : ℕ} (p : ℕ) (hM : L * (nk + 2) = M) (x w : Fin M → EReal) (carry : (n : ℕ) → n < N → EReal)
    (lhs rhs : (n : ℕ) → n < N → Fin L → EReal) (hp : p + (nk + 1) < N)
    (hlhs : ∀ j (h : p + j < N), j < nk + 2 → ∀ k (K : Fin M), K.val = L * j + k.val → lhs _ h k = x K)
    (hrhs : ∀ j (h : p + j < N), j < nk + 2 → ∀ k (K : Fin M), K.val = L * j + k.val → rhs _ h k = w K)
    (first : ∀ h : p < N, carry p h = ∑ k, lhs p h k * rhs p h k)
    (step : ∀ j (h : p + j + 1 < N), j < nk →
      carry (p + j + 1) h = carry (p + j) (Nat.lt_of_succ_lt h) + ∑ k, lhs (p + j + 1) h k * rhs (p + j + 1) h k) :
    (carry (p + nk) (Nat.lt_of_succ_lt hp) + ∑ k, lhs (p + nk + 1) hp k * rhs (p + nk + 1) hp k : EReal) = ∑ K, x K * w K := by
  subst hM
  have lt : ∀ j, j < nk + 2 → p + j < N := fun j hj => by omega
  have all := accumulated_all (L := L) (nk := nk) (fun k => if h : k < L * (nk + 2) then x ⟨k, h⟩ * w ⟨k, h⟩ else 0)
    (fun j => if h : p + j < N then carry _ h else 0)
    (fun j => if h : p + j < N then ∑ k, lhs _ h k * rhs _ h k else 0)
    (fun j hj => by
      rw [dif_pos (lt j hj)]
      refine Finset.sum_congr rfl fun k _ => ?_
      have hk : L * j + k.val < L * (nk + 2) := by
        have := Nat.mul_le_mul_left L (show j + 1 ≤ nk + 2 from hj)
        rw [Nat.mul_succ] at this
        omega
      rw [dif_pos hk, hlhs j (lt j hj) hj k ⟨_, hk⟩ rfl, hrhs j (lt j hj) hj k ⟨_, hk⟩ rfl])
    (by
      rw [dif_pos (lt 0 (by omega)), dif_pos (lt 0 (by omega))]
      exact first _)
    (fun j hj => by
      rw [dif_pos (lt j (by omega)), dif_pos (lt (j + 1) (by omega)), dif_pos (lt (j + 1) (by omega))]
      exact step j (lt (j + 1) (by omega)) hj)
  rw [dif_pos (lt nk (by omega)), dif_pos (lt (nk + 1) (by omega))] at all
  refine all.trans (Finset.sum_congr rfl fun k _ => ?_)
  rw [dif_pos k.isLt]

end Cert.Sweeps

end
-- ==== Proof.NormMatmulValue.lean ====
/- The value of the RMS-normalised product with the squared ReLU, at the ideal values: with `x̂[r,k]` the normalised row,
   the result array holds `max(∑ₖ x̂[r,k] · w[k,c], 0)²`. The grid walks 8 row blocks by 4 column blocks; the first column
   block normalises the rows into a carried block, which the others read (Sweeps). -/
module

public import proofs.«01_k».proof.Proof.Gen.Kernel2Ideal.Value
public import proofs.«01_k».proof.Proof.Sweeps

@[expose] public section

set_option maxRecDepth 8192

noncomputable section

namespace Cert.Kernel2Ideal.NormMatmul

open Cert.Kernel2Ideal Cert.Kernel2Ideal.Gen Cert.Kernel2Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S8192x2048.Idx → EReal := m ((c : Thread nD τ).loc main_arg0)
abbrev gains (c : Dev nD) : S2048.Idx → EReal := m ((c : Thread nD τ).loc main_arg1)
abbrev wts (c : Dev nD) : S2048x8192.Idx → EReal := m ((c : Thread nD τ).loc main_arg2)

/-- The blocks of the three arrays at a point, and the carried block and the output block after it. -/
abbrev lhs (c : Dev nD) (n : ℕ) (hn : n < cfg0.N) : Vec Ideal S1024x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S1024x2048 .bf16 := (outsAt0 m c n hn).2
abbrev stored (c : Dev nD) (n : ℕ) (hn : n < cfg0.N) : Vec Ideal S1024x2048 .bf16 := (outsAt0 m c n hn).1

/-! ## What one point computes -/

/-- The first column block normalises the rows into the carried block; -/
theorem carry_first (c : Dev nD) (n : ℕ) (hn : n < cfg0.N) (h0 : n % 4 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S1024x2048) zero_offsets, View.ld_unit_zero (S := S1x2048) zero_offsets]

/-- a later one leaves it. -/
theorem carry_later (c : Dev nD) (n : ℕ) (hn : n + 1 < cfg0.N) (h0 : ¬(n + 1) % 4 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 4 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S1024x2048) _ zero_offsets,
      View.ld_unit_zero (S := S1024x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S1024x2048) zero_offsets, View.ld_unit_zero (S := S2048x2048) zero_offsets]
    rfl

theorem pay1_apply (x : Vec Ideal S1024x2048 .f32) (g : Vec Ideal S1x2048 .f32) (a : Fin 1024) (k : Fin 2048) :
    k0_pay1 x g (ix2 a k) = normed (fun d => x (ix2 a d)) (fun d => g (ix2 (0 : Fin 1) d)) k := by
  pointwise [k0_pay1, normed]

theorem pay2_apply (acc : Vec Ideal S1024x2048 .bf16) (w : Vec Ideal S2048x2048 .bf16) (a : Fin 1024) (b : Fin 2048) :
    k0_pay2 acc w (ix2 a b) = (max (∑ k : Fin 2048, acc (ix2 a k) * w (ix2 k b)) 0
      * max (∑ k : Fin 2048, acc (ix2 a k) * w (ix2 k b)) 0 : EReal) := by
  pointwise [k0_pay2]

/-! ## The blocks a point sees -/

/-- Point `t`'s block indices: row block `t / 4`, column block `t % 4`; the gains whole. -/
theorem indices : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4) :=
  (by decide +kernel : ∀ t : Fin grid0.N, _)

theorem lhs_blk (c : Dev nD) (n : ℕ) (hn : n < cfg0.N) (a : Fin 1024) (k : Fin 2048) (R : Fin 8192)
    (hR : R.val = 1024 * (n / 4) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 1024 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 8192)
    (hC : C.val = 2048 * (n % 4) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element, -/
def product (c : Dev nD) (R C : Fin 8192) : EReal :=
  ∑ k : Fin 2048, normed (fun d => rows m c (ix2 R d)) (fun d => gains m c (ix1 d)) k * wts m c (ix2 k C)

/-- and what a point stores of it. -/
theorem stored_apply (c : Dev nD) (n : ℕ) (hn : n < cfg0.N) (a : Fin 1024) (b : Fin 2048) (R C : Fin 8192)
    (hR : R.val = 1024 * (n / 4) + a.val) (hC : C.val = 2048 * (n % 4) + b.val) :
    stored m c n hn (ix2 a b) = max (product m c R C) 0 * max (product m c R C) 0 := by
  rw [stored_eq, pay2_apply]
  unfold product
  rw [normed_product (B := 1024) (nt := 4) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC]

/-- THE RESULT ARRAY, element by element. -/
theorem result_apply (c : Dev nD) (R C : Fin 8192) : G3 m c (ix2 R C) = max (product m c R C) 0 * max (product m c R C) 0 := by
  have hR := R.isLt
  have hC := C.isLt
  have hp : pt3Of (ix2 R C) = 4 * (R.val / 1024) + C.val / 2048 := by
    show 4 * (R.val / 1024 - 0) + 1 * (C.val / 2048 - 0) = _; omega
  have hN : cfg0.N = 32 := N_0
  have hlt : pt3Of (ix2 R C) < cfg0.N := by omega
  unfold G3
  rw [dif_pos hlt, ← outsAt0_sweep m c _ hlt,
    place (loc3Of (ix2 R C)) (⟨R.val % 1024, by omega⟩ : Fin 1024) (⟨C.val % 2048, by omega⟩ : Fin 2048) rfl rfl]
  exact stored_apply m c _ hlt _ _ R C (by dsimp only; omega) (by dsimp only; omega)

end Cert.Kernel2Ideal.NormMatmul

end
-- ==== Proof.ResidualValue.lean ====
/- The value of the product with a residual, at the ideal values: what the launch leaves in its result array is, at row
   `r` and column `c`, `x[r,c] + ∑ₖ hid[r,k] · w[k,c]`. The grid walks 8 row blocks by 2 column blocks by 4 blocks of
   the contracted axis; a carried block accumulates the partial products and the last point adds the residual (Sweeps). -/
module

public import proofs.«01_k».proof.Proof.Gen.Kernel3Ideal.Value
public import proofs.«01_k».proof.Proof.Sweeps

@[expose] public section

set_option maxRecDepth 8192

noncomputable section

namespace Cert.Kernel3Ideal.Residual

open Cert.Kernel3Ideal Cert.Kernel3Ideal.Gen Cert.Kernel3Ideal.Value Cert.Sweeps
open Idealize.ShloMosaic Idealize.ShloMosaic.TcCoe Idealize.SL.Sem
open scoped BigOperators

variable (m : (ℓ : Loc nD τ sig) → Buf (Elt Ideal) ℓ)

/-- The left factor, the right factor and the residual as arrays. -/
abbrev hid (c : Dev nD) : S8192x8192.Idx → EReal := m ((c : Thread nD τ).loc main_arg0)
abbrev wts (c : Dev nD) : S8192x2048.Idx → EReal := m ((c : Thread nD τ).loc main_arg1)
abbrev res (c : Dev nD) : S8192x2048.Idx → EReal := m ((c : Thread nD τ).loc main_arg2)

/-- The blocks of the three arrays at a point, and the carried block and the output block after it. -/
abbrev lhs (c : Dev nD) (n : ℕ) (hn : n < cfg0.N) : Vec Ideal S1024x2048 .bf16 := iblk m c 0 ⟨n, hn⟩
abbrev rhs (c : Dev nD) (n : ℕ) (hn : n < cfg0.N) : Vec Ideal S2048x1024 .bf16 := iblk m c 1 ⟨n, hn⟩
abbrev add (c : Dev nD) (n : ℕ) (hn : n < cfg0.N) : Vec Ideal S1024x1024 .f32 := iblk m c 2 ⟨n, hn⟩
abbrev carry (c : Dev nD) (n : ℕ) (hn : n < cfg0.N) : Vec Ideal S1024x1024 .f32 := (outsAt0 m c n hn).2
abbrev stored (c : Dev nD) (n : ℕ) (hn : n < cfg0.N) : Vec Ideal S1024x1024 .f32 := (outsAt0 m c n hn).1

/-! ## What one point computes -/

/-- The first block of the contracted axis resets the accumulator and adds its product, -/
theorem carry_first (c : Dev nD) (n : ℕ) (hn : n < cfg0.N) (h0 : n % 4 = 0) :
    carry m c n hn = k0_pay2 k0_pay1 (lhs m c n hn) (rhs m c n hn) := by
  unfold carry
  rw [outsAt0_A m c ⟨n, hn⟩ h0 (by dsimp only; omega)]
  dsimp only
  unfold sout0_A_0
  rw [View.read_writes_eq_canon _ _ _ (scover0_A_0 _ _ _ _ _ _ _ _ _ _ _ _ _ _ _ _ _)]
  unfold kernelRun0_A
  dsimp only
  sl_unfold_words
  rw [View.canon_cons_unit_zero (S := S1024x1024) zero_offsets, View.readCov_unit_zero (S := S1024x1024) _ zero_offsets]
  simp only [View.readAt_eq_ld, Memref.IsWhole.read_unread (hs0_0 _), Memref.IsWhole.read_unread (hs0_1 _),
    View.ld_unit_zero (S := S1024x2048) zero_offsets, View.ld_unit_zero (S := S2048x1024) zero_offsets]

/-- a middle block adds its product, -/
theorem carry_middle (c : Dev nD) (n : ℕ) (hn : n + 1 < cfg0.N) (h0 : ¬(n + 1) % 4 = 0) (h1 : ¬(n + 1) % 4 = 3) :
    carry m c (n + 1) hn = k0_pay2 (carry m c n (Nat.lt_of_succ_lt hn)) (lhs m c (n + 1) hn) (rhs m c (n + 1) hn) := by
  unfold carry
  rw [outsAt0_B m c ⟨n + 1, hn⟩ h0 h1]
  dsimp only
  unfold sout0_B_0
  rw [View.read_writes_eq_canon _ _ _ (scover0_B_0 _ _ _ _ _ _ _ _ _ _ _ _ _ _ _ _ _ _)]
  unfold kernelRun0_B
  dsimp only
  sl_unfold_words
  rw [View.canon_unit_zero zero_offsets]
  simp only [View.readAt_eq_ld, Memref.IsWhole.read_unread (hs0_0 _), Memref.IsWhole.read_unread (hs0_1 _),
    Memref.IsWhole.read_unread (Memref.isWhole_whole _), View.ld_unit_zero (S := S1024x2048) zero_offsets,
    View.ld_unit_zero (S := S2048x1024) zero_offsets, View.ld_unit_zero (S := S1024x1024) zero_offsets]
  rfl

/-- and the last block adds its product and stores the accumulator added to the residual. -/
theorem stored_last (c : Dev nD) (n : ℕ) (hn : n + 1 < cfg0.N) (h1 : (n + 1) % 4 = 3) :
    stored m c (n + 1) hn
      = k0_pay3 (add m c (n + 1) hn) (k0_pay2 (carry m c n (Nat.lt_of_succ_lt hn)) (lhs m c (n + 1) hn) (rhs m c (n + 1) hn)) := by
  unfold stored carry
  rw [outsAt0_C m c ⟨n + 1, hn⟩ (by dsimp only; omega) h1]
  dsimp only
  unfold out0_C_3
  rw [View.read_writes_eq_canon _ _ _ (cover0_C_3 _ _ _ _ _ _ _ _ _ _ _ _ _ _ _ _ _ _)]
  unfold kernelRun0_C
  dsimp only
  sl_unfold_words
  rw [View.canon_unit_zero zero_offsets]
  simp only [View.readAt_eq_ld, Memref.IsWhole.read_unread (hs0_0 _), Memref.IsWhole.read_unread (hs0_1 _),
    Memref.IsWhole.read_unread (hs0_2 _), Memref.IsWhole.read_unread (Memref.isWhole_whole _),
    View.readCov_unit_zero (S := S1024x1024) _ zero_offsets, View.ld_unit_zero (S := S1024x2048) zero_offsets,
    View.ld_unit_zero (S := S2048x1024) zero_offsets, View.ld_unit_zero (S := S1024x1024) zero_offsets]
  rfl

/-- The accumulating payload at an element, -/
theorem pay2_apply (acc : Vec Ideal S1024x1024 .f32) (x : Vec Ideal S1024x2048 .bf16) (w : Vec Ideal S2048x1024 .bf16)
    (a b : Fin 1024) : k0_pay2 acc x w (ix2 a b) = acc (ix2 a b) + ∑ k : Fin 2048, x (ix2 a k) * w (ix2 k b) := by
  pointwise [k0_pay2]

/-- and the first point's, whose reset is zero. -/
theorem pay2_reset (x : Vec Ideal S1024x2048 .bf16) (w : Vec Ideal S2048x1024 .bf16) (a b : Fin 1024) :
    k0_pay2 k0_pay1 x w (ix2 a b) = (∑ k : Fin 2048, x (ix2 a k) * w (ix2 k b) : EReal) := by
  rw [pay2_apply]
  unfold k0_pay1
  simp only [shapeCast_self]
  refine Eq.trans ?_ (zero_add _)
  congr 1
  exact Ideal.ofBits_zero_f32

/-- The last payload adds the residual. -/
theorem pay3_apply (r acc : Vec Ideal S1024x1024 .f32) (j : S1024x1024.Idx) : k0_pay3 r acc j = (r j + acc j : EReal) := rfl

/-! ## The blocks a point sees -/

/-- Point `t`'s block indices: row block `t / 8`, column block `t / 4 % 2`, contraction block `t % 4`. -/
theorem indices : ∀ t : Fin cfg0.N,
    (win0_0.index t (0 : Fin 2) = t.val / 8 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2) :=
  (by decide +kernel : ∀ t : Fin grid0.N, _)

theorem lhs_blk (c : Dev nD) (n : ℕ) (hn : n < cfg0.N) (a : Fin 1024) (k : Fin 2048) (R K : Fin 8192)
    (hR : R.val = 1024 * (n / 8) + a.val) (hK : K.val = 2048 * (n % 4) + k.val) : lhs m c n hn (ix2 a k) = hid m c (ix2 R K) := by
  obtain ⟨⟨e0, e1⟩, -, -⟩ := indices ⟨n, hn⟩
  refine (congrFun (V_main_arg0 m c) _).trans (congrArg (hid m c) (place _ R K ?_ ?_))
  · show win0_0.index ⟨n, hn⟩ (0 : Fin 2) * 1024 + 1 * a.val = R.val; dsimp only at e0; omega
  · show win0_0.index ⟨n, hn⟩ (1 : Fin 2) * 2048 + 1 * k.val = K.val; dsimp only at e1; omega

theorem rhs_blk (c : Dev nD) (n : ℕ) (hn : n < cfg0.N) (k : Fin 2048) (b : Fin 1024) (K : Fin 8192) (C : Fin 2048)
    (hK : K.val = 2048 * (n % 4) + k.val) (hC : C.val = 1024 * (n / 4 % 2) + b.val) : rhs m c n hn (ix2 k b) = wts m c (ix2 K C) := by
  obtain ⟨-, ⟨e0, e1⟩, -⟩ := indices ⟨n, hn⟩
  refine (congrFun (V_main_arg1 m c) _).trans (congrArg (wts m c) (place _ K C ?_ ?_))
  · show win0_1.index ⟨n, hn⟩ (0 : Fin 2) * 2048 + 1 * k.val = K.val; dsimp only at e0; omega
  · show win0_1.index ⟨n, hn⟩ (1 : Fin 2) * 1024 + 1 * b.val = C.val; dsimp only at e1; omega

theorem res_blk (c : Dev nD) (n : ℕ) (hn : n < cfg0.N) (a b : Fin 1024) (R : Fin 8192) (C : Fin 2048)
    (hR : R.val = 1024 * (n / 8) + a.val) (hC : C.val = 1024 * (n / 4 % 2) + b.val) : add m c n hn (ix2 a b) = res m c (ix2 R C) := by
  obtain ⟨-, -, ⟨e0, e1⟩⟩ := indices ⟨n, hn⟩
  refine (congrFun (V_main_arg2 m c) _).trans (congrArg (res m c) (place _ R C ?_ ?_))
  · show win0_2.index ⟨n, hn⟩ (0 : Fin 2) * 1024 + 1 * a.val = R.val; dsimp only at e0; omega
  · show win0_2.index ⟨n, hn⟩ (1 : Fin 2) * 1024 + 1 * b.val = C.val; dsimp only at e1; omega

/-! ## The result -/

/-- What a block's last point stores is the whole product added to the residual. -/
theorem stored_apply (c : Dev nD) (q : ℕ) (hn : 4 * q + 3 < cfg0.N) (a b : Fin 1024) (R : Fin 8192) (C : Fin 2048)
    (hR : R.val = 1024 * (q / 2) + a.val) (hC : C.val = 1024 * (q % 2) + b.val) :
    stored m c (4 * q + 3) hn (ix2 a b) = res m c (ix2 R C) + ∑ k : Fin 8192, hid m c (ix2 R k) * wts m c (ix2 k C) := by
  rw [stored_last m c (4 * q + 2) hn (by omega), pay3_apply, pay2_apply, res_blk m c _ _ a b R C (by omega) (by omega)]
  exact congrArg _ (accumulated_product (L := 2048) (nk := 2) (4 * q) rfl (fun K => hid m c (ix2 R K)) (fun K => wts m c (ix2 K C))
    (fun n h => carry m c n h (ix2 a b)) (fun n h k => lhs m c n h (ix2 a k)) (fun n h k => rhs m c n h (ix2 k b)) hn
    (fun j h hj k K hK => lhs_blk m c _ h a k R K (by omega) (by omega))
    (fun j h hj k K hK => rhs_blk m c _ h k b K C (by omega) (by omega))
    (fun h => by rw [carry_first m c _ h (by omega), pay2_reset])
    (fun j h hj => by
      rw [← pay2_apply]
      exact congrFun (carry_middle m c (4 * q + j) h (by omega) (by omega)) _))

/-- THE RESULT ARRAY, element by element. -/
theorem result_apply (c : Dev nD) (R : Fin 8192) (C : Fin 2048) :
    G3 m c (ix2 R C) = res m c (ix2 R C) + ∑ k : Fin 8192, hid m c (ix2 R k) * wts m c (ix2 k C) := by
  have hR := R.isLt
  have hC := C.isLt
  have hp : pt3Of (ix2 R C) = 4 * (2 * (R.val / 1024) + C.val / 1024) + 3 := by
    show 4 * (2 * (R.val / 1024 - 0) + 1 * (C.val / 1024 - 0)) + 3 = _; omega
  have hN : cfg0.N = 64 := N_0
  have hlt : 4 * (2 * (R.val / 1024) + C.val / 1024) + 3 < cfg0.N := by omega
  unfold G3
  rw [dif_pos (hp ▸ hlt), ← outsAt0_sweep m c _ (hp ▸ hlt),
    place (loc3Of (ix2 R C)) (⟨R.val % 1024, by omega⟩ : Fin 1024) (⟨C.val % 1024, by omega⟩ : Fin 1024) rfl rfl]
  simp only [hp]
  exact stored_apply m c _ hlt _ _ R C (by dsimp only; omega) (by dsimp only; omega)

end Cert.Kernel3Ideal.Residual

end
-- ==== Proof.MlpSampleUpValue.lean ====
/- The value of the RMS-normalised product with the squared ReLU for the sample, at the ideal values: with `x̂[r,k]` the
   normalised row, the result array holds `max(∑ₖ x̂[r,k] · w[k,c], 0)²`. All 32 rows are one block, which the first of
   4 column blocks normalises into a carried block, and which the others read (Sweeps). -/
module

public import proofs.«01_k».proof.Proof.Gen.Kernel13Ideal.Value
public import proofs.«01_k».proof.Proof.Sweeps

@[expose] public section

set_option maxRecDepth 8192

noncomputable section

namespace Cert.Kernel13Ideal.NormMatmul

open Cert.Kernel13Ideal Cert.Kernel13Ideal.Gen Cert.Kernel13Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S32x2048.Idx → EReal := m ((c : Thread nD τ).loc main_arg0)
abbrev gains (c : Dev nD) : S2048.Idx → EReal := m ((c : Thread nD τ).loc main_arg1)
abbrev wts (c : Dev nD) : S2048x8192.Idx → EReal := m ((c : Thread nD τ).loc main_arg2)

/-- The blocks of the three arrays at a point, and the carried block and the output block after it. -/
abbrev lhs (c : Dev nD) (n : ℕ) (hn : n < cfg0.N) : Vec Ideal S32x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S32x2048 .bf16 := (outsAt0 m c n hn).2
abbrev stored (c : Dev nD) (n : ℕ) (hn : n < cfg0.N) : Vec Ideal S32x2048 .bf16 := (outsAt0 m c n hn).1

/-! ## What one point computes -/

/-- The first column block normalises the rows into the carried block; -/
theorem carry_first (c : Dev nD) (n : ℕ) (hn : n < cfg0.N) (h0 : n % 4 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S32x2048) zero_offsets, View.ld_unit_zero (S := S1x2048) zero_offsets]

/-- a later one leaves it. -/
theorem carry_later (c : Dev nD) (n : ℕ) (hn : n + 1 < cfg0.N) (h0 : ¬(n + 1) % 4 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 4 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S32x2048) _ zero_offsets,
      View.ld_unit_zero (S := S32x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S32x2048) zero_offsets, View.ld_unit_zero (S := S2048x2048) zero_offsets]
    rfl

theorem pay1_apply (x : Vec Ideal S32x2048 .f32) (g : Vec Ideal S1x2048 .f32) (a : Fin 32) (k : Fin 2048) :
    k0_pay1 x g (ix2 a k) = normed (fun d => x (ix2 a d)) (fun d => g (ix2 (0 : Fin 1) d)) k := by
  pointwise [k0_pay1, normed]

theorem pay2_apply (acc : Vec Ideal S32x2048 .bf16) (w : Vec Ideal S2048x2048 .bf16) (a : Fin 32) (b : Fin 2048) :
    k0_pay2 acc w (ix2 a b) = (max (∑ k : Fin 2048, acc (ix2 a k) * w (ix2 k b)) 0
      * max (∑ k : Fin 2048, acc (ix2 a k) * w (ix2 k b)) 0 : EReal) := by
  pointwise [k0_pay2]

/-! ## The blocks a point sees -/

/-- Point `t`'s block indices: row block `t / 4`, column block `t % 4`; the gains whole. -/
theorem indices : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4) :=
  (by decide +kernel : ∀ t : Fin grid0.N, _)

theorem lhs_blk (c : Dev nD) (n : ℕ) (hn : n < cfg0.N) (a : Fin 32) (k : Fin 2048) (R : Fin 32)
    (hR : R.val = 32 * (n / 4) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 32 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 8192)
    (hC : C.val = 2048 * (n % 4) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element, -/
def product (c : Dev nD) (R : Fin 32) (C : Fin 8192) : EReal :=
  ∑ k : Fin 2048, normed (fun d => rows m c (ix2 R d)) (fun d => gains m c (ix1 d)) k * wts m c (ix2 k C)

/-- and what a point stores of it. -/
theorem stored_apply (c : Dev nD) (n : ℕ) (hn : n < cfg0.N) (a : Fin 32) (b : Fin 2048) (R : Fin 32) (C : Fin 8192)
    (hR : R.val = 32 * (n / 4) + a.val) (hC : C.val = 2048 * (n % 4) + b.val) :
    stored m c n hn (ix2 a b) = max (product m c R C) 0 * max (product m c R C) 0 := by
  rw [stored_eq, pay2_apply]
  unfold product
  rw [normed_product (B := 32) (nt := 4) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC]

/-- THE RESULT ARRAY, element by element. -/
theorem result_apply (c : Dev nD) (R : Fin 32) (C : Fin 8192) : G3 m c (ix2 R C) = max (product m c R C) 0 * max (product m c R C) 0 := by
  have hR := R.isLt
  have hC := C.isLt
  have hp : pt3Of (ix2 R C) = 4 * (R.val / 32) + C.val / 2048 := by
    show 4 * (R.val / 32 - 0) + 1 * (C.val / 2048 - 0) = _; omega
  have hN : cfg0.N = 4 := N_0
  have hlt : pt3Of (ix2 R C) < cfg0.N := by omega
  unfold G3
  rw [dif_pos hlt, ← outsAt0_sweep m c _ hlt,
    place (loc3Of (ix2 R C)) (⟨R.val % 32, by omega⟩ : Fin 32) (⟨C.val % 2048, by omega⟩ : Fin 2048) rfl rfl]
  exact stored_apply m c _ hlt _ _ R C (by dsimp only; omega) (by dsimp only; omega)

end Cert.Kernel13Ideal.NormMatmul

end
-- ==== Proof.MlpSampleDownValue.lean ====
/- The value of the product with a residual for the sample, at the ideal values: what the launch leaves in its result array
   is, at row `r` and column `c`, `x[r,c] + ∑ₖ hid[r,k] · w[k,c]`. All 32 rows are one block; the grid walks 2 column blocks
   by 4 blocks of the contracted axis. A carried block accumulates the partial products and the last point adds the
   residual (Sweeps). -/
module

public import proofs.«01_k».proof.Proof.Gen.Kernel14Ideal.Value
public import proofs.«01_k».proof.Proof.Sweeps

@[expose] public section

set_option maxRecDepth 8192

noncomputable section

namespace Cert.Kernel14Ideal.Residual

open Cert.Kernel14Ideal Cert.Kernel14Ideal.Gen Cert.Kernel14Ideal.Value Cert.Sweeps
open Idealize.ShloMosaic Idealize.ShloMosaic.TcCoe Idealize.SL.Sem
open scoped BigOperators

variable (m : (ℓ : Loc nD τ sig) → Buf (Elt Ideal) ℓ)

/-- The left factor, the right factor and the residual as arrays. -/
abbrev hid (c : Dev nD) : S32x8192.Idx → EReal := m ((c : Thread nD τ).loc main_arg0)
abbrev wts (c : Dev nD) : S8192x2048.Idx → EReal := m ((c : Thread nD τ).loc main_arg1)
abbrev res (c : Dev nD) : S32x2048.Idx → EReal := m ((c : Thread nD τ).loc main_arg2)

/-- The blocks of the three arrays at a point, and the carried block and the output block after it. -/
abbrev lhs (c : Dev nD) (n : ℕ) (hn : n < cfg0.N) : Vec Ideal S32x2048 .bf16 := iblk m c 0 ⟨n, hn⟩
abbrev rhs (c : Dev nD) (n : ℕ) (hn : n < cfg0.N) : Vec Ideal S2048x1024 .bf16 := iblk m c 1 ⟨n, hn⟩
abbrev add (c : Dev nD) (n : ℕ) (hn : n < cfg0.N) : Vec Ideal S32x1024 .f32 := iblk m c 2 ⟨n, hn⟩
abbrev carry (c : Dev nD) (n : ℕ) (hn : n < cfg0.N) : Vec Ideal S32x1024 .f32 := (outsAt0 m c n hn).2
abbrev stored (c : Dev nD) (n : ℕ) (hn : n < cfg0.N) : Vec Ideal S32x1024 .f32 := (outsAt0 m c n hn).1

/-! ## What one point computes -/

/-- The first block of the contracted axis resets the accumulator and adds its product, -/
theorem carry_first (c : Dev nD) (n : ℕ) (hn : n < cfg0.N) (h0 : n % 4 = 0) :
    carry m c n hn = k0_pay2 k0_pay1 (lhs m c n hn) (rhs m c n hn) := by
  unfold carry
  rw [outsAt0_A m c ⟨n, hn⟩ h0 (by dsimp only; omega)]
  dsimp only
  unfold sout0_A_0
  rw [View.read_writes_eq_canon _ _ _ (scover0_A_0 _ _ _ _ _ _ _ _ _ _ _ _ _ _ _ _ _)]
  unfold kernelRun0_A
  dsimp only
  sl_unfold_words
  rw [View.canon_cons_unit_zero (S := S32x1024) zero_offsets, View.readCov_unit_zero (S := S32x1024) _ zero_offsets]
  simp only [View.readAt_eq_ld, Memref.IsWhole.read_unread (hs0_0 _), Memref.IsWhole.read_unread (hs0_1 _),
    View.ld_unit_zero (S := S32x2048) zero_offsets, View.ld_unit_zero (S := S2048x1024) zero_offsets]

/-- a middle block adds its product, -/
theorem carry_middle (c : Dev nD) (n : ℕ) (hn : n + 1 < cfg0.N) (h0 : ¬(n + 1) % 4 = 0) (h1 : ¬(n + 1) % 4 = 3) :
    carry m c (n + 1) hn = k0_pay2 (carry m c n (Nat.lt_of_succ_lt hn)) (lhs m c (n + 1) hn) (rhs m c (n + 1) hn) := by
  unfold carry
  rw [outsAt0_B m c ⟨n + 1, hn⟩ h0 h1]
  dsimp only
  unfold sout0_B_0
  rw [View.read_writes_eq_canon _ _ _ (scover0_B_0 _ _ _ _ _ _ _ _ _ _ _ _ _ _ _ _ _ _)]
  unfold kernelRun0_B
  dsimp only
  sl_unfold_words
  rw [View.canon_unit_zero zero_offsets]
  simp only [View.readAt_eq_ld, Memref.IsWhole.read_unread (hs0_0 _), Memref.IsWhole.read_unread (hs0_1 _),
    Memref.IsWhole.read_unread (Memref.isWhole_whole _), View.ld_unit_zero (S := S32x2048) zero_offsets,
    View.ld_unit_zero (S := S2048x1024) zero_offsets, View.ld_unit_zero (S := S32x1024) zero_offsets]
  rfl

/-- and the last block adds its product and stores the accumulator added to the residual. -/
theorem stored_last (c : Dev nD) (n : ℕ) (hn : n + 1 < cfg0.N) (h1 : (n + 1) % 4 = 3) :
    stored m c (n + 1) hn
      = k0_pay3 (add m c (n + 1) hn) (k0_pay2 (carry m c n (Nat.lt_of_succ_lt hn)) (lhs m c (n + 1) hn) (rhs m c (n + 1) hn)) := by
  unfold stored carry
  rw [outsAt0_C m c ⟨n + 1, hn⟩ (by dsimp only; omega) h1]
  dsimp only
  unfold out0_C_3
  rw [View.read_writes_eq_canon _ _ _ (cover0_C_3 _ _ _ _ _ _ _ _ _ _ _ _ _ _ _ _ _ _)]
  unfold kernelRun0_C
  dsimp only
  sl_unfold_words
  rw [View.canon_unit_zero zero_offsets]
  simp only [View.readAt_eq_ld, Memref.IsWhole.read_unread (hs0_0 _), Memref.IsWhole.read_unread (hs0_1 _),
    Memref.IsWhole.read_unread (hs0_2 _), Memref.IsWhole.read_unread (Memref.isWhole_whole _),
    View.readCov_unit_zero (S := S32x1024) _ zero_offsets, View.ld_unit_zero (S := S32x2048) zero_offsets,
    View.ld_unit_zero (S := S2048x1024) zero_offsets, View.ld_unit_zero (S := S32x1024) zero_offsets]
  rfl

/-- The accumulating payload at an element, -/
theorem pay2_apply (acc : Vec Ideal S32x1024 .f32) (x : Vec Ideal S32x2048 .bf16) (w : Vec Ideal S2048x1024 .bf16)
    (a : Fin 32) (b : Fin 1024) : k0_pay2 acc x w (ix2 a b) = acc (ix2 a b) + ∑ k : Fin 2048, x (ix2 a k) * w (ix2 k b) := by
  pointwise [k0_pay2]

/-- and the first point's, whose reset is zero. -/
theorem pay2_reset (x : Vec Ideal S32x2048 .bf16) (w : Vec Ideal S2048x1024 .bf16) (a : Fin 32) (b : Fin 1024) :
    k0_pay2 k0_pay1 x w (ix2 a b) = (∑ k : Fin 2048, x (ix2 a k) * w (ix2 k b) : EReal) := by
  rw [pay2_apply]
  unfold k0_pay1
  simp only [shapeCast_self]
  refine Eq.trans ?_ (zero_add _)
  congr 1
  exact Ideal.ofBits_zero_f32

/-- The last payload adds the residual. -/
theorem pay3_apply (r acc : Vec Ideal S32x1024 .f32) (j : S32x1024.Idx) : k0_pay3 r acc j = (r j + acc j : EReal) := rfl

/-! ## The blocks a point sees -/

/-- Point `t`'s block indices: row block `t / 8`, which is zero, column block `t / 4 % 2`, contraction block `t % 4`. -/
theorem indices : ∀ t : Fin cfg0.N,
    (win0_0.index t (0 : Fin 2) = t.val / 8 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2) :=
  (by decide +kernel : ∀ t : Fin grid0.N, _)

theorem lhs_blk (c : Dev nD) (n : ℕ) (hn : n < cfg0.N) (a : Fin 32) (k : Fin 2048) (R : Fin 32) (K : Fin 8192)
    (hR : R.val = 32 * (n / 8) + a.val) (hK : K.val = 2048 * (n % 4) + k.val) : lhs m c n hn (ix2 a k) = hid m c (ix2 R K) := by
  obtain ⟨⟨e0, e1⟩, -, -⟩ := indices ⟨n, hn⟩
  refine (congrFun (V_main_arg0 m c) _).trans (congrArg (hid m c) (place _ R K ?_ ?_))
  · show win0_0.index ⟨n, hn⟩ (0 : Fin 2) * 32 + 1 * a.val = R.val; dsimp only at e0; omega
  · show win0_0.index ⟨n, hn⟩ (1 : Fin 2) * 2048 + 1 * k.val = K.val; dsimp only at e1; omega

theorem rhs_blk (c : Dev nD) (n : ℕ) (hn : n < cfg0.N) (k : Fin 2048) (b : Fin 1024) (K : Fin 8192) (C : Fin 2048)
    (hK : K.val = 2048 * (n % 4) + k.val) (hC : C.val = 1024 * (n / 4 % 2) + b.val) : rhs m c n hn (ix2 k b) = wts m c (ix2 K C) := by
  obtain ⟨-, ⟨e0, e1⟩, -⟩ := indices ⟨n, hn⟩
  refine (congrFun (V_main_arg1 m c) _).trans (congrArg (wts m c) (place _ K C ?_ ?_))
  · show win0_1.index ⟨n, hn⟩ (0 : Fin 2) * 2048 + 1 * k.val = K.val; dsimp only at e0; omega
  · show win0_1.index ⟨n, hn⟩ (1 : Fin 2) * 1024 + 1 * b.val = C.val; dsimp only at e1; omega

theorem res_blk (c : Dev nD) (n : ℕ) (hn : n < cfg0.N) (a : Fin 32) (b : Fin 1024) (R : Fin 32) (C : Fin 2048)
    (hR : R.val = 32 * (n / 8) + a.val) (hC : C.val = 1024 * (n / 4 % 2) + b.val) : add m c n hn (ix2 a b) = res m c (ix2 R C) := by
  obtain ⟨-, -, ⟨e0, e1⟩⟩ := indices ⟨n, hn⟩
  refine (congrFun (V_main_arg2 m c) _).trans (congrArg (res m c) (place _ R C ?_ ?_))
  · show win0_2.index ⟨n, hn⟩ (0 : Fin 2) * 32 + 1 * a.val = R.val; dsimp only at e0; omega
  · show win0_2.index ⟨n, hn⟩ (1 : Fin 2) * 1024 + 1 * b.val = C.val; dsimp only at e1; omega

/-! ## The result -/

/-- What a block's last point stores is the whole product added to the residual. -/
theorem stored_apply (c : Dev nD) (q : ℕ) (hn : 4 * q + 3 < cfg0.N) (a : Fin 32) (b : Fin 1024) (R : Fin 32) (C : Fin 2048)
    (hR : R.val = 32 * (q / 2) + a.val) (hC : C.val = 1024 * (q % 2) + b.val) :
    stored m c (4 * q + 3) hn (ix2 a b) = res m c (ix2 R C) + ∑ k : Fin 8192, hid m c (ix2 R k) * wts m c (ix2 k C) := by
  rw [stored_last m c (4 * q + 2) hn (by omega), pay3_apply, pay2_apply, res_blk m c _ _ a b R C (by omega) (by omega)]
  exact congrArg _ (accumulated_product (L := 2048) (nk := 2) (4 * q) rfl (fun K => hid m c (ix2 R K)) (fun K => wts m c (ix2 K C))
    (fun n h => carry m c n h (ix2 a b)) (fun n h k => lhs m c n h (ix2 a k)) (fun n h k => rhs m c n h (ix2 k b)) hn
    (fun j h hj k K hK => lhs_blk m c _ h a k R K (by omega) (by omega))
    (fun j h hj k K hK => rhs_blk m c _ h k b K C (by omega) (by omega))
    (fun h => by rw [carry_first m c _ h (by omega), pay2_reset])
    (fun j h hj => by
      rw [← pay2_apply]
      exact congrFun (carry_middle m c (4 * q + j) h (by omega) (by omega)) _))

/-- THE RESULT ARRAY, element by element. -/
theorem result_apply (c : Dev nD) (R : Fin 32) (C : Fin 2048) :
    G3 m c (ix2 R C) = res m c (ix2 R C) + ∑ k : Fin 8192, hid m c (ix2 R k) * wts m c (ix2 k C) := by
  have hR := R.isLt
  have hC := C.isLt
  have hp : pt3Of (ix2 R C) = 4 * (2 * (R.val / 32) + C.val / 1024) + 3 := by
    show 4 * (2 * (R.val / 32 - 0) + 1 * (C.val / 1024 - 0)) + 3 = _; omega
  have hN : cfg0.N = 8 := N_0
  have hlt : 4 * (2 * (R.val / 32) + C.val / 1024) + 3 < cfg0.N := by omega
  unfold G3
  rw [dif_pos (hp ▸ hlt), ← outsAt0_sweep m c _ (hp ▸ hlt),
    place (loc3Of (ix2 R C)) (⟨R.val % 32, by omega⟩ : Fin 32) (⟨C.val % 1024, by omega⟩ : Fin 1024) rfl rfl]
  simp only [hp]
  exact stored_apply m c _ hlt _ _ R C (by dsimp only; omega) (by dsimp only; omega)

end Cert.Kernel14Ideal.Residual

end
-- ==== Proof.MlpClaims.lean ====
/- The claims about the two products of the MLP, of the prompt and of the sample: each launch's frame, and its result
   beside the reference's. -/
module

public import proofs.«01_k».proof.Defs
public import proofs.«01_k».proof.Proof.Gen.Kernel2.Frame
public import proofs.«01_k».proof.Proof.Gen.Kernel3.Frame
public import proofs.«01_k».proof.Proof.Gen.Kernel13.Frame
public import proofs.«01_k».proof.Proof.Gen.Kernel14.Frame
public import proofs.«01_k».proof.Proof.NormMatmulValue
public import proofs.«01_k».proof.Proof.ResidualValue
public import proofs.«01_k».proof.Proof.MlpSampleUpValue
public import proofs.«01_k».proof.Proof.MlpSampleDownValue
public import proofs.«01_k».proof.Proof.Gen.Reference2Ideal.Run
public import proofs.«01_k».proof.Proof.Gen.Reference3Ideal.Run
public import proofs.«01_k».proof.Proof.Gen.Reference13Ideal.Run
public import proofs.«01_k».proof.Proof.Gen.Reference14Ideal.Run
public import Idealize.ShloMosaic.Lib.Claim

@[expose] public section

set_option maxRecDepth 8192

noncomputable section

namespace Cert.Proof.MlpClaims

open Idealize.ShloMosaic Idealize.ShloMosaic.TcCoe Idealize.SL.Sem

/-! ## Frames -/

/-- Each launch ends with its arguments unchanged and every counter at zero. -/
theorem frame_norm : Cert.quiescent_Kernel2 := fun m g _ => Cert.Kernel2.Gen.frame m g
theorem frame_norm_ideal : Cert.quiescent_Kernel2Ideal := fun m g _ => Cert.Kernel2Ideal.Gen.frame m g
theorem frame_residual : Cert.quiescent_Kernel3 := fun m g _ => Cert.Kernel3.Gen.frame m g
theorem frame_residual_ideal : Cert.quiescent_Kernel3Ideal := fun m g _ => Cert.Kernel3Ideal.Gen.frame m g
theorem frame_norm_sample : Cert.quiescent_Kernel13 := fun m g _ => Cert.Kernel13.Gen.frame m g
theorem frame_norm_sample_ideal : Cert.quiescent_Kernel13Ideal := fun m g _ => Cert.Kernel13Ideal.Gen.frame m g
theorem frame_residual_sample : Cert.quiescent_Kernel14 := fun m g _ => Cert.Kernel14.Gen.frame m g
theorem frame_residual_sample_ideal : Cert.quiescent_Kernel14Ideal := fun m g _ => Cert.Kernel14Ideal.Gen.frame m g

/-- And so does each reference, which has no counters. -/
theorem frame_norm_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)
theorem frame_residual_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)
theorem frame_norm_sample_ref : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)
theorem frame_residual_sample_ref : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-! ## Values -/

/-- `x + hid · w` as the reference writes it, element by element. -/
theorem residual_ref (hid : FVec Ideal Cert.Reference3Ideal.S8192x8192 .bf16) (w : FVec Ideal Cert.Reference3Ideal.S8192x2048 .bf16)
    (x : FVec Ideal Cert.Reference3Ideal.S8192x2048 .f32) (R : Fin 8192) (C : Fin 2048) :
    addf x (Host.dotGeneral Cert.Reference3Ideal.dot_S8192x8192_S8192x2048_S8192x2048_1_0_0_1_n_n none
        (extf .f32 hid Cert.Reference3Ideal.Gen.bitsLt_bf16_f32) (extf .f32 w Cert.Reference3Ideal.Gen.bitsLt_bf16_f32)) (ix2 R C)
      = (x (ix2 R C) + ∑ k : Fin 8192, hid (ix2 R k) * w (ix2 k C) : EReal) := by
  pointwise []

/-- THE RESIDUAL PRODUCT: the launch's result is the reference's. -/
theorem residual : Cert.algebraic_Kernel3Ideal_Reference3Ideal := by
  intro m g m' g' _ hagree
  refine ⟨fun c => Cert.Kernel3Ideal.Value.G3 m c, Cert.Kernel3Ideal.Value.run (F := Ideal) m g, ?_⟩
  refine (θ_run Cert.Reference3Ideal.defs _ _).mono (fun r h c => ⟨(h c).1.trans ?_, (h c).2⟩)
    (Cert.Reference3Ideal.Value.run (F := Ideal) m' g')
  obtain ⟨e0, e1, e2⟩ := hagree c
  funext j
  rw [eq_ix2 j]
  refine (residual_ref _ _ _ _ _).trans ?_
  refine Eq.trans ?_ (Cert.Kernel3Ideal.Residual.result_apply m c _ _).symm
  rw [e0, e1, e2]

section NormRef

open Cert.Reference2Ideal Cert.Reference2Ideal.Gen
open Cert.Sweeps (normed)

/-- The normalised product under its ReLU, as the reference writes it, -/
def reluRef (x : FVec Ideal S8192x2048 .f32) (g : FVec Ideal S2048 .f32) (w : FVec Ideal S2048x8192 .bf16) : FVec Ideal S8192x8192 .f32 :=
  maximumf (Host.dotGeneral dot_S8192x2048_S2048x8192_S8192x8192_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (extf .f32 w bitsLt_bf16_f32)) (broadcastInDim S8192x8192 ![] bcast_S_S8192x8192 (constant S_ .f32 0x00000000#32))

/-- element by element; -/
theorem reluRef_apply (x : FVec Ideal S8192x2048 .f32) (g : FVec Ideal S2048 .f32) (w : FVec Ideal S2048x8192 .bf16) (R C : Fin 8192) :
    reluRef x g w (ix2 R C)
      = max (∑ k : Fin 2048, normed (fun d => x (ix2 R d)) (fun d => g (ix1 d)) k * w (ix2 k C) : EReal) 0 := by
  pointwise [reluRef, normed]

/-- and its square. -/
theorem norm_ref (x : FVec Ideal S8192x2048 .f32) (g : FVec Ideal S2048 .f32) (w : FVec Ideal S2048x8192 .bf16) (R C : Fin 8192) :
    (truncf .bf16 (mulf (reluRef x g w) (reluRef x g w)) bitsLt_bf16_f32 : FVec Ideal S8192x8192 .bf16) (ix2 R C)
      = (max (∑ k : Fin 2048, normed (fun d => x (ix2 R d)) (fun d => g (ix1 d)) k * w (ix2 k C)) 0
        * max (∑ k : Fin 2048, normed (fun d => x (ix2 R d)) (fun d => g (ix1 d)) k * w (ix2 k C)) 0 : EReal) := by
  show (reluRef x g w (ix2 R C) * reluRef x g w (ix2 R C) : EReal) = _
  rw [reluRef_apply]

end NormRef

/-- THE NORMALISED PRODUCT: the launch's result is the reference's. -/
theorem norm : Cert.algebraic_Kernel2Ideal_Reference2Ideal := by
  intro m g m' g' _ hagree
  refine ⟨fun c => Cert.Kernel2Ideal.Value.G3 m c, Cert.Kernel2Ideal.Value.run (F := Ideal) m g, ?_⟩
  refine (θ_run Cert.Reference2Ideal.defs _ _).mono (fun r h c => ⟨(h c).1.trans ?_, (h c).2⟩)
    (Cert.Reference2Ideal.Value.run (F := Ideal) m' g')
  obtain ⟨e0, e1, e2⟩ := hagree c
  funext j
  rw [eq_ix2 j]
  refine Eq.trans ?_ (Cert.Kernel2Ideal.NormMatmul.result_apply m c _ _).symm
  rw [e0, e1, e2]
  exact norm_ref _ _ _ _ _

/-- `x + hid · w` as the sample's reference writes it, element by element. -/
theorem residual_sample_ref (hid : FVec Ideal Cert.Reference14Ideal.S32x8192 .bf16) (w : FVec Ideal Cert.Reference14Ideal.S8192x2048 .bf16)
    (x : FVec Ideal Cert.Reference14Ideal.S32x2048 .f32) (R : Fin 32) (C : Fin 2048) :
    addf x (Host.dotGeneral Cert.Reference14Ideal.dot_S32x8192_S8192x2048_S32x2048_1_0_0_1_n_n none
        (extf .f32 hid Cert.Reference14Ideal.Gen.bitsLt_bf16_f32) (extf .f32 w Cert.Reference14Ideal.Gen.bitsLt_bf16_f32)) (ix2 R C)
      = (x (ix2 R C) + ∑ k : Fin 8192, hid (ix2 R k) * w (ix2 k C) : EReal) := by
  pointwise []

/-- THE SAMPLE'S RESIDUAL PRODUCT: the launch's result is the reference's. -/
theorem residual_sample : Cert.algebraic_Kernel14Ideal_Reference14Ideal := by
  intro m g m' g' _ hagree
  refine ⟨fun c => Cert.Kernel14Ideal.Value.G3 m c, Cert.Kernel14Ideal.Value.run (F := Ideal) m g, ?_⟩
  refine (θ_run Cert.Reference14Ideal.defs _ _).mono (fun r h c => ⟨(h c).1.trans ?_, (h c).2⟩)
    (Cert.Reference14Ideal.Value.run (F := Ideal) m' g')
  obtain ⟨e0, e1, e2⟩ := hagree c
  funext j
  rw [eq_ix2 j]
  refine (residual_sample_ref _ _ _ _ _).trans ?_
  refine Eq.trans ?_ (Cert.Kernel14Ideal.Residual.result_apply m c _ _).symm
  rw [e0, e1, e2]

section NormSampleRef

open Cert.Reference13Ideal Cert.Reference13Ideal.Gen
open Cert.Sweeps (normed)

/-- The normalised product under its ReLU, as the sample's reference writes it, -/
def reluSampleRef (x : FVec Ideal S32x2048 .f32) (g : FVec Ideal S2048 .f32) (w : FVec Ideal S2048x8192 .bf16) : FVec Ideal S32x8192 .f32 :=
  maximumf (Host.dotGeneral dot_S32x2048_S2048x8192_S32x8192_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))) (extf .f32 w bitsLt_bf16_f32)) (broadcastInDim S32x8192 ![] bcast_S_S32x8192 (constant S_ .f32 0x00000000#32))

/-- element by element; -/
theorem reluSampleRef_apply (x : FVec Ideal S32x2048 .f32) (g : FVec Ideal S2048 .f32) (w : FVec Ideal S2048x8192 .bf16) (R : Fin 32) (C : Fin 8192) :
    reluSampleRef x g w (ix2 R C)
      = max (∑ k : Fin 2048, normed (fun d => x (ix2 R d)) (fun d => g (ix1 d)) k * w (ix2 k C) : EReal) 0 := by
  pointwise [reluSampleRef, normed]

/-- and its square. -/
theorem norm_sample_ref (x : FVec Ideal S32x2048 .f32) (g : FVec Ideal S2048 .f32) (w : FVec Ideal S2048x8192 .bf16) (R : Fin 32) (C : Fin 8192) :
    (truncf .bf16 (mulf (reluSampleRef x g w) (reluSampleRef x g w)) bitsLt_bf16_f32 : FVec Ideal S32x8192 .bf16) (ix2 R C)
      = (max (∑ k : Fin 2048, normed (fun d => x (ix2 R d)) (fun d => g (ix1 d)) k * w (ix2 k C)) 0
        * max (∑ k : Fin 2048, normed (fun d => x (ix2 R d)) (fun d => g (ix1 d)) k * w (ix2 k C)) 0 : EReal) := by
  show (reluSampleRef x g w (ix2 R C) * reluSampleRef x g w (ix2 R C) : EReal) = _
  rw [reluSampleRef_apply]

end NormSampleRef

/-- THE SAMPLE'S NORMALISED PRODUCT: the launch's result is the reference's. -/
theorem norm_sample : Cert.algebraic_Kernel13Ideal_Reference13Ideal := by
  intro m g m' g' _ hagree
  refine ⟨fun c => Cert.Kernel13Ideal.Value.G3 m c, Cert.Kernel13Ideal.Value.run (F := Ideal) m g, ?_⟩
  refine (θ_run Cert.Reference13Ideal.defs _ _).mono (fun r h c => ⟨(h c).1.trans ?_, (h c).2⟩)
    (Cert.Reference13Ideal.Value.run (F := Ideal) m' g')
  obtain ⟨e0, e1, e2⟩ := hagree c
  funext j
  rw [eq_ix2 j]
  refine Eq.trans ?_ (Cert.Kernel13Ideal.NormMatmul.result_apply m c _ _).symm
  rw [e0, e1, e2]
  exact norm_sample_ref _ _ _ _ _

end Cert.Proof.MlpClaims

end
-- ==== Proof.DeltaProjectionValue.lean ====
/- The value of the RMS-normalised product with the delta-net's input weights, for the prompt, at the ideal values:
   with `x̂[r,k]` the normalised row, the result array holds `∑ₖ x̂[r,k] · w[k,c]`. The grid walks 8 row blocks by
   6 column blocks; the first column block normalises the rows into a carried block, which the others read (Sweeps). -/
module

public import proofs.«01_k».proof.Proof.Gen.Kernel4Ideal.Value
public import proofs.«01_k».proof.Proof.Sweeps

@[expose] public section

set_option maxRecDepth 8192

noncomputable section

namespace Cert.Kernel4Ideal.Projection

open Cert.Kernel4Ideal Cert.Kernel4Ideal.Gen Cert.Kernel4Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S8192x2048.Idx → EReal := m ((c : Thread nD τ).loc main_arg0)
abbrev gains (c : Dev nD) : S2048.Idx → EReal := m ((c : Thread nD τ).loc main_arg1)
abbrev wts (c : Dev nD) : S2048x12288.Idx → EReal := m ((c : Thread nD τ).loc main_arg2)

/-- The blocks of the three arrays at a point, and the carried block and the output block after it. -/
abbrev lhs (c : Dev nD) (n : ℕ) (hn : n < cfg0.N) : Vec Ideal S1024x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S1024x2048 .bf16 := (outsAt0 m c n hn).2
abbrev stored (c : Dev nD) (n : ℕ) (hn : n < cfg0.N) : Vec Ideal S1024x2048 .f32 := (outsAt0 m c n hn).1

/-! ## What one point computes -/

/-- The first column block normalises the rows into the carried block; -/
theorem carry_first (c : Dev nD) (n : ℕ) (hn : n < cfg0.N) (h0 : n % 6 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S1024x2048) zero_offsets, View.ld_unit_zero (S := S1x2048) zero_offsets]

/-- a later one leaves it. -/
theorem carry_later (c : Dev nD) (n : ℕ) (hn : n + 1 < cfg0.N) (h0 : ¬(n + 1) % 6 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 6 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S1024x2048) _ zero_offsets,
      View.ld_unit_zero (S := S1024x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S1024x2048) zero_offsets, View.ld_unit_zero (S := S2048x2048) zero_offsets]
    rfl

theorem pay1_apply (x : Vec Ideal S1024x2048 .f32) (g : Vec Ideal S1x2048 .f32) (a : Fin 1024) (k : Fin 2048) :
    k0_pay1 x g (ix2 a k) = normed (fun d => x (ix2 a d)) (fun d => g (ix2 (0 : Fin 1) d)) k := by
  pointwise [k0_pay1, normed]

theorem pay2_apply (acc : Vec Ideal S1024x2048 .bf16) (w : Vec Ideal S2048x2048 .bf16) (a : Fin 1024) (b : Fin 2048) :
    k0_pay2 acc w (ix2 a b) = (∑ k : Fin 2048, acc (ix2 a k) * w (ix2 k b) : EReal) := by
  pointwise [k0_pay2]

/-! ## The blocks a point sees -/

/-- Point `t`'s block indices: row block `t / 6`, column block `t % 6`; the gains whole. -/
theorem indices : ∀ t : Fin cfg0.N,
    (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 6) :=
  (by decide +kernel : ∀ t : Fin grid0.N, _)

theorem lhs_blk (c : Dev nD) (n : ℕ) (hn : n < cfg0.N) (a : Fin 1024) (k : Fin 2048) (R : Fin 8192)
    (hR : R.val = 1024 * (n / 6) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 1024 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 12288)
    (hC : C.val = 2048 * (n % 6) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element. -/
def product (c : Dev nD) (R : Fin 8192) (C : Fin 12288) : EReal :=
  ∑ k : Fin 2048, normed (fun d => rows m c (ix2 R d)) (fun d => gains m c (ix1 d)) k * wts m c (ix2 k C)

/-- What a point stores of it. -/
theorem stored_apply (c : Dev nD) (n : ℕ) (hn : n < cfg0.N) (a : Fin 1024) (b : Fin 2048) (R : Fin 8192) (C : Fin 12288)
    (hR : R.val = 1024 * (n / 6) + a.val) (hC : C.val = 2048 * (n % 6) + b.val) :
    stored m c n hn (ix2 a b) = product m c R C := by
  rw [stored_eq, pay2_apply]
  exact normed_product (B := 1024) (nt := 6) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC

/-- THE RESULT ARRAY, element by element. -/
theorem result_apply (c : Dev nD) (R : Fin 8192) (C : Fin 12288) : G3 m c (ix2 R C) = product m c R C := by
  have hR := R.isLt
  have hC := C.isLt
  have hp : pt3Of (ix2 R C) = 6 * (R.val / 1024) + C.val / 2048 := by
    show 6 * (R.val / 1024 - 0) + 1 * (C.val / 2048 - 0) = _; omega
  have hN : cfg0.N = 48 := N_0
  have hlt : pt3Of (ix2 R C) < cfg0.N := by omega
  unfold G3
  rw [dif_pos hlt, ← outsAt0_sweep m c _ hlt,
    place (loc3Of (ix2 R C)) (⟨R.val % 1024, by omega⟩ : Fin 1024) (⟨C.val % 2048, by omega⟩ : Fin 2048) rfl rfl]
  exact stored_apply m c _ hlt _ _ R C (by dsimp only; omega) (by dsimp only; omega)

end Cert.Kernel4Ideal.Projection

end
-- ==== Proof.QkvProjectionValue.lean ====
/- The value of the RMS-normalised product with the query, key and value weights, for the prompt, at the ideal values:
   with `x̂[r,k]` the normalised row, the result array holds `∑ₖ x̂[r,k] · w[k,c]`. The grid walks 8 row blocks by
   3 column blocks; the first column block normalises the rows into a carried block, which the others read (Sweeps). -/
module

public import proofs.«01_k».proof.Proof.Gen.Kernel5Ideal.Value
public import proofs.«01_k».proof.Proof.Sweeps

@[expose] public section

set_option maxRecDepth 8192

noncomputable section

namespace Cert.Kernel5Ideal.Projection

open Cert.Kernel5Ideal Cert.Kernel5Ideal.Gen Cert.Kernel5Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S8192x2048.Idx → EReal := m ((c : Thread nD τ).loc main_arg0)
abbrev gains (c : Dev nD) : S2048.Idx → EReal := m ((c : Thread nD τ).loc main_arg1)
abbrev wts (c : Dev nD) : S2048x6144.Idx → EReal := m ((c : Thread nD τ).loc main_arg2)

/-- The blocks of the three arrays at a point, and the carried block and the output block after it. -/
abbrev lhs (c : Dev nD) (n : ℕ) (hn : n < cfg0.N) : Vec Ideal S1024x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S1024x2048 .bf16 := (outsAt0 m c n hn).2
abbrev stored (c : Dev nD) (n : ℕ) (hn : n < cfg0.N) : Vec Ideal S1024x2048 .f32 := (outsAt0 m c n hn).1

/-! ## What one point computes -/

/-- The first column block normalises the rows into the carried block; -/
theorem carry_first (c : Dev nD) (n : ℕ) (hn : n < cfg0.N) (h0 : n % 3 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S1024x2048) zero_offsets, View.ld_unit_zero (S := S1x2048) zero_offsets]

/-- a later one leaves it. -/
theorem carry_later (c : Dev nD) (n : ℕ) (hn : n + 1 < cfg0.N) (h0 : ¬(n + 1) % 3 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 3 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S1024x2048) _ zero_offsets,
      View.ld_unit_zero (S := S1024x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S1024x2048) zero_offsets, View.ld_unit_zero (S := S2048x2048) zero_offsets]
    rfl

theorem pay1_apply (x : Vec Ideal S1024x2048 .f32) (g : Vec Ideal S1x2048 .f32) (a : Fin 1024) (k : Fin 2048) :
    k0_pay1 x g (ix2 a k) = normed (fun d => x (ix2 a d)) (fun d => g (ix2 (0 : Fin 1) d)) k := by
  pointwise [k0_pay1, normed]

theorem pay2_apply (acc : Vec Ideal S1024x2048 .bf16) (w : Vec Ideal S2048x2048 .bf16) (a : Fin 1024) (b : Fin 2048) :
    k0_pay2 acc w (ix2 a b) = (∑ k : Fin 2048, acc (ix2 a k) * w (ix2 k b) : EReal) := by
  pointwise [k0_pay2]

/-! ## The blocks a point sees -/

/-- Point `t`'s block indices: row block `t / 3`, column block `t % 3`; the gains whole. -/
theorem indices : ∀ t : Fin cfg0.N,
    (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3) :=
  (by decide +kernel : ∀ t : Fin grid0.N, _)

theorem lhs_blk (c : Dev nD) (n : ℕ) (hn : n < cfg0.N) (a : Fin 1024) (k : Fin 2048) (R : Fin 8192)
    (hR : R.val = 1024 * (n / 3) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 1024 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 6144)
    (hC : C.val = 2048 * (n % 3) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element. -/
def product (c : Dev nD) (R : Fin 8192) (C : Fin 6144) : EReal :=
  ∑ k : Fin 2048, normed (fun d => rows m c (ix2 R d)) (fun d => gains m c (ix1 d)) k * wts m c (ix2 k C)

/-- What a point stores of it. -/
theorem stored_apply (c : Dev nD) (n : ℕ) (hn : n < cfg0.N) (a : Fin 1024) (b : Fin 2048) (R : Fin 8192) (C : Fin 6144)
    (hR : R.val = 1024 * (n / 3) + a.val) (hC : C.val = 2048 * (n % 3) + b.val) :
    stored m c n hn (ix2 a b) = product m c R C := by
  rw [stored_eq, pay2_apply]
  exact normed_product (B := 1024) (nt := 3) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC

/-- THE RESULT ARRAY, element by element. -/
theorem result_apply (c : Dev nD) (R : Fin 8192) (C : Fin 6144) : G3 m c (ix2 R C) = product m c R C := by
  have hR := R.isLt
  have hC := C.isLt
  have hp : pt3Of (ix2 R C) = 3 * (R.val / 1024) + C.val / 2048 := by
    show 3 * (R.val / 1024 - 0) + 1 * (C.val / 2048 - 0) = _; omega
  have hN : cfg0.N = 24 := N_0
  have hlt : pt3Of (ix2 R C) < cfg0.N := by omega
  unfold G3
  rw [dif_pos hlt, ← outsAt0_sweep m c _ hlt,
    place (loc3Of (ix2 R C)) (⟨R.val % 1024, by omega⟩ : Fin 1024) (⟨C.val % 2048, by omega⟩ : Fin 2048) rfl rfl]
  exact stored_apply m c _ hlt _ _ R C (by dsimp only; omega) (by dsimp only; omega)

end Cert.Kernel5Ideal.Projection

end
-- ==== Proof.DeltaOutputValue.lean ====
/- The value of the delta-net layer's output product with its residual, at the ideal values: the result array holds
   `x[r,c] + ∑ₖ hid[r,k] · w[k,c]`, `hid` being the delta-net's output. The grid walks 8 row blocks by 2 column blocks by
   2 blocks of the contracted axis; the carried block holds the first partial product, and the second point adds its own
   and the residual (Sweeps). -/
module

public import proofs.«01_k».proof.Proof.Gen.Kernel6Ideal.Value
public import proofs.«01_k».proof.Proof.Sweeps

@[expose] public section

set_option maxRecDepth 8192

noncomputable section

namespace Cert.Kernel6Ideal.Residual

open Cert.Kernel6Ideal Cert.Kernel6Ideal.Gen Cert.Kernel6Ideal.Value Cert.Sweeps
open Idealize.ShloMosaic Idealize.ShloMosaic.TcCoe Idealize.SL.Sem
open scoped BigOperators

variable (m : (ℓ : Loc nD τ sig) → Buf (Elt Ideal) ℓ)

/-- The left factor, the right factor and the residual as arrays. -/
abbrev hid (c : Dev nD) : S8192x4096.Idx → EReal := m ((c : Thread nD τ).loc main_arg0)
abbrev wts (c : Dev nD) : S4096x2048.Idx → EReal := m ((c : Thread nD τ).loc main_arg1)
abbrev res (c : Dev nD) : S8192x2048.Idx → EReal := m ((c : Thread nD τ).loc main_arg2)

/-- The blocks of the three arrays at a point, and the carried block and the output block after it. -/
abbrev lhs (c : Dev nD) (n : ℕ) (hn : n < cfg0.N) : Vec Ideal S1024x2048 .bf16 := iblk m c 0 ⟨n, hn⟩
abbrev rhs (c : Dev nD) (n : ℕ) (hn : n < cfg0.N) : Vec Ideal S2048x1024 .bf16 := iblk m c 1 ⟨n, hn⟩
abbrev add (c : Dev nD) (n : ℕ) (hn : n < cfg0.N) : Vec Ideal S1024x1024 .f32 := iblk m c 2 ⟨n, hn⟩
abbrev carry (c : Dev nD) (n : ℕ) (hn : n < cfg0.N) : Vec Ideal S1024x1024 .f32 := (outsAt0 m c n hn).2
abbrev stored (c : Dev nD) (n : ℕ) (hn : n < cfg0.N) : Vec Ideal S1024x1024 .f32 := (outsAt0 m c n hn).1

/-! ## What one point computes -/

/-- The first block of the contracted axis resets the accumulator and adds its product, -/
theorem carry_first (c : Dev nD) (n : ℕ) (hn : n < cfg0.N) (h0 : n % 2 = 0) :
    carry m c n hn = k0_pay2 k0_pay1 (lhs m c n hn) (rhs m c n hn) := by
  unfold carry
  rw [outsAt0_A m c ⟨n, hn⟩ h0 (by dsimp only; omega)]
  dsimp only
  unfold sout0_A_0
  rw [View.read_writes_eq_canon _ _ _ (scover0_A_0 _ _ _ _ _ _ _ _ _ _ _ _ _ _ _ _ _)]
  unfold kernelRun0_A
  dsimp only
  sl_unfold_words
  rw [View.canon_cons_unit_zero (S := S1024x1024) zero_offsets, View.readCov_unit_zero (S := S1024x1024) _ zero_offsets]
  simp only [View.readAt_eq_ld, Memref.IsWhole.read_unread (hs0_0 _), Memref.IsWhole.read_unread (hs0_1 _),
    View.ld_unit_zero (S := S1024x2048) zero_offsets, View.ld_unit_zero (S := S2048x1024) zero_offsets]

/-- and the last block adds its product and stores the accumulator added to the residual. -/
theorem stored_last (c : Dev nD) (n : ℕ) (hn : n + 1 < cfg0.N) (h1 : (n + 1) % 2 = 1) :
    stored m c (n + 1) hn
      = k0_pay3 (add m c (n + 1) hn) (k0_pay2 (carry m c n (Nat.lt_of_succ_lt hn)) (lhs m c (n + 1) hn) (rhs m c (n + 1) hn)) := by
  unfold stored carry
  rw [outsAt0_B m c ⟨n + 1, hn⟩ (by dsimp only; omega) h1]
  dsimp only
  unfold out0_B_3
  rw [View.read_writes_eq_canon _ _ _ (cover0_B_3 _ _ _ _ _ _ _ _ _ _ _ _ _ _ _ _ _ _)]
  unfold kernelRun0_B
  dsimp only
  sl_unfold_words
  rw [View.canon_unit_zero zero_offsets]
  simp only [View.readAt_eq_ld, Memref.IsWhole.read_unread (hs0_0 _), Memref.IsWhole.read_unread (hs0_1 _),
    Memref.IsWhole.read_unread (hs0_2 _), Memref.IsWhole.read_unread (Memref.isWhole_whole _),
    View.readCov_unit_zero (S := S1024x1024) _ zero_offsets, View.ld_unit_zero (S := S1024x2048) zero_offsets,
    View.ld_unit_zero (S := S2048x1024) zero_offsets, View.ld_unit_zero (S := S1024x1024) zero_offsets]
  rfl

/-- The accumulating payload at an element, -/
theorem pay2_apply (acc : Vec Ideal S1024x1024 .f32) (x : Vec Ideal S1024x2048 .bf16) (w : Vec Ideal S2048x1024 .bf16)
    (a b : Fin 1024) : k0_pay2 acc x w (ix2 a b) = acc (ix2 a b) + ∑ k : Fin 2048, x (ix2 a k) * w (ix2 k b) := by
  pointwise [k0_pay2]

/-- and the first point's, whose reset is zero. -/
theorem pay2_reset (x : Vec Ideal S1024x2048 .bf16) (w : Vec Ideal S2048x1024 .bf16) (a b : Fin 1024) :
    k0_pay2 k0_pay1 x w (ix2 a b) = (∑ k : Fin 2048, x (ix2 a k) * w (ix2 k b) : EReal) := by
  rw [pay2_apply]
  unfold k0_pay1
  simp only [shapeCast_self]
  refine Eq.trans ?_ (zero_add _)
  congr 1
  exact Ideal.ofBits_zero_f32

/-- The last payload adds the residual. -/
theorem pay3_apply (r acc : Vec Ideal S1024x1024 .f32) (j : S1024x1024.Idx) : k0_pay3 r acc j = (r j + acc j : EReal) := rfl

/-! ## The blocks a point sees -/

/-- Point `t`'s block indices: row block `t / 4`, column block `t / 2 % 2`, contraction block `t % 2`. -/
theorem indices : ∀ t : Fin cfg0.N,
    (win0_0.index t (0 : Fin 2) = t.val / 4 ∧ win0_0.index t (1 : Fin 2) = t.val % 2)
    ∧ (win0_1.index t (0 : Fin 2) = t.val % 2 ∧ win0_1.index t (1 : Fin 2) = t.val / 2 % 2)
    ∧ (win0_2.index t (0 : Fin 2) = t.val / 4 ∧ win0_2.index t (1 : Fin 2) = t.val / 2 % 2) :=
  (by decide +kernel : ∀ t : Fin grid0.N, _)

theorem lhs_blk (c : Dev nD) (n : ℕ) (hn : n < cfg0.N) (a : Fin 1024) (k : Fin 2048) (R : Fin 8192) (K : Fin 4096)
    (hR : R.val = 1024 * (n / 4) + a.val) (hK : K.val = 2048 * (n % 2) + k.val) : lhs m c n hn (ix2 a k) = hid m c (ix2 R K) := by
  obtain ⟨⟨e0, e1⟩, -, -⟩ := indices ⟨n, hn⟩
  refine (congrFun (V_main_arg0 m c) _).trans (congrArg (hid m c) (place _ R K ?_ ?_))
  · show win0_0.index ⟨n, hn⟩ (0 : Fin 2) * 1024 + 1 * a.val = R.val; dsimp only at e0; omega
  · show win0_0.index ⟨n, hn⟩ (1 : Fin 2) * 2048 + 1 * k.val = K.val; dsimp only at e1; omega

theorem rhs_blk (c : Dev nD) (n : ℕ) (hn : n < cfg0.N) (k : Fin 2048) (b : Fin 1024) (K : Fin 4096) (C : Fin 2048)
    (hK : K.val = 2048 * (n % 2) + k.val) (hC : C.val = 1024 * (n / 2 % 2) + b.val) : rhs m c n hn (ix2 k b) = wts m c (ix2 K C) := by
  obtain ⟨-, ⟨e0, e1⟩, -⟩ := indices ⟨n, hn⟩
  refine (congrFun (V_main_arg1 m c) _).trans (congrArg (wts m c) (place _ K C ?_ ?_))
  · show win0_1.index ⟨n, hn⟩ (0 : Fin 2) * 2048 + 1 * k.val = K.val; dsimp only at e0; omega
  · show win0_1.index ⟨n, hn⟩ (1 : Fin 2) * 1024 + 1 * b.val = C.val; dsimp only at e1; omega

theorem res_blk (c : Dev nD) (n : ℕ) (hn : n < cfg0.N) (a b : Fin 1024) (R : Fin 8192) (C : Fin 2048)
    (hR : R.val = 1024 * (n / 4) + a.val) (hC : C.val = 1024 * (n / 2 % 2) + b.val) : add m c n hn (ix2 a b) = res m c (ix2 R C) := by
  obtain ⟨-, -, ⟨e0, e1⟩⟩ := indices ⟨n, hn⟩
  refine (congrFun (V_main_arg2 m c) _).trans (congrArg (res m c) (place _ R C ?_ ?_))
  · show win0_2.index ⟨n, hn⟩ (0 : Fin 2) * 1024 + 1 * a.val = R.val; dsimp only at e0; omega
  · show win0_2.index ⟨n, hn⟩ (1 : Fin 2) * 1024 + 1 * b.val = C.val; dsimp only at e1; omega

/-! ## The result -/

/-- What a block's last point stores is the whole product added to the residual. -/
theorem stored_apply (c : Dev nD) (q : ℕ) (hn : 2 * q + 1 < cfg0.N) (a b : Fin 1024) (R : Fin 8192) (C : Fin 2048)
    (hR : R.val = 1024 * (q / 2) + a.val) (hC : C.val = 1024 * (q % 2) + b.val) :
    stored m c (2 * q + 1) hn (ix2 a b) = res m c (ix2 R C) + ∑ k : Fin 4096, hid m c (ix2 R k) * wts m c (ix2 k C) := by
  rw [stored_last m c (2 * q) hn (by omega), pay3_apply, pay2_apply, res_blk m c _ _ a b R C (by omega) (by omega)]
  exact congrArg _ (accumulated_product (L := 2048) (nk := 0) (2 * q) rfl (fun K => hid m c (ix2 R K)) (fun K => wts m c (ix2 K C))
    (fun n h => carry m c n h (ix2 a b)) (fun n h k => lhs m c n h (ix2 a k)) (fun n h k => rhs m c n h (ix2 k b)) hn
    (fun j h hj k K hK => lhs_blk m c _ h a k R K (by omega) (by omega))
    (fun j h hj k K hK => rhs_blk m c _ h k b K C (by omega) (by omega))
    (fun h => by rw [carry_first m c _ h (by omega), pay2_reset])
    (fun j _ hj => absurd hj (Nat.not_lt_zero j)))

/-- THE RESULT ARRAY, element by element. -/
theorem result_apply (c : Dev nD) (R : Fin 8192) (C : Fin 2048) :
    G3 m c (ix2 R C) = res m c (ix2 R C) + ∑ k : Fin 4096, hid m c (ix2 R k) * wts m c (ix2 k C) := by
  have hR := R.isLt
  have hC := C.isLt
  have hp : pt3Of (ix2 R C) = 2 * (2 * (R.val / 1024) + C.val / 1024) + 1 := by
    show 2 * (2 * (R.val / 1024 - 0) + 1 * (C.val / 1024 - 0)) + 1 = _; omega
  have hN : cfg0.N = 32 := N_0
  have hlt : 2 * (2 * (R.val / 1024) + C.val / 1024) + 1 < cfg0.N := by omega
  unfold G3
  rw [dif_pos (hp ▸ hlt), ← outsAt0_sweep m c _ (hp ▸ hlt),
    place (loc3Of (ix2 R C)) (⟨R.val % 1024, by omega⟩ : Fin 1024) (⟨C.val % 1024, by omega⟩ : Fin 1024) rfl rfl]
  simp only [hp]
  exact stored_apply m c _ hlt _ _ R C (by dsimp only; omega) (by dsimp only; omega)

end Cert.Kernel6Ideal.Residual

end
-- ==== Proof.DeltaSampleOutputValue.lean ====
/- The value of the delta-net layer's output product with its residual for the sample, at the ideal values: the result array
   holds `x[r,c] + ∑ₖ hid[r,k] · w[k,c]`, `hid` being the delta-net's output. All 32 rows are one block; the grid walks
   2 column blocks by 2 blocks of the contracted axis; the carried block holds the first partial product, and the second
   point adds its own and the residual (Sweeps). -/
module

public import proofs.«01_k».proof.Proof.Gen.Kernel18Ideal.Value
public import proofs.«01_k».proof.Proof.Sweeps

@[expose] public section

set_option maxRecDepth 8192

noncomputable section

namespace Cert.Kernel18Ideal.Residual

open Cert.Kernel18Ideal Cert.Kernel18Ideal.Gen Cert.Kernel18Ideal.Value Cert.Sweeps
open Idealize.ShloMosaic Idealize.ShloMosaic.TcCoe Idealize.SL.Sem
open scoped BigOperators

variable (m : (ℓ : Loc nD τ sig) → Buf (Elt Ideal) ℓ)

/-- The left factor, the right factor and the residual as arrays. -/
abbrev hid (c : Dev nD) : S32x4096.Idx → EReal := m ((c : Thread nD τ).loc main_arg0)
abbrev wts (c : Dev nD) : S4096x2048.Idx → EReal := m ((c : Thread nD τ).loc main_arg1)
abbrev res (c : Dev nD) : S32x2048.Idx → EReal := m ((c : Thread nD τ).loc main_arg2)

/-- The blocks of the three arrays at a point, and the carried block and the output block after it. -/
abbrev lhs (c : Dev nD) (n : ℕ) (hn : n < cfg0.N) : Vec Ideal S32x2048 .bf16 := iblk m c 0 ⟨n, hn⟩
abbrev rhs (c : Dev nD) (n : ℕ) (hn : n < cfg0.N) : Vec Ideal S2048x1024 .bf16 := iblk m c 1 ⟨n, hn⟩
abbrev add (c : Dev nD) (n : ℕ) (hn : n < cfg0.N) : Vec Ideal S32x1024 .f32 := iblk m c 2 ⟨n, hn⟩
abbrev carry (c : Dev nD) (n : ℕ) (hn : n < cfg0.N) : Vec Ideal S32x1024 .f32 := (outsAt0 m c n hn).2
abbrev stored (c : Dev nD) (n : ℕ) (hn : n < cfg0.N) : Vec Ideal S32x1024 .f32 := (outsAt0 m c n hn).1

/-! ## What one point computes -/

/-- The first block of the contracted axis resets the accumulator and adds its product, -/
theorem carry_first (c : Dev nD) (n : ℕ) (hn : n < cfg0.N) (h0 : n % 2 = 0) :
    carry m c n hn = k0_pay2 k0_pay1 (lhs m c n hn) (rhs m c n hn) := by
  unfold carry
  rw [outsAt0_A m c ⟨n, hn⟩ h0 (by dsimp only; omega)]
  dsimp only
  unfold sout0_A_0
  rw [View.read_writes_eq_canon _ _ _ (scover0_A_0 _ _ _ _ _ _ _ _ _ _ _ _ _ _ _ _ _)]
  unfold kernelRun0_A
  dsimp only
  sl_unfold_words
  rw [View.canon_cons_unit_zero (S := S32x1024) zero_offsets, View.readCov_unit_zero (S := S32x1024) _ zero_offsets]
  simp only [View.readAt_eq_ld, Memref.IsWhole.read_unread (hs0_0 _), Memref.IsWhole.read_unread (hs0_1 _),
    View.ld_unit_zero (S := S32x2048) zero_offsets, View.ld_unit_zero (S := S2048x1024) zero_offsets]

/-- and the last block adds its product and stores the accumulator added to the residual. -/
theorem stored_last (c : Dev nD) (n : ℕ) (hn : n + 1 < cfg0.N) (h1 : (n + 1) % 2 = 1) :
    stored m c (n + 1) hn
      = k0_pay3 (add m c (n + 1) hn) (k0_pay2 (carry m c n (Nat.lt_of_succ_lt hn)) (lhs m c (n + 1) hn) (rhs m c (n + 1) hn)) := by
  unfold stored carry
  rw [outsAt0_B m c ⟨n + 1, hn⟩ (by dsimp only; omega) h1]
  dsimp only
  unfold out0_B_3
  rw [View.read_writes_eq_canon _ _ _ (cover0_B_3 _ _ _ _ _ _ _ _ _ _ _ _ _ _ _ _ _ _)]
  unfold kernelRun0_B
  dsimp only
  sl_unfold_words
  rw [View.canon_unit_zero zero_offsets]
  simp only [View.readAt_eq_ld, Memref.IsWhole.read_unread (hs0_0 _), Memref.IsWhole.read_unread (hs0_1 _),
    Memref.IsWhole.read_unread (hs0_2 _), Memref.IsWhole.read_unread (Memref.isWhole_whole _),
    View.readCov_unit_zero (S := S32x1024) _ zero_offsets, View.ld_unit_zero (S := S32x2048) zero_offsets,
    View.ld_unit_zero (S := S2048x1024) zero_offsets, View.ld_unit_zero (S := S32x1024) zero_offsets]
  rfl

/-- The accumulating payload at an element, -/
theorem pay2_apply (acc : Vec Ideal S32x1024 .f32) (x : Vec Ideal S32x2048 .bf16) (w : Vec Ideal S2048x1024 .bf16)
    (a : Fin 32) (b : Fin 1024) : k0_pay2 acc x w (ix2 a b) = acc (ix2 a b) + ∑ k : Fin 2048, x (ix2 a k) * w (ix2 k b) := by
  pointwise [k0_pay2]

/-- and the first point's, whose reset is zero. -/
theorem pay2_reset (x : Vec Ideal S32x2048 .bf16) (w : Vec Ideal S2048x1024 .bf16) (a : Fin 32) (b : Fin 1024) :
    k0_pay2 k0_pay1 x w (ix2 a b) = (∑ k : Fin 2048, x (ix2 a k) * w (ix2 k b) : EReal) := by
  rw [pay2_apply]
  unfold k0_pay1
  simp only [shapeCast_self]
  refine Eq.trans ?_ (zero_add _)
  congr 1
  exact Ideal.ofBits_zero_f32

/-- The last payload adds the residual. -/
theorem pay3_apply (r acc : Vec Ideal S32x1024 .f32) (j : S32x1024.Idx) : k0_pay3 r acc j = (r j + acc j : EReal) := rfl

/-! ## The blocks a point sees -/

/-- Point `t`'s block indices: row block `t / 4`, which is zero, column block `t / 2 % 2`, contraction block `t % 2`. -/
theorem indices : ∀ t : Fin cfg0.N,
    (win0_0.index t (0 : Fin 2) = t.val / 4 ∧ win0_0.index t (1 : Fin 2) = t.val % 2)
    ∧ (win0_1.index t (0 : Fin 2) = t.val % 2 ∧ win0_1.index t (1 : Fin 2) = t.val / 2 % 2)
    ∧ (win0_2.index t (0 : Fin 2) = t.val / 4 ∧ win0_2.index t (1 : Fin 2) = t.val / 2 % 2) :=
  (by decide +kernel : ∀ t : Fin grid0.N, _)

theorem lhs_blk (c : Dev nD) (n : ℕ) (hn : n < cfg0.N) (a : Fin 32) (k : Fin 2048) (R : Fin 32) (K : Fin 4096)
    (hR : R.val = 32 * (n / 4) + a.val) (hK : K.val = 2048 * (n % 2) + k.val) : lhs m c n hn (ix2 a k) = hid m c (ix2 R K) := by
  obtain ⟨⟨e0, e1⟩, -, -⟩ := indices ⟨n, hn⟩
  refine (congrFun (V_main_arg0 m c) _).trans (congrArg (hid m c) (place _ R K ?_ ?_))
  · show win0_0.index ⟨n, hn⟩ (0 : Fin 2) * 32 + 1 * a.val = R.val; dsimp only at e0; omega
  · show win0_0.index ⟨n, hn⟩ (1 : Fin 2) * 2048 + 1 * k.val = K.val; dsimp only at e1; omega

theorem rhs_blk (c : Dev nD) (n : ℕ) (hn : n < cfg0.N) (k : Fin 2048) (b : Fin 1024) (K : Fin 4096) (C : Fin 2048)
    (hK : K.val = 2048 * (n % 2) + k.val) (hC : C.val = 1024 * (n / 2 % 2) + b.val) : rhs m c n hn (ix2 k b) = wts m c (ix2 K C) := by
  obtain ⟨-, ⟨e0, e1⟩, -⟩ := indices ⟨n, hn⟩
  refine (congrFun (V_main_arg1 m c) _).trans (congrArg (wts m c) (place _ K C ?_ ?_))
  · show win0_1.index ⟨n, hn⟩ (0 : Fin 2) * 2048 + 1 * k.val = K.val; dsimp only at e0; omega
  · show win0_1.index ⟨n, hn⟩ (1 : Fin 2) * 1024 + 1 * b.val = C.val; dsimp only at e1; omega

theorem res_blk (c : Dev nD) (n : ℕ) (hn : n < cfg0.N) (a : Fin 32) (b : Fin 1024) (R : Fin 32) (C : Fin 2048)
    (hR : R.val = 32 * (n / 4) + a.val) (hC : C.val = 1024 * (n / 2 % 2) + b.val) : add m c n hn (ix2 a b) = res m c (ix2 R C) := by
  obtain ⟨-, -, ⟨e0, e1⟩⟩ := indices ⟨n, hn⟩
  refine (congrFun (V_main_arg2 m c) _).trans (congrArg (res m c) (place _ R C ?_ ?_))
  · show win0_2.index ⟨n, hn⟩ (0 : Fin 2) * 32 + 1 * a.val = R.val; dsimp only at e0; omega
  · show win0_2.index ⟨n, hn⟩ (1 : Fin 2) * 1024 + 1 * b.val = C.val; dsimp only at e1; omega

/-! ## The result -/

/-- What a block's last point stores is the whole product added to the residual. -/
theorem stored_apply (c : Dev nD) (q : ℕ) (hn : 2 * q + 1 < cfg0.N) (a : Fin 32) (b : Fin 1024) (R : Fin 32) (C : Fin 2048)
    (hR : R.val = 32 * (q / 2) + a.val) (hC : C.val = 1024 * (q % 2) + b.val) :
    stored m c (2 * q + 1) hn (ix2 a b) = res m c (ix2 R C) + ∑ k : Fin 4096, hid m c (ix2 R k) * wts m c (ix2 k C) := by
  rw [stored_last m c (2 * q) hn (by omega), pay3_apply, pay2_apply, res_blk m c _ _ a b R C (by omega) (by omega)]
  exact congrArg _ (accumulated_product (L := 2048) (nk := 0) (2 * q) rfl (fun K => hid m c (ix2 R K)) (fun K => wts m c (ix2 K C))
    (fun n h => carry m c n h (ix2 a b)) (fun n h k => lhs m c n h (ix2 a k)) (fun n h k => rhs m c n h (ix2 k b)) hn
    (fun j h hj k K hK => lhs_blk m c _ h a k R K (by omega) (by omega))
    (fun j h hj k K hK => rhs_blk m c _ h k b K C (by omega) (by omega))
    (fun h => by rw [carry_first m c _ h (by omega), pay2_reset])
    (fun j _ hj => absurd hj (Nat.not_lt_zero j)))

/-- THE RESULT ARRAY, element by element. -/
theorem result_apply (c : Dev nD) (R : Fin 32) (C : Fin 2048) :
    G3 m c (ix2 R C) = res m c (ix2 R C) + ∑ k : Fin 4096, hid m c (ix2 R k) * wts m c (ix2 k C) := by
  have hR := R.isLt
  have hC := C.isLt
  have hp : pt3Of (ix2 R C) = 2 * (2 * (R.val / 32) + C.val / 1024) + 1 := by
    show 2 * (2 * (R.val / 32 - 0) + 1 * (C.val / 1024 - 0)) + 1 = _; omega
  have hN : cfg0.N = 4 := N_0
  have hlt : 2 * (2 * (R.val / 32) + C.val / 1024) + 1 < cfg0.N := by omega
  unfold G3
  rw [dif_pos (hp ▸ hlt), ← outsAt0_sweep m c _ (hp ▸ hlt),
    place (loc3Of (ix2 R C)) (⟨R.val % 32, by omega⟩ : Fin 32) (⟨C.val % 1024, by omega⟩ : Fin 1024) rfl rfl]
  simp only [hp]
  exact stored_apply m c _ hlt _ _ R C (by dsimp only; omega) (by dsimp only; omega)

end Cert.Kernel18Ideal.Residual

end
-- ==== Proof.AttnOutputValue.lean ====
/- The value of the attention layer's output product with its residual, at the ideal values: the result array holds
   `x[r,c] + ∑ₖ o[r,k] · w[k,c]`. The grid walks 8 row blocks by 2 column blocks, and the contracted axis is one block:
   a point resets its accumulator, adds the whole product and stores it with the residual. -/
module

public import proofs.«01_k».proof.Proof.Gen.Kernel7Ideal.Value
public import proofs.«01_k».proof.Proof.Sweeps

@[expose] public section

set_option maxRecDepth 8192

noncomputable section

namespace Cert.Kernel7Ideal.Residual

open Cert.Kernel7Ideal Cert.Kernel7Ideal.Gen Cert.Kernel7Ideal.Value Cert.Sweeps
open Idealize.ShloMosaic Idealize.ShloMosaic.TcCoe Idealize.SL.Sem
open scoped BigOperators

/-! ## What one point computes -/

section Cases

variable {F : FTy → Type} [FloatOps F]
variable (c : Dev nD) (i : grid0.Coords)
  (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (w : Vec F S2048x1024 .bf16) (r : Vec F S1024x1024 .f32)

/-- A point resets its accumulator, adds its product and stores the sum with the residual. -/
theorem point (hc0 hc1) :
    out0_A_3 c i a3 h3 a4 h4 a5 h5 a6 h6 a7 h7 hc0 hc1 x w r = k0_pay3 (F := F) r (k0_pay2 k0_pay1 x w) := by
  unfold out0_A_3
  rw [View.read_writes_eq_canon _ _ _ (cover0_A_3 c i a3 h3 a4 h4 a5 h5 a6 h6 a7 h7 hc0 hc1 x w r)]
  unfold kernelRun0_A
  dsimp only
  sl_unfold_words
  rw [View.canon_unit_zero zero_offsets]
  simp only [View.readAt_eq_ld, h3.read_unread, h4.read_unread, h5.read_unread,
    View.readCov_cons_toLoadRect, View.readCov_unit_zero (S := S1024x1024) _ zero_offsets,
    View.ld_unit_zero (S := S1024x2048) zero_offsets,
    View.ld_unit_zero (S := S2048x1024) zero_offsets, View.ld_unit_zero (S := S1024x1024) zero_offsets]

end Cases

variable (m : (ℓ : Loc nD τ sig) → Buf (Elt Ideal) ℓ)

/-- The accumulating payload at an element. -/
theorem pay2_apply (acc : Vec Ideal S1024x1024 .f32) (x : Vec Ideal S1024x2048 .bf16) (w : Vec Ideal S2048x1024 .bf16)
    (a b : Fin 1024) : k0_pay2 acc x w (ix2 a b) = acc (ix2 a b) + ∑ k : Fin 2048, x (ix2 a k) * w (ix2 k b) := by
  pointwise [k0_pay2]

/-- The reset's payload is zero. -/
theorem pay1_apply (j : S1024x1024.Idx) : k0_pay1 (F := Ideal) j = (0 : EReal) := by
  unfold k0_pay1
  simp only [shapeCast_self]
  show Ideal.ofBits .f32 0x00000000#32 = 0
  exact Ideal.ofBits_zero_f32

/-- The last payload adds the residual. -/
theorem pay3_apply (r acc : Vec Ideal S1024x1024 .f32) (j : S1024x1024.Idx) : k0_pay3 r acc j = (r j + acc j : EReal) := rfl

/-! ## The blocks a point sees -/

/-- Point `t`'s block indices: row block `t / 2`, column block `t % 2`; the contracted axis whole. -/
theorem indices : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

/-- The left factor, the right factor and the residual as arrays. -/
abbrev core (c : Dev nD) : S8192x2048.Idx → EReal := m ((c : Thread nD τ).loc main_arg0)
abbrev wts (c : Dev nD) : S2048x2048.Idx → EReal := m ((c : Thread nD τ).loc main_arg1)
abbrev res (c : Dev nD) : S8192x2048.Idx → EReal := m ((c : Thread nD τ).loc main_arg2)

/-- The blocks of the three arrays at a point. -/
abbrev lhs (c : Dev nD) (t : Fin cfg0.N) : S1024x2048.Idx → EReal := iblk m c 0 t
abbrev rhs (c : Dev nD) (t : Fin cfg0.N) : S2048x1024.Idx → EReal := iblk m c 1 t
abbrev add (c : Dev nD) (t : Fin cfg0.N) : S1024x1024.Idx → EReal := iblk m c 2 t

theorem lhs_blk (c : Dev nD) (t : Fin cfg0.N) (a : Fin 1024) (k : Fin 2048) (R : Fin 8192)
    (hR : R.val = 1024 * (t.val / 2) + a.val) :
    lhs m c t (ix2 a k) = core m c (ix2 R k) := by
  obtain ⟨⟨e0, e1⟩, -, -⟩ := indices t
  refine (congrFun (V_main_arg0 m c) _).trans (congrArg (core m c) (place _ R k ?_ ?_))
  · show win0_0.index t (0 : Fin 2) * 1024 + 1 * a.val = R.val; omega
  · show win0_0.index t (1 : Fin 2) * 2048 + 1 * k.val = k.val; omega

theorem rhs_blk (c : Dev nD) (t : Fin cfg0.N) (k : Fin 2048) (b : Fin 1024) (C : Fin 2048)
    (hC : C.val = 1024 * (t.val % 2) + b.val) :
    rhs m c t (ix2 k b) = wts m c (ix2 k C) := by
  obtain ⟨-, ⟨e0, e1⟩, -⟩ := indices t
  refine (congrFun (V_main_arg1 m c) _).trans (congrArg (wts m c) (place _ k C ?_ ?_))
  · show win0_1.index t (0 : Fin 2) * 2048 + 1 * k.val = k.val; omega
  · show win0_1.index t (1 : Fin 2) * 1024 + 1 * b.val = C.val; omega

theorem res_blk (c : Dev nD) (t : Fin cfg0.N) (a : Fin 1024) (b : Fin 1024) (R : Fin 8192) (C : Fin 2048)
    (hR : R.val = 1024 * (t.val / 2) + a.val) (hC : C.val = 1024 * (t.val % 2) + b.val) :
    add m c t (ix2 a b) = res m c (ix2 R C) := by
  obtain ⟨-, -, ⟨e0, e1⟩⟩ := indices t
  refine (congrFun (V_main_arg2 m c) _).trans (congrArg (res m c) (place _ R C ?_ ?_))
  · show win0_2.index t (0 : Fin 2) * 1024 + 1 * a.val = R.val; omega
  · show win0_2.index t (1 : Fin 2) * 1024 + 1 * b.val = C.val; omega

/-! ## The result array -/

/-- The sum the launch is to leave at row `R` and column `C`. -/
def sum (c : Dev nD) (R : Fin 8192) (C : Fin 2048) : EReal :=
  res m c (ix2 R C) + ∑ k : Fin 2048, core m c (ix2 R k) * wts m c (ix2 k C)

/-- The array of these sums. -/
def total (c : Dev nD) : Buf (Elt Ideal) ((c : Thread nD τ).loc main_v0) :=
  fun i : S8192x2048.Idx => sum m c (i 0) (i 1)

/-- The block a point stores, -/
abbrev stored (c : Dev nD) (t : Fin cfg0.N) : S1024x1024.Idx → EReal := outsAt0 m c t

/-- element by element. -/
theorem stored_eq (c : Dev nD) (t : Fin cfg0.N) (a b : Fin 1024) (R : Fin 8192) (C : Fin 2048)
    (hR : R.val = 1024 * (t.val / 2) + a.val) (hC : C.val = 1024 * (t.val % 2) + b.val) :
    stored m c t (ix2 a b) = sum m c R C := by
  have e : stored m c t (ix2 a b)
      = add m c t (ix2 a b) + (0 + ∑ k : Fin 2048, lhs m c t (ix2 a k) * rhs m c t (ix2 k b)) := by
    unfold stored outsAt0
    rw [point, pay3_apply, pay2_apply, pay1_apply]
  rw [e, zero_add, res_blk m c t a b R C hR hC]
  unfold sum
  refine congrArg _ (Finset.sum_congr rfl fun k _ => ?_)
  rw [lhs_blk m c t a k R hR, rhs_blk m c t k b C hC]

/-- The printed index map of the result, and that every point writes its block back. -/
theorem places : ∀ t : Fin cfg0.N, win0_3.index t (0 : Fin 2) = t.val / 2 ∧ win0_3.index t (1 : Fin 2) = t.val % 2 :=
  (by decide +kernel : ∀ t : Fin grid0.N, _)

theorem flushes : ∀ t : Fin cfg0.N, (cfg0.win 3).flush t = true :=
  (by decide +kernel : ∀ t : Fin grid0.N, win0_3.flush t = true)

/-- What a point writes back is its block of the array of sums. -/
theorem flushed_eq (c : Dev nD) (t : Fin cfg0.N) :
    (dats m 0 c).flushed 3 t = ((cfg0.win 3).blk t).view.read (Elt Ideal) (total m c) := by
  rw [flushed3]
  obtain ⟨e0, e1⟩ := places t
  funext y
  rw [View.read_apply]
  have hy0 : (y 0).val < 1024 := (y 0).isLt
  have hy1 : (y 1).val < 1024 := (y 1).isLt
  have hx : (cfg0.win 3).xinj (grid0.coords t) y = ix2 (⟨(y 0).val, hy0⟩ : Fin 1024) (⟨(y 1).val, hy1⟩ : Fin 1024) := by
    funext d; match d with | ⟨0, _⟩ => rfl | ⟨1, _⟩ => rfl
  show stored m c t ((cfg0.win 3).xinj (grid0.coords t) y) = sum m c (((cfg0.win 3).blk t).view.emb y 0) (((cfg0.win 3).blk t).view.emb y 1)
  rw [hx]
  refine stored_eq m c t _ _ _ _ ?_ ?_
  · show win0_3.index t (0 : Fin 2) * 1024 + 1 * (y 0).val = _; dsimp only; omega
  · show win0_3.index t (1 : Fin 2) * 1024 + 1 * (y 1).val = _; dsimp only; omega

/-- A place is in a point's block when its coordinates are in the block's ranges. -/
theorem mem_block (t : Fin cfg0.N) (i : S8192x2048.Idx)
    (h0 : 1024 * (t.val / 2) ≤ (i 0).val ∧ (i 0).val < 1024 * (t.val / 2) + 1024)
    (h1 : 1024 * (t.val % 2) ≤ (i 1).val ∧ (i 1).val < 1024 * (t.val % 2) + 1024) :
    i ∈ ((cfg0.win 3).blk t).view.set := by
  obtain ⟨e0, e1⟩ := places t
  show i ∈ ((View.whole main_v0).slice (win0_3.rect t)).set
  rw [View.set_slice_whole, Rect.mem_set_unit]
  intro d
  match d with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Every place of the array is in some point's block. -/
theorem covers (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 16 := N_0
  have hlt : 2 * ((i 0).val / 1024) + (i 1).val / 1024 < cfg0.N := by omega
  exact ⟨⟨_, hlt⟩, flushes _, mem_block ⟨_, hlt⟩ i (by dsimp only; omega) (by dsimp only; omega)⟩

/-- THE RESULT ARRAY after the run is the array of sums. -/
theorem final (c : Dev nD) : (dats m 0 c).arrAt 3 cfg0.N = total m c :=
  (dats m 0 c).arrAt_eq_of_cover 3 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

theorem result_apply (c : Dev nD) (R : Fin 8192) (C : Fin 2048) :
    total m c (ix2 R C) = res m c (ix2 R C) + ∑ k : Fin 2048, core m c (ix2 R k) * wts m c (ix2 k C) := rfl

end Cert.Kernel7Ideal.Residual

end
-- ==== Proof.AttnSampleOutputValue.lean ====
/- The value of the attention layer's output product with its residual for the sample, at the ideal values: the result array
   holds `x[r,c] + ∑ₖ o[r,k] · w[k,c]`. All 32 rows are one block; the grid walks 2 column blocks, and the contracted axis is
   one block: a point resets its accumulator, adds the whole product and stores it with the residual. -/
module

public import proofs.«01_k».proof.Proof.Gen.Kernel19Ideal.Value
public import proofs.«01_k».proof.Proof.Sweeps

@[expose] public section

set_option maxRecDepth 8192

noncomputable section

namespace Cert.Kernel19Ideal.Residual

open Cert.Kernel19Ideal Cert.Kernel19Ideal.Gen Cert.Kernel19Ideal.Value Cert.Sweeps
open Idealize.ShloMosaic Idealize.ShloMosaic.TcCoe Idealize.SL.Sem
open scoped BigOperators

/-! ## What one point computes -/

section Cases

variable {F : FTy → Type} [FloatOps F]
variable (c : Dev nD) (i : grid0.Coords)
  (a3 : Memref sig .tc .vmem S32x2048 .bf16) (h3 : a3.IsWhole) (a4 : Memref sig .tc .vmem S2048x1024 .bf16) (h4 : a4.IsWhole)
  (a5 : Memref sig .tc .vmem S32x1024 .f32) (h5 : a5.IsWhole) (a6 : Memref sig .tc .vmem S32x1024 .f32) (h6 : a6.IsWhole)
  (a7 : Memref sig .tc .vmem S32x1024 .f32) (h7 : a7.IsWhole)
  (x : Vec F S32x2048 .bf16) (w : Vec F S2048x1024 .bf16) (r : Vec F S32x1024 .f32)

/-- A point resets its accumulator, adds its product and stores the sum with the residual. -/
theorem point (hc0 hc1) :
    out0_A_3 c i a3 h3 a4 h4 a5 h5 a6 h6 a7 h7 hc0 hc1 x w r = k0_pay3 (F := F) r (k0_pay2 k0_pay1 x w) := by
  unfold out0_A_3
  rw [View.read_writes_eq_canon _ _ _ (cover0_A_3 c i a3 h3 a4 h4 a5 h5 a6 h6 a7 h7 hc0 hc1 x w r)]
  unfold kernelRun0_A
  dsimp only
  sl_unfold_words
  rw [View.canon_unit_zero zero_offsets]
  simp only [View.readAt_eq_ld, h3.read_unread, h4.read_unread, h5.read_unread,
    View.readCov_cons_toLoadRect, View.readCov_unit_zero (S := S32x1024) _ zero_offsets,
    View.ld_unit_zero (S := S32x2048) zero_offsets,
    View.ld_unit_zero (S := S2048x1024) zero_offsets, View.ld_unit_zero (S := S32x1024) zero_offsets]

end Cases

variable (m : (ℓ : Loc nD τ sig) → Buf (Elt Ideal) ℓ)

/-- The accumulating payload at an element. -/
theorem pay2_apply (acc : Vec Ideal S32x1024 .f32) (x : Vec Ideal S32x2048 .bf16) (w : Vec Ideal S2048x1024 .bf16)
    (a : Fin 32) (b : Fin 1024) : k0_pay2 acc x w (ix2 a b) = acc (ix2 a b) + ∑ k : Fin 2048, x (ix2 a k) * w (ix2 k b) := by
  pointwise [k0_pay2]

/-- The reset's payload is zero. -/
theorem pay1_apply (j : S32x1024.Idx) : k0_pay1 (F := Ideal) j = (0 : EReal) := by
  unfold k0_pay1
  simp only [shapeCast_self]
  show Ideal.ofBits .f32 0x00000000#32 = 0
  exact Ideal.ofBits_zero_f32

/-- The last payload adds the residual. -/
theorem pay3_apply (r acc : Vec Ideal S32x1024 .f32) (j : S32x1024.Idx) : k0_pay3 r acc j = (r j + acc j : EReal) := rfl

/-! ## The blocks a point sees -/

/-- Point `t`'s block indices: row block `t / 2`, which is zero, column block `t % 2`; the contracted axis whole. -/
theorem indices : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

/-- The left factor, the right factor and the residual as arrays. -/
abbrev core (c : Dev nD) : S32x2048.Idx → EReal := m ((c : Thread nD τ).loc main_arg0)
abbrev wts (c : Dev nD) : S2048x2048.Idx → EReal := m ((c : Thread nD τ).loc main_arg1)
abbrev res (c : Dev nD) : S32x2048.Idx → EReal := m ((c : Thread nD τ).loc main_arg2)

/-- The blocks of the three arrays at a point. -/
abbrev lhs (c : Dev nD) (t : Fin cfg0.N) : S32x2048.Idx → EReal := iblk m c 0 t
abbrev rhs (c : Dev nD) (t : Fin cfg0.N) : S2048x1024.Idx → EReal := iblk m c 1 t
abbrev add (c : Dev nD) (t : Fin cfg0.N) : S32x1024.Idx → EReal := iblk m c 2 t

theorem lhs_blk (c : Dev nD) (t : Fin cfg0.N) (a : Fin 32) (k : Fin 2048) (R : Fin 32)
    (hR : R.val = 32 * (t.val / 2) + a.val) :
    lhs m c t (ix2 a k) = core m c (ix2 R k) := by
  obtain ⟨⟨e0, e1⟩, -, -⟩ := indices t
  refine (congrFun (V_main_arg0 m c) _).trans (congrArg (core m c) (place _ R k ?_ ?_))
  · show win0_0.index t (0 : Fin 2) * 32 + 1 * a.val = R.val; omega
  · show win0_0.index t (1 : Fin 2) * 2048 + 1 * k.val = k.val; omega

theorem rhs_blk (c : Dev nD) (t : Fin cfg0.N) (k : Fin 2048) (b : Fin 1024) (C : Fin 2048)
    (hC : C.val = 1024 * (t.val % 2) + b.val) :
    rhs m c t (ix2 k b) = wts m c (ix2 k C) := by
  obtain ⟨-, ⟨e0, e1⟩, -⟩ := indices t
  refine (congrFun (V_main_arg1 m c) _).trans (congrArg (wts m c) (place _ k C ?_ ?_))
  · show win0_1.index t (0 : Fin 2) * 2048 + 1 * k.val = k.val; omega
  · show win0_1.index t (1 : Fin 2) * 1024 + 1 * b.val = C.val; omega

theorem res_blk (c : Dev nD) (t : Fin cfg0.N) (a : Fin 32) (b : Fin 1024) (R : Fin 32) (C : Fin 2048)
    (hR : R.val = 32 * (t.val / 2) + a.val) (hC : C.val = 1024 * (t.val % 2) + b.val) :
    add m c t (ix2 a b) = res m c (ix2 R C) := by
  obtain ⟨-, -, ⟨e0, e1⟩⟩ := indices t
  refine (congrFun (V_main_arg2 m c) _).trans (congrArg (res m c) (place _ R C ?_ ?_))
  · show win0_2.index t (0 : Fin 2) * 32 + 1 * a.val = R.val; omega
  · show win0_2.index t (1 : Fin 2) * 1024 + 1 * b.val = C.val; omega

/-! ## The result array -/

/-- The sum the launch is to leave at row `R` and column `C`. -/
def sum (c : Dev nD) (R : Fin 32) (C : Fin 2048) : EReal :=
  res m c (ix2 R C) + ∑ k : Fin 2048, core m c (ix2 R k) * wts m c (ix2 k C)

/-- The array of these sums. -/
def total (c : Dev nD) : Buf (Elt Ideal) ((c : Thread nD τ).loc main_v0) :=
  fun i : S32x2048.Idx => sum m c (i 0) (i 1)

/-- The block a point stores, -/
abbrev stored (c : Dev nD) (t : Fin cfg0.N) : S32x1024.Idx → EReal := outsAt0 m c t

/-- element by element. -/
theorem stored_eq (c : Dev nD) (t : Fin cfg0.N) (a : Fin 32) (b : Fin 1024) (R : Fin 32) (C : Fin 2048)
    (hR : R.val = 32 * (t.val / 2) + a.val) (hC : C.val = 1024 * (t.val % 2) + b.val) :
    stored m c t (ix2 a b) = sum m c R C := by
  have e : stored m c t (ix2 a b)
      = add m c t (ix2 a b) + (0 + ∑ k : Fin 2048, lhs m c t (ix2 a k) * rhs m c t (ix2 k b)) := by
    unfold stored outsAt0
    rw [point, pay3_apply, pay2_apply, pay1_apply]
  rw [e, zero_add, res_blk m c t a b R C hR hC]
  unfold sum
  refine congrArg _ (Finset.sum_congr rfl fun k _ => ?_)
  rw [lhs_blk m c t a k R hR, rhs_blk m c t k b C hC]

/-- The printed index map of the result, and that every point writes its block back. -/
theorem places : ∀ t : Fin cfg0.N, win0_3.index t (0 : Fin 2) = t.val / 2 ∧ win0_3.index t (1 : Fin 2) = t.val % 2 :=
  (by decide +kernel : ∀ t : Fin grid0.N, _)

theorem flushes : ∀ t : Fin cfg0.N, (cfg0.win 3).flush t = true :=
  (by decide +kernel : ∀ t : Fin grid0.N, win0_3.flush t = true)

/-- What a point writes back is its block of the array of sums. -/
theorem flushed_eq (c : Dev nD) (t : Fin cfg0.N) :
    (dats m 0 c).flushed 3 t = ((cfg0.win 3).blk t).view.read (Elt Ideal) (total m c) := by
  rw [flushed3]
  obtain ⟨e0, e1⟩ := places t
  funext y
  rw [View.read_apply]
  have hy0 : (y 0).val < 32 := (y 0).isLt
  have hy1 : (y 1).val < 1024 := (y 1).isLt
  have hx : (cfg0.win 3).xinj (grid0.coords t) y = ix2 (⟨(y 0).val, hy0⟩ : Fin 32) (⟨(y 1).val, hy1⟩ : Fin 1024) := by
    funext d; match d with | ⟨0, _⟩ => rfl | ⟨1, _⟩ => rfl
  show stored m c t ((cfg0.win 3).xinj (grid0.coords t) y) = sum m c (((cfg0.win 3).blk t).view.emb y 0) (((cfg0.win 3).blk t).view.emb y 1)
  rw [hx]
  refine stored_eq m c t _ _ _ _ ?_ ?_
  · show win0_3.index t (0 : Fin 2) * 32 + 1 * (y 0).val = _; dsimp only; omega
  · show win0_3.index t (1 : Fin 2) * 1024 + 1 * (y 1).val = _; dsimp only; omega

/-- A place is in a point's block when its coordinates are in the block's ranges. -/
theorem mem_block (t : Fin cfg0.N) (i : S32x2048.Idx)
    (h0 : 32 * (t.val / 2) ≤ (i 0).val ∧ (i 0).val < 32 * (t.val / 2) + 32)
    (h1 : 1024 * (t.val % 2) ≤ (i 1).val ∧ (i 1).val < 1024 * (t.val % 2) + 1024) :
    i ∈ ((cfg0.win 3).blk t).view.set := by
  obtain ⟨e0, e1⟩ := places t
  show i ∈ ((View.whole main_v0).slice (win0_3.rect t)).set
  rw [View.set_slice_whole, Rect.mem_set_unit]
  intro d
  match d with
  | ⟨0, _⟩ => show win0_3.index t (0 : Fin 2) * 32 ≤ (i 0).val ∧ (i 0).val < win0_3.index t (0 : Fin 2) * 32 + 32; omega
  | ⟨1, _⟩ => show win0_3.index t (1 : Fin 2) * 1024 ≤ (i 1).val ∧ (i 1).val < win0_3.index t (1 : Fin 2) * 1024 + 1024; omega

/-- Every place of the array is in some point's block. -/
theorem covers (i : S32x2048.Idx) :
    ∃ t : Fin cfg0.N, (cfg0.win 3).flush t = true ∧ i ∈ ((cfg0.win 3).blk t).view.set := by
  have h0 : (i 0).val < 32 := (i 0).isLt
  have h1 : (i 1).val < 2048 := (i 1).isLt
  have hN : cfg0.N = 2 := N_0
  have hlt : 2 * ((i 0).val / 32) + (i 1).val / 1024 < cfg0.N := by omega
  exact ⟨⟨_, hlt⟩, flushes _, mem_block ⟨_, hlt⟩ i (by dsimp only; omega) (by dsimp only; omega)⟩

/-- THE RESULT ARRAY after the run is the array of sums. -/
theorem final (c : Dev nD) : (dats m 0 c).arrAt 3 cfg0.N = total m c :=
  (dats m 0 c).arrAt_eq_of_cover 3 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

theorem result_apply (c : Dev nD) (R : Fin 32) (C : Fin 2048) :
    total m c (ix2 R C) = res m c (ix2 R C) + ∑ k : Fin 2048, core m c (ix2 R k) * wts m c (ix2 k C) := rfl

end Cert.Kernel19Ideal.Residual

end
-- ==== Proof.DeltaSampleValue.lean ====
/- The value of the RMS-normalised product with the delta-net's input weights, for the sample, at the ideal values:
   with `x̂[r,k]` the normalised row, the result array holds `∑ₖ x̂[r,k] · w[k,c]`. The grid walks one row block by
   6 column blocks; the first column block normalises the rows into a carried block, which the others read (Sweeps). -/
module

public import proofs.«01_k».proof.Proof.Gen.Kernel9Ideal.Value
public import proofs.«01_k».proof.Proof.Sweeps

@[expose] public section

set_option maxRecDepth 8192

noncomputable section

namespace Cert.Kernel9Ideal.Projection

open Cert.Kernel9Ideal Cert.Kernel9Ideal.Gen Cert.Kernel9Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S32x2048.Idx → EReal := m ((c : Thread nD τ).loc main_arg0)
abbrev gains (c : Dev nD) : S2048.Idx → EReal := m ((c : Thread nD τ).loc main_arg1)
abbrev wts (c : Dev nD) : S2048x12288.Idx → EReal := m ((c : Thread nD τ).loc main_arg2)

/-- The blocks of the three arrays at a point, and the carried block and the output block after it. -/
abbrev lhs (c : Dev nD) (n : ℕ) (hn : n < cfg0.N) : Vec Ideal S32x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S32x2048 .bf16 := (outsAt0 m c n hn).2
abbrev stored (c : Dev nD) (n : ℕ) (hn : n < cfg0.N) : Vec Ideal S32x2048 .f32 := (outsAt0 m c n hn).1

/-! ## What one point computes -/

/-- The first column block normalises the rows into the carried block; -/
theorem carry_first (c : Dev nD) (n : ℕ) (hn : n < cfg0.N) (h0 : n % 6 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S32x2048) zero_offsets, View.ld_unit_zero (S := S1x2048) zero_offsets]

/-- a later one leaves it. -/
theorem carry_later (c : Dev nD) (n : ℕ) (hn : n + 1 < cfg0.N) (h0 : ¬(n + 1) % 6 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 6 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S32x2048) _ zero_offsets,
      View.ld_unit_zero (S := S32x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S32x2048) zero_offsets, View.ld_unit_zero (S := S2048x2048) zero_offsets]
    rfl

theorem pay1_apply (x : Vec Ideal S32x2048 .f32) (g : Vec Ideal S1x2048 .f32) (a : Fin 32) (k : Fin 2048) :
    k0_pay1 x g (ix2 a k) = normed (fun d => x (ix2 a d)) (fun d => g (ix2 (0 : Fin 1) d)) k := by
  pointwise [k0_pay1, normed]

theorem pay2_apply (acc : Vec Ideal S32x2048 .bf16) (w : Vec Ideal S2048x2048 .bf16) (a : Fin 32) (b : Fin 2048) :
    k0_pay2 acc w (ix2 a b) = (∑ k : Fin 2048, acc (ix2 a k) * w (ix2 k b) : EReal) := by
  pointwise [k0_pay2]

/-! ## The blocks a point sees -/

/-- Point `t`'s block indices: row block `t / 6`, column block `t % 6`; the gains whole. -/
theorem indices : ∀ t : Fin cfg0.N,
    (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 6) :=
  (by decide +kernel : ∀ t : Fin grid0.N, _)

theorem lhs_blk (c : Dev nD) (n : ℕ) (hn : n < cfg0.N) (a : Fin 32) (k : Fin 2048) (R : Fin 32)
    (hR : R.val = 32 * (n / 6) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 32 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 12288)
    (hC : C.val = 2048 * (n % 6) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element. -/
def product (c : Dev nD) (R : Fin 32) (C : Fin 12288) : EReal :=
  ∑ k : Fin 2048, normed (fun d => rows m c (ix2 R d)) (fun d => gains m c (ix1 d)) k * wts m c (ix2 k C)

/-- What a point stores of it. -/
theorem stored_apply (c : Dev nD) (n : ℕ) (hn : n < cfg0.N) (a : Fin 32) (b : Fin 2048) (R : Fin 32) (C : Fin 12288)
    (hR : R.val = 32 * (n / 6) + a.val) (hC : C.val = 2048 * (n % 6) + b.val) :
    stored m c n hn (ix2 a b) = product m c R C := by
  rw [stored_eq, pay2_apply]
  exact normed_product (B := 32) (nt := 6) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC

/-- THE RESULT ARRAY, element by element. -/
theorem result_apply (c : Dev nD) (R : Fin 32) (C : Fin 12288) : G3 m c (ix2 R C) = product m c R C := by
  have hR := R.isLt
  have hC := C.isLt
  have hp : pt3Of (ix2 R C) = 6 * (R.val / 32) + C.val / 2048 := by
    show 6 * (R.val / 32 - 0) + 1 * (C.val / 2048 - 0) = _; omega
  have hN : cfg0.N = 6 := N_0
  have hlt : pt3Of (ix2 R C) < cfg0.N := by omega
  unfold G3
  rw [dif_pos hlt, ← outsAt0_sweep m c _ hlt,
    place (loc3Of (ix2 R C)) (⟨R.val % 32, by omega⟩ : Fin 32) (⟨C.val % 2048, by omega⟩ : Fin 2048) rfl rfl]
  exact stored_apply m c _ hlt _ _ R C (by dsimp only; omega) (by dsimp only; omega)

end Cert.Kernel9Ideal.Projection

end
-- ==== Proof.QkvSampleValue.lean ====
/- The value of the RMS-normalised product with the query, key and value weights, for the sample, at the ideal values:
   with `x̂[r,k]` the normalised row, the result array holds `∑ₖ x̂[r,k] · w[k,c]`. The grid walks one row block by
   3 column blocks; the first column block normalises the rows into a carried block, which the others read (Sweeps). -/
module

public import proofs.«01_k».proof.Proof.Gen.Kernel10Ideal.Value
public import proofs.«01_k».proof.Proof.Sweeps

@[expose] public section

set_option maxRecDepth 8192

noncomputable section

namespace Cert.Kernel10Ideal.Projection

open Cert.Kernel10Ideal Cert.Kernel10Ideal.Gen Cert.Kernel10Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S32x2048.Idx → EReal := m ((c : Thread nD τ).loc main_arg0)
abbrev gains (c : Dev nD) : S2048.Idx → EReal := m ((c : Thread nD τ).loc main_arg1)
abbrev wts (c : Dev nD) : S2048x6144.Idx → EReal := m ((c : Thread nD τ).loc main_arg2)

/-- The blocks of the three arrays at a point, and the carried block and the output block after it. -/
abbrev lhs (c : Dev nD) (n : ℕ) (hn : n < cfg0.N) : Vec Ideal S32x2048 .f32 := iblk m c 0 ⟨n, hn⟩
abbrev gns (c : Dev nD) (n : ℕ) (hn : n < cfg0.N) : Vec Ideal S1x2048 .f32 := iblk m c 1 ⟨n, hn⟩
abbrev rhs (c : Dev nD) (n : ℕ) (hn : n < cfg0.N) : Vec Ideal S2048x2048 .bf16 := iblk m c 2 ⟨n, hn⟩
abbrev carry (c : Dev nD) (n : ℕ) (hn : n < cfg0.N) : Vec Ideal S32x2048 .bf16 := (outsAt0 m c n hn).2
abbrev stored (c : Dev nD) (n : ℕ) (hn : n < cfg0.N) : Vec Ideal S32x2048 .f32 := (outsAt0 m c n hn).1

/-! ## What one point computes -/

/-- The first column block normalises the rows into the carried block; -/
theorem carry_first (c : Dev nD) (n : ℕ) (hn : n < cfg0.N) (h0 : n % 3 = 0) :
    carry m c n hn = k0_pay1 (lhs m c n hn) (gns m c n hn) := by
  unfold carry
  rw [outsAt0_A m c ⟨n, hn⟩ h0]
  dsimp only
  unfold sout0_A_0
  rw [View.read_writes_eq_canon _ _ _ (scover0_A_0 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    View.ld_unit_zero (S := S32x2048) zero_offsets, View.ld_unit_zero (S := S1x2048) zero_offsets]

/-- a later one leaves it. -/
theorem carry_later (c : Dev nD) (n : ℕ) (hn : n + 1 < cfg0.N) (h0 : ¬(n + 1) % 3 = 0) :
    carry m c (n + 1) hn = carry m c n (Nat.lt_of_succ_lt hn) := by
  unfold carry
  rw [outsAt0_B m c ⟨n + 1, hn⟩ h0]
  rfl

/-- Every column block stores its product with the carried block. -/
theorem stored_eq (c : Dev nD) (n : ℕ) (hn : n < cfg0.N) :
    stored m c n hn = k0_pay2 (carry m c n hn) (rhs m c n hn) := by
  by_cases h0 : n % 3 = 0
  · rw [carry_first m c n hn h0]
    unfold stored
    rw [outsAt0_A m c ⟨n, hn⟩ h0]
    dsimp only
    unfold out0_A_3
    rw [View.read_writes_eq_canon _ _ _ (cover0_A_3 _ _ _ _ _ _ _ _ _ _ _ _ _ _ _ _)]
    unfold kernelRun0_A
    dsimp only
    sl_unfold_words
    rw [View.canon_unit_zero zero_offsets]
    simp only [View.readAt_eq_ld, Memref.IsWhole.read_unread (hs0_0 _), Memref.IsWhole.read_unread (hs0_1 _),
      Memref.IsWhole.read_unread (hs0_2 _), View.readCov_unit_zero (S := S32x2048) _ zero_offsets,
      View.ld_unit_zero (S := S32x2048) zero_offsets, View.ld_unit_zero (S := S1x2048) zero_offsets,
      View.ld_unit_zero (S := S2048x2048) zero_offsets]
  · unfold stored carry
    rw [outsAt0_B m c ⟨n, hn⟩ h0]
    dsimp only
    unfold out0_B_3
    rw [View.read_writes_eq_canon _ _ _ (cover0_B_3 _ _ _ _ _ _ _ _ _ _ _ _ _ _ _ _ _)]
    unfold kernelRun0_B
    dsimp only
    sl_unfold_words
    rw [View.canon_unit_zero zero_offsets]
    simp only [View.readAt_eq_ld, Memref.IsWhole.read_unread (hs0_2 _), Memref.IsWhole.read_unread (Memref.isWhole_whole _),
      View.ld_unit_zero (S := S32x2048) zero_offsets, View.ld_unit_zero (S := S2048x2048) zero_offsets]
    rfl

theorem pay1_apply (x : Vec Ideal S32x2048 .f32) (g : Vec Ideal S1x2048 .f32) (a : Fin 32) (k : Fin 2048) :
    k0_pay1 x g (ix2 a k) = normed (fun d => x (ix2 a d)) (fun d => g (ix2 (0 : Fin 1) d)) k := by
  pointwise [k0_pay1, normed]

theorem pay2_apply (acc : Vec Ideal S32x2048 .bf16) (w : Vec Ideal S2048x2048 .bf16) (a : Fin 32) (b : Fin 2048) :
    k0_pay2 acc w (ix2 a b) = (∑ k : Fin 2048, acc (ix2 a k) * w (ix2 k b) : EReal) := by
  pointwise [k0_pay2]

/-! ## The blocks a point sees -/

/-- Point `t`'s block indices: row block `t / 3`, column block `t % 3`; the gains whole. -/
theorem indices : ∀ t : Fin cfg0.N,
    (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3) :=
  (by decide +kernel : ∀ t : Fin grid0.N, _)

theorem lhs_blk (c : Dev nD) (n : ℕ) (hn : n < cfg0.N) (a : Fin 32) (k : Fin 2048) (R : Fin 32)
    (hR : R.val = 32 * (n / 3) + a.val) : lhs m c n hn (ix2 a k) = rows m c (ix2 R k) := by
  obtain ⟨⟨e0, e1⟩, -, -⟩ := indices ⟨n, hn⟩
  refine (congrFun (V_main_arg0 m c) _).trans (congrArg (rows m c) (place _ R k ?_ ?_))
  · show win0_0.index ⟨n, hn⟩ (0 : Fin 2) * 32 + 1 * a.val = R.val; dsimp only at e0; omega
  · show win0_0.index ⟨n, hn⟩ (1 : Fin 2) * 2048 + 1 * k.val = k.val; omega

theorem rhs_blk (c : Dev nD) (n : ℕ) (hn : n < cfg0.N) (k b : Fin 2048) (C : Fin 6144)
    (hC : C.val = 2048 * (n % 3) + b.val) : rhs m c n hn (ix2 k b) = wts m c (ix2 k C) := by
  obtain ⟨-, -, ⟨e0, e1⟩⟩ := indices ⟨n, hn⟩
  refine (congrFun (V_main_arg2 m c) _).trans (congrArg (wts m c) (place _ k C ?_ ?_))
  · show win0_2.index ⟨n, hn⟩ (0 : Fin 2) * 2048 + 1 * k.val = k.val; omega
  · show win0_2.index ⟨n, hn⟩ (1 : Fin 2) * 2048 + 1 * b.val = C.val; dsimp only at e1; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (n : ℕ) (hn : n < cfg0.N) (k : Fin 2048) : gns m c n hn (ix2 (0 : Fin 1) k) = gains m c (ix1 k) := by
  obtain ⟨-, ⟨e0, e1⟩, -⟩ := indices ⟨n, hn⟩
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index ⟨n, hn⟩ (0 : Fin 2) * 1 + 1 * 0 = 0; omega
  · show win0_1.index ⟨n, hn⟩ (1 : Fin 2) * 2048 + 1 * k.val = k.val; omega

/-! ## The result -/

/-- The product of the normalised rows with the weights, element by element. -/
def product (c : Dev nD) (R : Fin 32) (C : Fin 6144) : EReal :=
  ∑ k : Fin 2048, normed (fun d => rows m c (ix2 R d)) (fun d => gains m c (ix1 d)) k * wts m c (ix2 k C)

/-- What a point stores of it. -/
theorem stored_apply (c : Dev nD) (n : ℕ) (hn : n < cfg0.N) (a : Fin 32) (b : Fin 2048) (R : Fin 32) (C : Fin 6144)
    (hR : R.val = 32 * (n / 3) + a.val) (hC : C.val = 2048 * (n % 3) + b.val) :
    stored m c n hn (ix2 a b) = product m c R C := by
  rw [stored_eq, pay2_apply]
  exact normed_product (B := 32) (nt := 3) (fun r k => rows m c (ix2 r k)) (fun k => gains m c (ix1 k)) (fun k j => wts m c (ix2 k j))
    (fun n hn a k => lhs m c n hn (ix2 a k)) (fun n hn a k => carry m c n hn (ix2 a k)) (fun n hn k b => rhs m c n hn (ix2 k b))
    (lhs_blk m c) (rhs_blk m c)
    (fun n hn h0 a k => by
      rw [carry_first m c n hn h0, pay1_apply]
      simp only [gns_blk])
    (fun n hn h0 a k => by rw [carry_later m c n hn h0]) n hn a b R C hR hC

/-- THE RESULT ARRAY, element by element. -/
theorem result_apply (c : Dev nD) (R : Fin 32) (C : Fin 6144) : G3 m c (ix2 R C) = product m c R C := by
  have hR := R.isLt
  have hC := C.isLt
  have hp : pt3Of (ix2 R C) = 3 * (R.val / 32) + C.val / 2048 := by
    show 3 * (R.val / 32 - 0) + 1 * (C.val / 2048 - 0) = _; omega
  have hN : cfg0.N = 3 := N_0
  have hlt : pt3Of (ix2 R C) < cfg0.N := by omega
  unfold G3
  rw [dif_pos hlt, ← outsAt0_sweep m c _ hlt,
    place (loc3Of (ix2 R C)) (⟨R.val % 32, by omega⟩ : Fin 32) (⟨C.val % 2048, by omega⟩ : Fin 2048) rfl rfl]
  exact stored_apply m c _ hlt _ _ R C (by dsimp only; omega) (by dsimp only; omega)

end Cert.Kernel10Ideal.Projection

end
-- ==== Proof.GatesValue.lean ====
/- The value of the gates' projection, at the ideal values: with `x̂[r,k]` the normalised row, the result array holds
   `∑ₖ x̂[r,k] · w[k,c]` for 128 columns. The grid walks 8 row blocks, and the columns are one block: every point
   normalises its rows and stores its whole product. -/
module

public import proofs.«01_k».proof.Proof.Gen.Kernel12Ideal.Value
public import proofs.«01_k».proof.Proof.Sweeps

@[expose] public section

set_option maxRecDepth 8192

noncomputable section

namespace Cert.Kernel12Ideal.Gates

open Cert.Kernel12Ideal Cert.Kernel12Ideal.Gen Cert.Kernel12Ideal.Value Cert.Sweeps
open Idealize.ShloMosaic Idealize.ShloMosaic.TcCoe Idealize.SL.Sem
open scoped BigOperators

variable (m : (ℓ : Loc nD τ sig) → Buf (Elt Ideal) ℓ)

/-- The rows, the gains and the weights as arrays. -/
abbrev rows (c : Dev nD) : S8192x2048.Idx → EReal := m ((c : Thread nD τ).loc main_arg0)
abbrev gains (c : Dev nD) : S2048.Idx → EReal := m ((c : Thread nD τ).loc main_arg1)
abbrev wts (c : Dev nD) : S2048x128.Idx → EReal := m ((c : Thread nD τ).loc main_arg2)

/-- The blocks of the three arrays at a point, and the block it stores. -/
abbrev lhs (c : Dev nD) (t : Fin cfg0.N) : Vec Ideal S1024x2048 .f32 := iblk m c 0 t
abbrev gns (c : Dev nD) (t : Fin cfg0.N) : Vec Ideal S1x2048 .f32 := iblk m c 1 t
abbrev rhs (c : Dev nD) (t : Fin cfg0.N) : Vec Ideal S2048x128 .bf16 := iblk m c 2 t
abbrev stored (c : Dev nD) (t : Fin cfg0.N) : Vec Ideal S1024x128 .f32 := outsAt0 m c t

/-! ## What one point computes -/

theorem stored_eq (c : Dev nD) (t : Fin cfg0.N) :
    stored m c t = k0_pay2 (k0_pay1 (lhs m c t) (gns m c t)) (rhs m c t) := by
  unfold stored outsAt0 out0_A_3
  rw [View.read_writes_eq_canon _ _ _ (cover0_A_3 _ _ _ _ _ _ _ _ _ _ _ _ _ _ _ _)]
  unfold kernelRun0_A
  dsimp only
  sl_unfold_words
  rw [View.canon_unit_zero zero_offsets]
  simp only [View.readAt_eq_ld, Memref.IsWhole.read_unread (hs0_0 _), Memref.IsWhole.read_unread (hs0_1 _),
    Memref.IsWhole.read_unread (hs0_2 _), View.readCov_unit_zero (S := S1024x2048) _ zero_offsets,
    View.ld_unit_zero (S := S1024x2048) zero_offsets, View.ld_unit_zero (S := S1x2048) zero_offsets,
    View.ld_unit_zero (S := S2048x128) zero_offsets]

theorem pay_apply (x : Vec Ideal S1024x2048 .f32) (g : Vec Ideal S1x2048 .f32) (w : Vec Ideal S2048x128 .bf16) (a : Fin 1024) (b : Fin 128) :
    k0_pay2 (k0_pay1 x g) w (ix2 a b)
      = (∑ k : Fin 2048, normed (fun d => x (ix2 a d)) (fun d => g (ix2 (0 : Fin 1) d)) k * w (ix2 k b) : EReal) := by
  pointwise [k0_pay2, k0_pay1, normed]

/-! ## The blocks a point sees -/

/-- Point `t`'s block indices: row block `t`; the gains and the weights whole. -/
theorem indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem lhs_blk (c : Dev nD) (t : Fin cfg0.N) (a : Fin 1024) (k : Fin 2048) (R : Fin 8192)
    (hR : R.val = 1024 * t.val + a.val) : lhs m c t (ix2 a k) = rows m c (ix2 R k) := by
  obtain ⟨⟨e0, e1⟩, -⟩ := indices t
  refine (congrFun (V_main_arg0 m c) _).trans (congrArg (rows m c) (place _ R k ?_ ?_))
  · show win0_0.index t (0 : Fin 2) * 1024 + 1 * a.val = R.val; omega
  · show win0_0.index t (1 : Fin 2) * 2048 + 1 * k.val = k.val; omega

theorem rhs_blk (c : Dev nD) (t : Fin cfg0.N) (k : Fin 2048) (b : Fin 128) : rhs m c t (ix2 k b) = wts m c (ix2 k b) := by
  obtain ⟨-, -, ⟨e0, e1⟩, -⟩ := indices t
  refine (congrFun (V_main_arg2 m c) _).trans (congrArg (wts m c) (place _ k b ?_ ?_))
  · show win0_2.index t (0 : Fin 2) * 2048 + 1 * k.val = k.val; omega
  · show win0_2.index t (1 : Fin 2) * 128 + 1 * b.val = b.val; omega

/-- The gains as a one-row block. -/
theorem gain_cast (g : FVec Ideal S2048 .f32) (k : Fin 2048) :
    shapeCast S1x2048 g shapeCasts_S2048_S1x2048 (ix2 (0 : Fin 1) k) = g (ix1 k) := by
  pointwise []

theorem gns_blk (c : Dev nD) (t : Fin cfg0.N) (k : Fin 2048) : gns m c t (ix2 (0 : Fin 1) k) = gains m c (ix1 k) := by
  obtain ⟨-, ⟨e0, e1⟩, -⟩ := indices t
  have e : V m c main_v0 = shapeCast S1x2048 (m ((c : Thread nD τ).loc main_arg1)) shapeCasts_S2048_S1x2048 := by
    unfold V hostOps0
    after_results
    rfl
  refine (congrFun e _).trans ((congrArg _ (place _ (0 : Fin 1) k ?_ ?_)).trans (gain_cast _ k))
  · show win0_1.index t (0 : Fin 2) * 1 + 1 * 0 = 0; omega
  · show win0_1.index t (1 : Fin 2) * 2048 + 1 * k.val = k.val; omega

/-! ## The result -/

/-- The product of the normalised rows with the weights, element by element, -/
def product (c : Dev nD) (R : Fin 8192) (C : Fin 128) : EReal :=
  ∑ k : Fin 2048, normed (fun d => rows m c (ix2 R d)) (fun d => gains m c (ix1 d)) k * wts m c (ix2 k C)

/-- the array of them, -/
def total (c : Dev nD) : Buf (Elt Ideal) ((c : Thread nD τ).loc main_v1) :=
  fun i : S8192x128.Idx => product m c (i 0) (i 1)

/-- and what a point stores of it. -/
theorem stored_apply (c : Dev nD) (t : Fin cfg0.N) (a : Fin 1024) (b : Fin 128) (R : Fin 8192) (C : Fin 128)
    (hR : R.val = 1024 * t.val + a.val) (hC : C = b) : stored m c t (ix2 a b) = product m c R C := by
  subst hC
  rw [stored_eq, pay_apply]
  unfold product
  simp only [gns_blk, rhs_blk, lhs_blk m c t a _ R hR]

theorem flushes : ∀ t : Fin cfg0.N, (cfg0.win 3).flush t = true :=
  (by decide +kernel : ∀ t : Fin grid0.N, win0_3.flush t = true)

/-- What a point writes back is its block of that array. -/
theorem flushed_eq (c : Dev nD) (t : Fin cfg0.N) :
    (dats m 0 c).flushed 3 t = ((cfg0.win 3).blk t).view.read (Elt Ideal) (total m c) := by
  rw [flushed3]
  obtain ⟨-, -, -, ⟨e0, e1⟩⟩ := indices t
  funext y
  rw [View.read_apply]
  have hy0 : (y 0).val < 1024 := (y 0).isLt
  have hy1 : (y 1).val < 128 := (y 1).isLt
  show stored m c t ((cfg0.win 3).xinj (grid0.coords t) y) = product m c (((cfg0.win 3).blk t).view.emb y 0) (((cfg0.win 3).blk t).view.emb y 1)
  rw [place ((cfg0.win 3).xinj (grid0.coords t) y) (⟨(y 0).val, hy0⟩ : Fin 1024) (⟨(y 1).val, hy1⟩ : Fin 128) rfl rfl]
  refine stored_apply m c t _ _ _ _ ?_ (Fin.ext ?_)
  · show win0_3.index t (0 : Fin 2) * 1024 + 1 * (y 0).val = _; dsimp only; omega
  · show win0_3.index t (1 : Fin 2) * 128 + 1 * (y 1).val = _; dsimp only; omega

/-- Every place of the array is in some point's block. -/
theorem covers (i : S8192x128.Idx) :
    ∃ t : Fin cfg0.N, (cfg0.win 3).flush t = true ∧ i ∈ ((cfg0.win 3).blk t).view.set := by
  have h0 : (i 0).val < 8192 := (i 0).isLt
  have h1 : (i 1).val < 128 := (i 1).isLt
  have hN : cfg0.N = 8 := N_0
  have hlt : (i 0).val / 1024 < cfg0.N := by omega
  refine ⟨⟨_, hlt⟩, flushes _, ?_⟩
  obtain ⟨-, -, -, ⟨e0, e1⟩⟩ := indices ⟨_, hlt⟩
  show i ∈ ((View.whole main_v1).slice (win0_3.rect ⟨_, hlt⟩)).set
  rw [View.set_slice_whole, Rect.mem_set_unit]
  intro d
  match d with
  | ⟨0, _⟩ => show win0_3.index ⟨_, hlt⟩ (0 : Fin 2) * 1024 ≤ (i 0).val ∧ (i 0).val < win0_3.index ⟨_, hlt⟩ (0 : Fin 2) * 1024 + 1024; dsimp only at e0; omega
  | ⟨1, _⟩ => show win0_3.index ⟨_, hlt⟩ (1 : Fin 2) * 128 ≤ (i 1).val ∧ (i 1).val < win0_3.index ⟨_, hlt⟩ (1 : Fin 2) * 128 + 128; omega

/-- THE RESULT ARRAY after the run is the array of products. -/
theorem final (c : Dev nD) : (dats m 0 c).arrAt 3 cfg0.N = total m c :=
  (dats m 0 c).arrAt_eq_of_cover 3 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

theorem result_apply (c : Dev nD) (R : Fin 8192) (C : Fin 128) : total m c (ix2 R C) = product m c R C := rfl

end Cert.Kernel12Ideal.Gates

end
-- ==== Proof.ProjectionClaims.lean ====
/- The claims about the layers' projections: the input weights of the delta-net and attention layers (each a normalised
   product) and their output weights (each a product with a residual), for the prompt; both again for the sample;
   and the gates' projection. Every launch's frame, and its result beside the reference's. -/
module

public import proofs.«01_k».proof.Defs
public import proofs.«01_k».proof.Proof.DeltaProjectionValue
public import proofs.«01_k».proof.Proof.QkvProjectionValue
public import proofs.«01_k».proof.Proof.DeltaOutputValue
public import proofs.«01_k».proof.Proof.DeltaSampleOutputValue
public import proofs.«01_k».proof.Proof.AttnOutputValue
public import proofs.«01_k».proof.Proof.AttnSampleOutputValue
public import proofs.«01_k».proof.Proof.DeltaSampleValue
public import proofs.«01_k».proof.Proof.QkvSampleValue
public import proofs.«01_k».proof.Proof.GatesValue
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import proofs.«01_k».proof.Proof.Gen.Kernel7.Frame
public import proofs.«01_k».proof.Proof.Gen.Reference7Ideal.Run
public import proofs.«01_k».proof.Proof.Gen.Kernel9.Frame
public import proofs.«01_k».proof.Proof.Gen.Reference9Ideal.Run
public import proofs.«01_k».proof.Proof.Gen.Kernel10.Frame
public import proofs.«01_k».proof.Proof.Gen.Reference10Ideal.Run
public import proofs.«01_k».proof.Proof.Gen.Kernel12.Frame
public import proofs.«01_k».proof.Proof.Gen.Reference12Ideal.Run
public import proofs.«01_k».proof.Proof.Gen.Kernel18.Frame
public import proofs.«01_k».proof.Proof.Gen.Reference18Ideal.Run
public import proofs.«01_k».proof.Proof.Gen.Kernel19.Frame
public import proofs.«01_k».proof.Proof.Gen.Reference19Ideal.Run
public import Idealize.ShloMosaic.Lib.Claim

@[expose] public section

set_option maxRecDepth 8192

noncomputable section

namespace Cert.Proof.ProjectionClaims

open Cert.Sweeps (normed)
open Idealize.ShloMosaic Idealize.ShloMosaic.TcCoe Idealize.SL.Sem

/-! ## Frames -/

/-- Each launch ends with its arguments unchanged and every counter at zero. -/
theorem frame_delta : Cert.quiescent_Kernel4 := fun m g _ => Cert.Kernel4.Gen.frame m g
theorem frame_delta_ideal : Cert.quiescent_Kernel4Ideal := fun m g _ => Cert.Kernel4Ideal.Gen.frame m g
theorem frame_qkv : Cert.quiescent_Kernel5 := fun m g _ => Cert.Kernel5.Gen.frame m g
theorem frame_qkv_ideal : Cert.quiescent_Kernel5Ideal := fun m g _ => Cert.Kernel5Ideal.Gen.frame m g
theorem frame_delta_out : Cert.quiescent_Kernel6 := fun m g _ => Cert.Kernel6.Gen.frame m g
theorem frame_delta_out_ideal : Cert.quiescent_Kernel6Ideal := fun m g _ => Cert.Kernel6Ideal.Gen.frame m g
theorem frame_attn_out : Cert.quiescent_Kernel7 := fun m g _ => Cert.Kernel7.Gen.frame m g
theorem frame_attn_out_ideal : Cert.quiescent_Kernel7Ideal := fun m g _ => Cert.Kernel7Ideal.Gen.frame m g
theorem frame_delta_sample : Cert.quiescent_Kernel9 := fun m g _ => Cert.Kernel9.Gen.frame m g
theorem frame_delta_sample_ideal : Cert.quiescent_Kernel9Ideal := fun m g _ => Cert.Kernel9Ideal.Gen.frame m g
theorem frame_qkv_sample : Cert.quiescent_Kernel10 := fun m g _ => Cert.Kernel10.Gen.frame m g
theorem frame_qkv_sample_ideal : Cert.quiescent_Kernel10Ideal := fun m g _ => Cert.Kernel10Ideal.Gen.frame m g
theorem frame_gates : Cert.quiescent_Kernel12 := fun m g _ => Cert.Kernel12.Gen.frame m g
theorem frame_gates_ideal : Cert.quiescent_Kernel12Ideal := fun m g _ => Cert.Kernel12Ideal.Gen.frame m g
theorem frame_delta_out_sample : Cert.quiescent_Kernel18 := fun m g _ => Cert.Kernel18.Gen.frame m g
theorem frame_delta_out_sample_ideal : Cert.quiescent_Kernel18Ideal := fun m g _ => Cert.Kernel18Ideal.Gen.frame m g
theorem frame_attn_out_sample : Cert.quiescent_Kernel19 := fun m g _ => Cert.Kernel19.Gen.frame m g
theorem frame_attn_out_sample_ideal : Cert.quiescent_Kernel19Ideal := fun m g _ => Cert.Kernel19Ideal.Gen.frame m g

/-- And so does each reference, which has no counters. -/
theorem frame_delta_ref : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)
theorem frame_qkv_ref : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)
theorem frame_delta_out_ref : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)
theorem frame_attn_out_ref : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)
theorem frame_delta_sample_ref : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)
theorem frame_qkv_sample_ref : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)
theorem frame_gates_ref : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)
theorem frame_delta_out_sample_ref : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)
theorem frame_attn_out_sample_ref : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

/-! ## The references, element by element -/

section
open Cert.Reference4Ideal Cert.Reference4Ideal.Gen
theorem delta_ref (x : FVec Ideal S8192x2048 .f32) (g : FVec Ideal S2048 .f32) (w : FVec Ideal S2048x12288 .bf16) (R : Fin 8192) (C : Fin 12288) :
    Host.dotGeneral dot_S8192x2048_S2048x12288_S8192x12288_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (extf .f32 w bitsLt_bf16_f32) (ix2 R C)
      = (∑ k : Fin 2048, normed (fun d => x (ix2 R d)) (fun d => g (ix1 d)) k * w (ix2 k C) : EReal) := by
  pointwise [normed]
end

section
open Cert.Reference5Ideal Cert.Reference5Ideal.Gen
theorem qkv_ref (x : FVec Ideal S8192x2048 .f32) (g : FVec Ideal S2048 .f32) (w : FVec Ideal S2048x6144 .bf16) (R : Fin 8192) (C : Fin 6144) :
    Host.dotGeneral dot_S8192x2048_S2048x6144_S8192x6144_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (extf .f32 w bitsLt_bf16_f32) (ix2 R C)
      = (∑ k : Fin 2048, normed (fun d => x (ix2 R d)) (fun d => g (ix1 d)) k * w (ix2 k C) : EReal) := by
  pointwise [normed]
end

section
open Cert.Reference6Ideal Cert.Reference6Ideal.Gen
theorem delta_out_ref (o : FVec Ideal S8192x4096 .bf16) (w : FVec Ideal S4096x2048 .bf16) (x : FVec Ideal S8192x2048 .f32) (R : Fin 8192) (C : Fin 2048) :
    addf x (Host.dotGeneral dot_S8192x4096_S4096x2048_S8192x2048_1_0_0_1_n_n none (extf .f32 o bitsLt_bf16_f32) (extf .f32 w bitsLt_bf16_f32)) (ix2 R C)
      = (x (ix2 R C) + ∑ k : Fin 4096, o (ix2 R k) * w (ix2 k C) : EReal) := by
  pointwise []
end

section
open Cert.Reference7Ideal Cert.Reference7Ideal.Gen
theorem attn_out_ref (o : FVec Ideal S8192x2048 .bf16) (w : FVec Ideal S2048x2048 .bf16) (x : FVec Ideal S8192x2048 .f32) (R : Fin 8192) (C : Fin 2048) :
    addf x (Host.dotGeneral dot_S8192x2048_S2048x2048_S8192x2048_1_0_0_1_n_n none (extf .f32 o bitsLt_bf16_f32) (extf .f32 w bitsLt_bf16_f32)) (ix2 R C)
      = (x (ix2 R C) + ∑ k : Fin 2048, o (ix2 R k) * w (ix2 k C) : EReal) := by
  pointwise []
end

section
open Cert.Reference9Ideal Cert.Reference9Ideal.Gen
theorem delta_sample_ref (x : FVec Ideal S32x2048 .f32) (g : FVec Ideal S2048 .f32) (w : FVec Ideal S2048x12288 .bf16) (R : Fin 32) (C : Fin 12288) :
    Host.dotGeneral dot_S32x2048_S2048x12288_S32x12288_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))) (extf .f32 w bitsLt_bf16_f32) (ix2 R C)
      = (∑ k : Fin 2048, normed (fun d => x (ix2 R d)) (fun d => g (ix1 d)) k * w (ix2 k C) : EReal) := by
  pointwise [normed]
end

section
open Cert.Reference10Ideal Cert.Reference10Ideal.Gen
theorem qkv_sample_ref (x : FVec Ideal S32x2048 .f32) (g : FVec Ideal S2048 .f32) (w : FVec Ideal S2048x6144 .bf16) (R : Fin 32) (C : Fin 6144) :
    Host.dotGeneral dot_S32x2048_S2048x6144_S32x6144_1_0_0_1_n_n none (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))) (extf .f32 w bitsLt_bf16_f32) (ix2 R C)
      = (∑ k : Fin 2048, normed (fun d => x (ix2 R d)) (fun d => g (ix1 d)) k * w (ix2 k C) : EReal) := by
  pointwise [normed]
end

section
open Cert.Reference18Ideal Cert.Reference18Ideal.Gen
theorem delta_out_sample_ref (o : FVec Ideal S32x4096 .bf16) (w : FVec Ideal S4096x2048 .bf16) (x : FVec Ideal S32x2048 .f32) (R : Fin 32) (C : Fin 2048) :
    addf x (Host.dotGeneral dot_S32x4096_S4096x2048_S32x2048_1_0_0_1_n_n none (extf .f32 o bitsLt_bf16_f32) (extf .f32 w bitsLt_bf16_f32)) (ix2 R C)
      = (x (ix2 R C) + ∑ k : Fin 4096, o (ix2 R k) * w (ix2 k C) : EReal) := by
  pointwise []
end

section
open Cert.Reference19Ideal Cert.Reference19Ideal.Gen
theorem attn_out_sample_ref (o : FVec Ideal S32x2048 .bf16) (w : FVec Ideal S2048x2048 .bf16) (x : FVec Ideal S32x2048 .f32) (R : Fin 32) (C : Fin 2048) :
    addf x (Host.dotGeneral dot_S32x2048_S2048x2048_S32x2048_1_0_0_1_n_n none (extf .f32 o bitsLt_bf16_f32) (extf .f32 w bitsLt_bf16_f32)) (ix2 R C)
      = (x (ix2 R C) + ∑ k : Fin 2048, o (ix2 R k) * w (ix2 k C) : EReal) := by
  pointwise []
end

section
open Cert.Reference12Ideal Cert.Reference12Ideal.Gen
theorem gates_ref (x : FVec Ideal S8192x2048 .f32) (g : FVec Ideal S2048 .f32) (w : FVec Ideal S2048x128 .bf16) (R : Fin 8192) (C : Fin 128) :
    Host.dotGeneral dot_S8192x2048_S2048x128_S8192x128_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (extf .f32 w bitsLt_bf16_f32) (ix2 R C)
      = (∑ k : Fin 2048, normed (fun d => x (ix2 R d)) (fun d => g (ix1 d)) k * w (ix2 k C) : EReal) := by
  pointwise [normed]
end

/-! ## Values: each launch's result is the reference's -/

theorem delta : Cert.algebraic_Kernel4Ideal_Reference4Ideal := by
  intro m g m' g' _ hagree
  refine ⟨fun c => Cert.Kernel4Ideal.Value.G3 m c, Cert.Kernel4Ideal.Value.run (F := Ideal) m g, ?_⟩
  refine (θ_run Cert.Reference4Ideal.defs _ _).mono (fun r h c => ⟨(h c).1.trans ?_, (h c).2⟩)
    (Cert.Reference4Ideal.Value.run (F := Ideal) m' g')
  obtain ⟨e0, e1, e2⟩ := hagree c
  funext j
  rw [eq_ix2 j]
  refine Eq.trans ?_ (Cert.Kernel4Ideal.Projection.result_apply m c _ _).symm
  rw [e0, e1, e2]
  exact delta_ref _ _ _ _ _

theorem qkv : Cert.algebraic_Kernel5Ideal_Reference5Ideal := by
  intro m g m' g' _ hagree
  refine ⟨fun c => Cert.Kernel5Ideal.Value.G3 m c, Cert.Kernel5Ideal.Value.run (F := Ideal) m g, ?_⟩
  refine (θ_run Cert.Reference5Ideal.defs _ _).mono (fun r h c => ⟨(h c).1.trans ?_, (h c).2⟩)
    (Cert.Reference5Ideal.Value.run (F := Ideal) m' g')
  obtain ⟨e0, e1, e2⟩ := hagree c
  funext j
  rw [eq_ix2 j]
  refine Eq.trans ?_ (Cert.Kernel5Ideal.Projection.result_apply m c _ _).symm
  rw [e0, e1, e2]
  exact qkv_ref _ _ _ _ _

theorem delta_out : Cert.algebraic_Kernel6Ideal_Reference6Ideal := by
  intro m g m' g' _ hagree
  refine ⟨fun c => Cert.Kernel6Ideal.Value.G3 m c, Cert.Kernel6Ideal.Value.run (F := Ideal) m g, ?_⟩
  refine (θ_run Cert.Reference6Ideal.defs _ _).mono (fun r h c => ⟨(h c).1.trans ?_, (h c).2⟩)
    (Cert.Reference6Ideal.Value.run (F := Ideal) m' g')
  obtain ⟨e0, e1, e2⟩ := hagree c
  funext j
  rw [eq_ix2 j]
  refine Eq.trans ?_ (Cert.Kernel6Ideal.Residual.result_apply m c _ _).symm
  rw [e0, e1, e2]
  exact delta_out_ref _ _ _ _ _

theorem attn_out : Cert.algebraic_Kernel7Ideal_Reference7Ideal := by
  intro m g m' g' _ hagree
  refine ⟨fun c => Cert.Kernel7Ideal.Residual.total m c, Cert.Kernel7Ideal.Residual.run m g, ?_⟩
  refine (θ_run Cert.Reference7Ideal.defs _ _).mono (fun r h c => ⟨(h c).1.trans ?_, (h c).2⟩)
    (Cert.Reference7Ideal.Value.run (F := Ideal) m' g')
  obtain ⟨e0, e1, e2⟩ := hagree c
  funext j
  rw [eq_ix2 j]
  refine Eq.trans ?_ (Cert.Kernel7Ideal.Residual.result_apply m c _ _).symm
  rw [e0, e1, e2]
  exact attn_out_ref _ _ _ _ _

theorem delta_sample : Cert.algebraic_Kernel9Ideal_Reference9Ideal := by
  intro m g m' g' _ hagree
  refine ⟨fun c => Cert.Kernel9Ideal.Value.G3 m c, Cert.Kernel9Ideal.Value.run (F := Ideal) m g, ?_⟩
  refine (θ_run Cert.Reference9Ideal.defs _ _).mono (fun r h c => ⟨(h c).1.trans ?_, (h c).2⟩)
    (Cert.Reference9Ideal.Value.run (F := Ideal) m' g')
  obtain ⟨e0, e1, e2⟩ := hagree c
  funext j
  rw [eq_ix2 j]
  refine Eq.trans ?_ (Cert.Kernel9Ideal.Projection.result_apply m c _ _).symm
  rw [e0, e1, e2]
  exact delta_sample_ref _ _ _ _ _

theorem qkv_sample : Cert.algebraic_Kernel10Ideal_Reference10Ideal := by
  intro m g m' g' _ hagree
  refine ⟨fun c => Cert.Kernel10Ideal.Value.G3 m c, Cert.Kernel10Ideal.Value.run (F := Ideal) m g, ?_⟩
  refine (θ_run Cert.Reference10Ideal.defs _ _).mono (fun r h c => ⟨(h c).1.trans ?_, (h c).2⟩)
    (Cert.Reference10Ideal.Value.run (F := Ideal) m' g')
  obtain ⟨e0, e1, e2⟩ := hagree c
  funext j
  rw [eq_ix2 j]
  refine Eq.trans ?_ (Cert.Kernel10Ideal.Projection.result_apply m c _ _).symm
  rw [e0, e1, e2]
  exact qkv_sample_ref _ _ _ _ _

theorem gates : Cert.algebraic_Kernel12Ideal_Reference12Ideal := by
  intro m g m' g' _ hagree
  refine ⟨fun c => Cert.Kernel12Ideal.Gates.total m c, Cert.Kernel12Ideal.Gates.run m g, ?_⟩
  refine (θ_run Cert.Reference12Ideal.defs _ _).mono (fun r h c => ⟨(h c).1.trans ?_, (h c).2⟩)
    (Cert.Reference12Ideal.Value.run (F := Ideal) m' g')
  obtain ⟨e0, e1, e2⟩ := hagree c
  funext j
  rw [eq_ix2 j]
  refine Eq.trans ?_ (Cert.Kernel12Ideal.Gates.result_apply m c _ _).symm
  rw [e0, e1, e2]
  exact gates_ref _ _ _ _ _

theorem delta_out_sample : Cert.algebraic_Kernel18Ideal_Reference18Ideal := by
  intro m g m' g' _ hagree
  refine ⟨fun c => Cert.Kernel18Ideal.Value.G3 m c, Cert.Kernel18Ideal.Value.run (F := Ideal) m g, ?_⟩
  refine (θ_run Cert.Reference18Ideal.defs _ _).mono (fun r h c => ⟨(h c).1.trans ?_, (h c).2⟩)
    (Cert.Reference18Ideal.Value.run (F := Ideal) m' g')
  obtain ⟨e0, e1, e2⟩ := hagree c
  funext j
  rw [eq_ix2 j]
  refine Eq.trans ?_ (Cert.Kernel18Ideal.Residual.result_apply m c _ _).symm
  rw [e0, e1, e2]
  exact delta_out_sample_ref _ _ _ _ _

theorem attn_out_sample : Cert.algebraic_Kernel19Ideal_Reference19Ideal := by
  intro m g m' g' _ hagree
  refine ⟨fun c => Cert.Kernel19Ideal.Residual.total m c, Cert.Kernel19Ideal.Residual.run m g, ?_⟩
  refine (θ_run Cert.Reference19Ideal.defs _ _).mono (fun r h c => ⟨(h c).1.trans ?_, (h c).2⟩)
    (Cert.Reference19Ideal.Value.run (F := Ideal) m' g')
  obtain ⟨e0, e1, e2⟩ := hagree c
  funext j
  rw [eq_ix2 j]
  refine Eq.trans ?_ (Cert.Kernel19Ideal.Residual.result_apply m c _ _).symm
  rw [e0, e1, e2]
  exact attn_out_sample_ref _ _ _ _ _

end Cert.Proof.ProjectionClaims

end
-- ==== Proof.QkNormBlocks.lean ====
/- What one point of the query and key normalisation leaves in its blocks, at the ideal values. The body handles its
   sixteen heads one after the other and stores each head's 128 columns apart; here the stored columns are read as one
   block, element by element. -/
module

public import proofs.«01_k».proof.Proof.Gen.Kernel8Ideal.Value
public import proofs.«01_k».proof.Proof.Sweeps
public import Idealize.ShloMosaic.Lib.Pipeline.ValueKit.Tiles

@[expose] public section

set_option maxRecDepth 8192

noncomputable section

namespace Cert.Kernel8Ideal.Heads

open Cert.Kernel8Ideal Cert.Kernel8Ideal.Gen Cert.Sweeps
open Idealize.ShloMosaic Idealize.ShloMosaic.TcCoe Idealize.SL.Sem
open scoped BigOperators

/-- A head's normalised element, from its 128 columns `x` of one row, the gains `g` and a position. -/
def normed (x g : Fin 128 → EReal) (e : Fin 128) : EReal :=
  x e * Ideal.rsqrt (Ideal.div (∑ d : Fin 128, x d * x d) (Ideal.ofBits .f32 0x43000000#32) + Ideal.ofBits .f32 0x358637BD#32) * g e

/-- Column `n`'s head starts at column `128 * (n / 128)`; this is that head's column `d`, -/
def col (n : Fin 2048) (d : Fin 128) : Fin 2048 := ⟨128 * (n.val / 128) + d.val, by omega⟩

/-- and this is the position of `n` in it. -/
def pos (n : Fin 2048) : Fin 128 := ⟨n.val % 128, by omega⟩

/-- A row of 2048 columns with every head normalised. -/
def heads (x : Fin 2048 → EReal) (g : Fin 128 → EReal) (n : Fin 2048) : EReal := normed (fun d => x (col n d)) g (pos n)

/-! ## One head -/

theorem head_apply (g : Vec Ideal S1x128 .f32) (x : Vec Ideal S1x256x128 .f32) (a : Fin 256) (e : Fin 128) :
    k0_pay7 g x (ix2 a e) = normed (fun d => x (ix3 (0 : Fin 1) a d)) (fun d => g (ix2 (0 : Fin 1) d)) e := by
  pointwise [k0_pay7, k0_pay3, normed]

/-- The columns `o … o + 127` of a block. -/
theorem cols_apply (x : Vec Ideal S1x256x2048 .f32) (o : Nat) (inb) (a : Fin 256) (e : Fin 128) (n : Fin 2048) (hn : n.val = o + e.val) :
    (View.ld x (Rect.unit (s := S1x256x2048) ![0, 0, o] S1x256x128.size inb) : Vec Ideal S1x256x128 .f32) (ix3 (0 : Fin 1) a e)
      = x (ix3 (0 : Fin 1) a n) := by
  refine View.ld_unit_apply_of x _ _ inb _ _ fun d => ?_
  match d with
  | ⟨0, _⟩ => rfl
  | ⟨1, _⟩ => exact (Nat.zero_add _).symm
  | ⟨2, _⟩ => exact hn

/-- A head that starts at column `o`, normalised, is its part of the normalised row. -/
theorem head_cols (g : Vec Ideal S1x128 .f32) (x : Vec Ideal S1x256x2048 .f32) (o : Nat) (ho : o % 128 = 0) (inb) (a : Fin 256) (e : Fin 128)
    (n : Fin 2048) (hn : n.val = o + e.val) :
    k0_pay7 g (View.ld x (Rect.unit (s := S1x256x2048) ![0, 0, o] S1x256x128.size inb)) (ix2 a e)
      = heads (fun n => x (ix3 (0 : Fin 1) a n)) (fun d => g (ix2 (0 : Fin 1) d)) n := by
  rw [head_apply]
  unfold heads
  have he : pos n = e := Fin.ext (by unfold pos; dsimp only; omega)
  rw [he]
  congr 1
  funext d
  exact cols_apply x o inb a d (col n d) (by unfold col; dsimp only; omega)

/-- The leading axis of one that a piece has. -/
theorem relay_apply (w : FVec Ideal S256x128 .f32) (a : Fin 256) (e : Fin 128) :
    shapeCast S1x256x128 w shapeCasts_S256x128_S1x256x128 (ix3 (0 : Fin 1) a e) = w (ix2 a e) := by
  pointwise []

/-- The mean of a head's 256 rows. -/
theorem mean_apply (w : FVec Ideal S256x128 .f32) (e : Fin 128) :
    k0_pay2 w (ix4 (0 : Fin 1) (0 : Fin 1) (0 : Fin 1) e)
      = Ideal.div (∑ a : Fin 256, w (ix2 a e)) (Ideal.ofBits .f32 0x43800000#32) := by
  pointwise [k0_pay2]

/-! ## The stored blocks -/

/-- A head's piece of a block, as the normalised row has it, -/
theorem head_piece (g g' : Vec Ideal S1x128 .f32) (hg : g' = g) (x : Vec Ideal S1x256x2048 .f32) (o : Nat) (ho : o % 128 = 0) (inb) (y : S1x256x2048.Idx) :
    View.RectAt (Val := Elt Ideal) (e := .f32) y (Rect.unit (s := S1x256x2048) ![0, 0, o] S1x256x128.size inb)
      (shapeCast S1x256x128 (k0_pay7 (F := Ideal) g' (View.ld x (Rect.unit (s := S1x256x2048) ![0, 0, o] S1x256x128.size inb))) shapeCasts_S256x128_S1x256x128)
      (heads (fun n => x (ix3 (0 : Fin 1) (y 1) n)) (fun d => g (ix2 (0 : Fin 1) d)) (y 2)) := by
  subst hg
  intro z hz
  have h1 : y 1 = z 1 := by rw [← hz]; apply Fin.ext; show 0 + 1 * (z 1).val = (z 1).val; omega
  have h2 : (y 2).val = o + (z 2).val := by rw [← hz]; show o + 1 * (z 2).val = _; omega
  have h0 : z = ix3 (0 : Fin 1) (z 1) (z 2) := by
    funext d
    match d with
    | ⟨0, _⟩ => exact Subsingleton.elim (α := Fin 1) _ _
    | ⟨1, _⟩ => rfl
    | ⟨2, _⟩ => rfl
  rw [h1, ← head_cols g' x o ho inb (z 1) (z 2) (y 2) h2]
  exact (congrArg _ h0).trans (relay_apply _ _ _)

/-- the same piece rounded, -/
theorem rounded_piece (g g' : Vec Ideal S1x128 .f32) (hg : g' = g) (x : Vec Ideal S1x256x2048 .f32) (o : Nat) (ho : o % 128 = 0) (inb) (y : S1x256x2048.Idx) :
    View.RectAt (Val := Elt Ideal) (e := .bf16) y (Rect.unit (s := S1x256x2048) ![0, 0, o] S1x256x128.size inb)
      (k0_pay11 (k0_pay7 (F := Ideal) g' (View.ld x (Rect.unit (s := S1x256x2048) ![0, 0, o] S1x256x128.size inb))))
      (heads (fun n => x (ix3 (0 : Fin 1) (y 1) n)) (fun d => g (ix2 (0 : Fin 1) d)) (y 2)) :=
  head_piece g g' hg x o ho inb y

/-- and the head's means. -/
theorem mean_piece (g g' : Vec Ideal S1x128 .f32) (hg : g' = g) (x : Vec Ideal S1x256x2048 .f32) (o : Nat) (ho : o % 128 = 0) (inb) (inb') (y : S1x1x1x2048.Idx) :
    View.RectAt (Val := Elt Ideal) (e := .f32) y (Rect.unit (s := S1x1x1x2048) ![0, 0, 0, o] S1x1x1x128.size inb')
      (k0_pay2 (k0_pay7 (F := Ideal) g' (View.ld x (Rect.unit (s := S1x256x2048) ![0, 0, o] S1x256x128.size inb))))
      (Ideal.div (∑ a : Fin 256, heads (fun n => x (ix3 (0 : Fin 1) a n)) (fun d => g (ix2 (0 : Fin 1) d)) (y 3)) (Ideal.ofBits .f32 0x43800000#32)) := by
  subst hg
  intro z hz
  have h3 : (y 3).val = o + (z 3).val := by rw [← hz]; show o + 1 * (z 3).val = _; omega
  have h0 : z = ix4 (0 : Fin 1) (0 : Fin 1) (0 : Fin 1) (z 3) := by
    funext d
    match d with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  refine (congrArg _ h0).trans ((mean_apply _ _).trans ?_)
  congr 1
  exact Finset.sum_congr rfl fun a _ => head_cols g' x o ho inb a (z 3) (y 3) h3

section Outs

variable (q k v : Vec Ideal S1x256x2048 .f32) (gq gk : Vec Ideal S1x128 .f32)

theorem gain (g : Vec Ideal S1x128 .f32) : View.ld g r0_0 = g := View.ld_unit_zero (S := S1x128) zero_offsets _ _

/-- The normalised keys, -/
theorem out5_apply (y : S1x256x2048.Idx) :
    out0_5 q k v gq gk y = heads (fun n => k (ix3 (0 : Fin 1) (y 1) n)) (fun d => gk (ix2 (0 : Fin 1) d)) (y 2) := by
  unfold out0_5
  refine View.canon_eq_of_allAt _ y _ (cover0_5 ..) ?_
  repeat' (first | exact View.allAt_nil _ _ | refine View.allAt_cons _ _ _ ?_ ?_)
  all_goals exact head_piece gk _ (gain gk) k _ (by rfl) _ y

/-- the rounded queries, -/
theorem out6_apply (y : S1x256x2048.Idx) :
    out0_6 q k v gq gk y = heads (fun n => q (ix3 (0 : Fin 1) (y 1) n)) (fun d => gq (ix2 (0 : Fin 1) d)) (y 2) := by
  unfold out0_6
  refine View.canon_eq_of_allAt _ y _ (cover0_6 ..) ?_
  repeat' (first | exact View.allAt_nil _ _ | refine View.allAt_cons _ _ _ ?_ ?_)
  all_goals exact rounded_piece gq _ (gain gq) q _ (by rfl) _ y

/-- the rounded keys, -/
theorem out7_apply (y : S1x256x2048.Idx) :
    out0_7 q k v gq gk y = heads (fun n => k (ix3 (0 : Fin 1) (y 1) n)) (fun d => gk (ix2 (0 : Fin 1) d)) (y 2) := by
  unfold out0_7
  refine View.canon_eq_of_allAt _ y _ (cover0_7 ..) ?_
  repeat' (first | exact View.allAt_nil _ _ | refine View.allAt_cons _ _ _ ?_ ?_)
  all_goals exact rounded_piece gk _ (gain gk) k _ (by rfl) _ y

/-- the values turned over, -/
theorem out8_apply (n : Fin 2048) (a : Fin 256) :
    out0_8 q k v gq gk (ix3 (0 : Fin 1) n a) = v (ix3 (0 : Fin 1) a n) := by
  unfold out0_8
  rw [View.canon_unit_zero zero_offsets3, View.ld_unit_zero (S := S1x256x2048) zero_offsets3]
  pointwise [k0_pay5]

/-- and the means of the normalised keys. -/
theorem out9_apply (y : S1x1x1x2048.Idx) :
    out0_9 q k v gq gk y
      = Ideal.div (∑ a : Fin 256, heads (fun n => k (ix3 (0 : Fin 1) a n)) (fun d => gk (ix2 (0 : Fin 1) d)) (y 3)) (Ideal.ofBits .f32 0x43800000#32) := by
  unfold out0_9
  refine View.canon_eq_of_allAt _ y _ (cover0_9 ..) ?_
  repeat' (first | exact View.allAt_nil _ _ | refine View.allAt_cons _ _ _ ?_ ?_)
  all_goals exact mean_piece gk _ (gain gk) k _ (by rfl) _ _ y

end Outs

end Cert.Kernel8Ideal.Heads

end
-- ==== Proof.QkNormValue.lean ====
/- The value of the query and key normalisation, at the ideal values. The input holds queries, keys and values side by
   side, 2048 columns each. The launch leaves the keys with every head normalised, the queries and the keys the same way
   rounded, the values turned over, and the mean of the normalised keys of every 256 rows. The grid walks 2 batches by
   16 blocks of 256 rows. -/
module

public import proofs.«01_k».proof.Proof.QkNormBlocks

@[expose] public section

set_option maxRecDepth 8192

noncomputable section

namespace Cert.Kernel8Ideal.Heads

open Cert.Kernel8Ideal Cert.Kernel8Ideal.Gen Cert.Kernel8Ideal.Value Cert.Sweeps
open Idealize.ShloMosaic Idealize.ShloMosaic.TcCoe Idealize.ShloMosaic.StableHlo Idealize.SL.Sem
open scoped BigOperators

variable (m : (ℓ : Loc nD τ sig) → Buf (Elt Ideal) ℓ)

/-! ## What the launch is to leave -/

/-- Row `R` of batch `b` of the queries (`s = 0`), the keys (`s = 1`) or the values (`s = 2`). -/
def part (x : S2x4096x6144.Idx → EReal) (s : Fin 3) (b : Fin 2) (R : Fin 4096) (n : Fin 2048) : EReal :=
  x (ix3 b R (⟨2048 * s.val + n.val, by omega⟩ : Fin 6144))

/-- A row of them with its heads normalised, -/
def normal (x : S2x4096x6144.Idx → EReal) (g : S128.Idx → EReal) (s : Fin 3) (b : Fin 2) (R : Fin 4096) (n : Fin 2048) : EReal :=
  heads (part x s b R) (fun d => g (ix1 d)) n

/-- and the mean of 256 such rows. -/
def mean (x : S2x4096x6144.Idx → EReal) (g : S128.Idx → EReal) (b : Fin 2) (r : Fin 16) (n : Fin 2048) : EReal :=
  Ideal.div (∑ a : Fin 256, normal x g 1 b (⟨256 * r.val + a.val, by omega⟩ : Fin 4096) n) (Ideal.ofBits .f32 0x43800000#32)

/-- The launch's arguments as arrays. -/
abbrev qkv (c : Dev nD) : S2x4096x6144.Idx → EReal := m ((c : Thread nD τ).loc main_arg0)
abbrev qgain (c : Dev nD) : S128.Idx → EReal := m ((c : Thread nD τ).loc main_arg1)
abbrev kgain (c : Dev nD) : S128.Idx → EReal := m ((c : Thread nD τ).loc main_arg2)

/-- The five arrays. -/
def keys (c : Dev nD) : Buf (Elt Ideal) ((c : Thread nD τ).loc main_v2_0) :=
  fun i : S2x4096x2048.Idx => normal (qkv m c) (kgain m c) 1 (i 0) (i 1) (i 2)
def queriesR (c : Dev nD) : Buf (Elt Ideal) ((c : Thread nD τ).loc main_v2_1) :=
  fun i : S2x4096x2048.Idx => normal (qkv m c) (qgain m c) 0 (i 0) (i 1) (i 2)
def keysR (c : Dev nD) : Buf (Elt Ideal) ((c : Thread nD τ).loc main_v2_2) :=
  fun i : S2x4096x2048.Idx => normal (qkv m c) (kgain m c) 1 (i 0) (i 1) (i 2)
def valuesT (c : Dev nD) : Buf (Elt Ideal) ((c : Thread nD τ).loc main_v2_3) :=
  fun i : S2x2048x4096.Idx => part (qkv m c) 2 (i 0) (i 2) (i 1)
def means (c : Dev nD) : Buf (Elt Ideal) ((c : Thread nD τ).loc main_v2_4) :=
  fun i : S2x16x1x2048.Idx => mean (qkv m c) (kgain m c) (i 0) (i 1) (i 3)

/-! ## The blocks a point sees -/

/-- Point `t` takes batch `t / 16` and block `t % 16`. -/
theorem indices : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 1)
    ∧ (win0_2.index t (0 : Fin 3) = t.val / 16 ∧ win0_2.index t (1 : Fin 3) = t.val % 16 ∧ win0_2.index t (2 : Fin 3) = 2)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

abbrev qblk (c : Dev nD) (t : Fin cfg0.N) : S1x256x2048.Idx → EReal := iblk m c 0 t
abbrev kblk (c : Dev nD) (t : Fin cfg0.N) : S1x256x2048.Idx → EReal := iblk m c 1 t
abbrev vblk (c : Dev nD) (t : Fin cfg0.N) : S1x256x2048.Idx → EReal := iblk m c 2 t
abbrev qgblk (c : Dev nD) (t : Fin cfg0.N) : S1x128.Idx → EReal := iblk m c 3 t
abbrev kgblk (c : Dev nD) (t : Fin cfg0.N) : S1x128.Idx → EReal := iblk m c 4 t

/-- An element of the input by its coordinates. -/
theorem part_of (x : S2x4096x6144.Idx → EReal) (i : S2x4096x6144.Idx) (s : Fin 3) (b : Fin 2) (R : Fin 4096) (n : Fin 2048)
    (h0 : (i 0).val = b.val) (h1 : (i 1).val = R.val) (h2 : (i 2).val = 2048 * s.val + n.val) : x i = part x s b R n := by
  unfold part
  congr 1
  funext d
  apply Fin.ext
  match d with
  | ⟨0, _⟩ => exact h0
  | ⟨1, _⟩ => exact h1
  | ⟨2, _⟩ => exact h2

section Parts

variable (c : Dev nD) (t : Fin cfg0.N) (a : Fin 256) (n : Fin 2048) (b : Fin 2) (R : Fin 4096)
  (hb : b.val = t.val / 16) (hR : R.val = 256 * (t.val % 16) + a.val)
include hb hR

theorem qblk_apply : qblk m c t (ix3 (0 : Fin 1) a n) = part (qkv m c) 0 b R n := by
  obtain ⟨⟨e0, e1, e2⟩, -, -, -, -⟩ := indices t
  unfold qblk iblk
  rw [View.read_apply]
  show V m c main_arg0 _ = _
  rw [V_main_arg0]
  refine part_of (qkv m c) _ 0 b R n ?_ ?_ ?_
  · show win0_0.index t (0 : Fin 3) * 1 + 1 * 0 = _; omega
  · show win0_0.index t (1 : Fin 3) * 256 + 1 * a.val = _; omega
  · show win0_0.index t (2 : Fin 3) * 2048 + 1 * n.val = 2048 * 0 + n.val; omega

theorem kblk_apply : kblk m c t (ix3 (0 : Fin 1) a n) = part (qkv m c) 1 b R n := by
  obtain ⟨-, ⟨e0, e1, e2⟩, -, -, -⟩ := indices t
  unfold kblk iblk
  rw [View.read_apply]
  show V m c main_arg0 _ = _
  rw [V_main_arg0]
  refine part_of (qkv m c) _ 1 b R n ?_ ?_ ?_
  · show win0_1.index t (0 : Fin 3) * 1 + 1 * 0 = _; omega
  · show win0_1.index t (1 : Fin 3) * 256 + 1 * a.val = _; omega
  · show win0_1.index t (2 : Fin 3) * 2048 + 1 * n.val = 2048 * 1 + n.val; omega

theorem vblk_apply : vblk m c t (ix3 (0 : Fin 1) a n) = part (qkv m c) 2 b R n := by
  obtain ⟨-, -, ⟨e0, e1, e2⟩, -, -⟩ := indices t
  unfold vblk iblk
  rw [View.read_apply]
  show V m c main_arg0 _ = _
  rw [V_main_arg0]
  refine part_of (qkv m c) _ 2 b R n ?_ ?_ ?_
  · show win0_2.index t (0 : Fin 3) * 1 + 1 * 0 = _; omega
  · show win0_2.index t (1 : Fin 3) * 256 + 1 * a.val = _; omega
  · show win0_2.index t (2 : Fin 3) * 2048 + 1 * n.val = 2048 * 2 + n.val; omega

end Parts

/-- The gains as a one-row block. -/
theorem gain_cast (g : FVec Ideal S128 .f32) (d : Fin 128) :
    shapeCast S1x128 g shapeCasts_S128_S1x128 (ix2 (0 : Fin 1) d) = g (ix1 d) := by
  pointwise []

theorem qgblk_apply (c : Dev nD) (t : Fin cfg0.N) (d : Fin 128) : qgblk m c t (ix2 (0 : Fin 1) d) = qgain m c (ix1 d) := by
  obtain ⟨-, -, -, ⟨e0, e1⟩, -⟩ := indices t
  unfold qgblk iblk
  rw [View.read_apply]
  have e : V m c main_v0 = shapeCast S1x128 (m ((c : Thread nD τ).loc main_arg1)) shapeCasts_S128_S1x128 := by
    unfold V hostOps0
    after_results
    rfl
  have i : ((cfg0.win 3).blk t).view.emb (ix2 (0 : Fin 1) d) = (ix2 (0 : Fin 1) d : S1x128.Idx) := by
    funext x
    apply Fin.ext
    match x with
    | ⟨0, _⟩ => show win0_3.index t (0 : Fin 2) * 1 + 1 * 0 = 0; omega
    | ⟨1, _⟩ => show win0_3.index t (1 : Fin 2) * 128 + 1 * d.val = d.val; omega
  show V m c main_v0 _ = _
  rw [e, i]
  exact gain_cast _ d

theorem kgblk_apply (c : Dev nD) (t : Fin cfg0.N) (d : Fin 128) : kgblk m c t (ix2 (0 : Fin 1) d) = kgain m c (ix1 d) := by
  obtain ⟨-, -, -, -, ⟨e0, e1⟩⟩ := indices t
  unfold kgblk iblk
  rw [View.read_apply]
  have e : V m c main_v1 = shapeCast S1x128 (m ((c : Thread nD τ).loc main_arg2)) shapeCasts_S128_S1x128 := by
    unfold V hostOps0
    after_results
    rfl
  have i : ((cfg0.win 4).blk t).view.emb (ix2 (0 : Fin 1) d) = (ix2 (0 : Fin 1) d : S1x128.Idx) := by
    funext x
    apply Fin.ext
    match x with
    | ⟨0, _⟩ => show win0_4.index t (0 : Fin 2) * 1 + 1 * 0 = 0; omega
    | ⟨1, _⟩ => show win0_4.index t (1 : Fin 2) * 128 + 1 * d.val = d.val; omega
  show V m c main_v1 _ = _
  rw [e, i]
  exact gain_cast _ d

/-! ## What a point stores, in the array's own coordinates -/

section Stored

variable (c : Dev nD) (t : Fin cfg0.N) (a : Fin 256) (n : Fin 2048) (b : Fin 2) (R : Fin 4096)
  (hb : b.val = t.val / 16) (hR : R.val = 256 * (t.val % 16) + a.val)
include hb hR

theorem query_row : heads (fun n => qblk m c t (ix3 (0 : Fin 1) a n)) (fun d => qgblk m c t (ix2 (0 : Fin 1) d)) n
    = normal (qkv m c) (qgain m c) 0 b R n := by
  unfold normal
  congr 1
  · funext n; exact qblk_apply m c t a n b R hb hR
  · funext d; exact qgblk_apply m c t d

theorem key_row : heads (fun n => kblk m c t (ix3 (0 : Fin 1) a n)) (fun d => kgblk m c t (ix2 (0 : Fin 1) d)) n
    = normal (qkv m c) (kgain m c) 1 b R n := by
  unfold normal
  congr 1
  · funext n; exact kblk_apply m c t a n b R hb hR
  · funext d; exact kgblk_apply m c t d

end Stored

/-! ## The five results -/

/-- The results' index maps: the rows' blocks as the input's, the values' block turned over, the means' one row. -/
theorem places : ∀ t : Fin cfg0.N,
    (win0_5.index t (0 : Fin 3) = t.val / 16 ∧ win0_5.index t (1 : Fin 3) = t.val % 16 ∧ win0_5.index t (2 : Fin 3) = 0)
    ∧ (win0_6.index t (0 : Fin 3) = t.val / 16 ∧ win0_6.index t (1 : Fin 3) = t.val % 16 ∧ win0_6.index t (2 : Fin 3) = 0)
    ∧ (win0_7.index t (0 : Fin 3) = t.val / 16 ∧ win0_7.index t (1 : Fin 3) = t.val % 16 ∧ win0_7.index t (2 : Fin 3) = 0)
    ∧ (win0_8.index t (0 : Fin 3) = t.val / 16 ∧ win0_8.index t (1 : Fin 3) = 0 ∧ win0_8.index t (2 : Fin 3) = t.val % 16)
    ∧ (win0_9.index t (0 : Fin 4) = t.val / 16 ∧ win0_9.index t (1 : Fin 4) = t.val % 16 ∧ win0_9.index t (2 : Fin 4) = 0
      ∧ win0_9.index t (3 : Fin 4) = 0) :=
  (by decide +kernel : ∀ t : Fin grid0.N, _)

theorem flushes : ∀ t : Fin cfg0.N, (cfg0.win 5).flush t = true ∧ (cfg0.win 6).flush t = true ∧ (cfg0.win 7).flush t = true
    ∧ (cfg0.win 8).flush t = true ∧ (cfg0.win 9).flush t = true :=
  (by decide +kernel : ∀ t : Fin grid0.N, win0_5.flush t = true ∧ win0_6.flush t = true ∧ win0_7.flush t = true
    ∧ win0_8.flush t = true ∧ win0_9.flush t = true)

/-- The point of a batch and a block of rows. -/
theorem point_of (b r : ℕ) (hb : b < 2) (hr : r < 16) : ∃ t : Fin cfg0.N, t.val / 16 = b ∧ t.val % 16 = r := by
  have hN : cfg0.N = 32 := N_0
  exact ⟨⟨16 * b + r, by omega⟩, by dsimp only; omega, by dsimp only; omega⟩

/-- A block of rows `X` that holds point `t`'s part of `T` agrees with it at the block's place `i` in the array, if the
    block's index `I` is the point's. -/
theorem at_place {t : Fin cfg0.N} {X : S1x256x2048.Idx → EReal} {T : Fin 2 → Fin 4096 → Fin 2048 → EReal}
    (h : ∀ (z : S1x256x2048.Idx) (b : Fin 2) (R : Fin 4096), b.val = t.val / 16 → R.val = 256 * (t.val % 16) + (z 1).val → X z = T b R (z 2))
    {I : Fin 3 → ℕ} (hI : I 0 = t.val / 16 ∧ I 1 = t.val % 16 ∧ I 2 = 0) (z : S1x256x2048.Idx) (i : S2x4096x2048.Idx)
    (hi : ∀ d, (i d).val = I d * S1x256x2048.size d + 1 * (z d).val) : X z = T (i 0) (i 1) (i 2) := by
  obtain ⟨e0, e1, e2⟩ := hI
  have h0 : (z 0).val < 1 := (z 0).isLt
  have i0 : (i 0).val = I 0 * 1 + 1 * (z 0).val := hi 0
  have i1 : (i 1).val = I 1 * 256 + 1 * (z 1).val := hi 1
  have i2 : (i 2).val = I 2 * 2048 + 1 * (z 2).val := hi 2
  rw [show i 2 = z 2 from Fin.ext (by omega)]
  exact h z _ _ (by omega) (by omega)

/-- And every element of the array has a point whose block reaches it. -/
theorem reached (i : S2x4096x2048.Idx) : ∃ t : Fin cfg0.N, ∀ I : Fin 3 → ℕ, I 0 = t.val / 16 ∧ I 1 = t.val % 16 ∧ I 2 = 0 →
    ∀ d : Fin 3, I d * S1x256x2048.size d ≤ (i d).val ∧ (i d).val < I d * S1x256x2048.size d + S1x256x2048.size d := by
  have h1 : (i 1).val < 4096 := (i 1).isLt
  have h2 : (i 2).val < 2048 := (i 2).isLt
  obtain ⟨t, hb, hr⟩ := point_of (i 0).val ((i 1).val / 256) (i 0).isLt (by omega)
  refine ⟨t, fun I ⟨e0, e1, e2⟩ d => ?_⟩
  match d with
  | ⟨0, _⟩ => show I 0 * 1 ≤ (i 0).val ∧ (i 0).val < I 0 * 1 + 1; omega
  | ⟨1, _⟩ => show I 1 * 256 ≤ (i 1).val ∧ (i 1).val < I 1 * 256 + 256; omega
  | ⟨2, _⟩ => show I 2 * 2048 ≤ (i 2).val ∧ (i 2).val < I 2 * 2048 + 2048; omega

/-- The normalised keys. -/
theorem final5 (c : Dev nD) : (dats m 0 c).arrAt 5 cfg0.N = keys m c := by
  refine (dats m 0 c).arrAt_eq_of_cover 5 _ (fun t _ => (flushed5 m c t).trans ?_) fun i : S2x4096x2048.Idx => ?_
  · funext y
    exact at_place (T := normal (qkv m c) (kgain m c) 1) (fun z b R hb hR => (out5_apply _ _ _ _ _ z).trans (key_row m c t _ _ b R hb hR))
      (places _).1 ((cfg0.win 5).xinj (grid0.coords t) y) (((cfg0.win 5).blk t).view.emb y) (fun _ => rfl)
  · obtain ⟨t, ht⟩ := reached i
    refine ⟨t, (flushes _).1, ?_⟩
    show i ∈ ((View.whole main_v2_0).slice (win0_5.rect t)).set
    rw [View.set_slice_whole, Rect.mem_set_unit]
    exact ht _ (places _).1

/-- The rounded queries. -/
theorem final6 (c : Dev nD) : (dats m 0 c).arrAt 6 cfg0.N = queriesR m c := by
  refine (dats m 0 c).arrAt_eq_of_cover 6 _ (fun t _ => (flushed6 m c t).trans ?_) fun i : S2x4096x2048.Idx => ?_
  · funext y
    exact at_place (T := normal (qkv m c) (qgain m c) 0) (fun z b R hb hR => (out6_apply _ _ _ _ _ z).trans (query_row m c t _ _ b R hb hR))
      (places _).2.1 ((cfg0.win 6).xinj (grid0.coords t) y) (((cfg0.win 6).blk t).view.emb y) (fun _ => rfl)
  · obtain ⟨t, ht⟩ := reached i
    refine ⟨t, (flushes _).2.1, ?_⟩
    show i ∈ ((View.whole main_v2_1).slice (win0_6.rect t)).set
    rw [View.set_slice_whole, Rect.mem_set_unit]
    exact ht _ (places _).2.1

/-- The rounded keys. -/
theorem final7 (c : Dev nD) : (dats m 0 c).arrAt 7 cfg0.N = keysR m c := by
  refine (dats m 0 c).arrAt_eq_of_cover 7 _ (fun t _ => (flushed7 m c t).trans ?_) fun i : S2x4096x2048.Idx => ?_
  · funext y
    exact at_place (T := normal (qkv m c) (kgain m c) 1) (fun z b R hb hR => (out7_apply _ _ _ _ _ z).trans (key_row m c t _ _ b R hb hR))
      (places _).2.2.1 ((cfg0.win 7).xinj (grid0.coords t) y) (((cfg0.win 7).blk t).view.emb y) (fun _ => rfl)
  · obtain ⟨t, ht⟩ := reached i
    refine ⟨t, (flushes _).2.2.1, ?_⟩
    show i ∈ ((View.whole main_v2_2).slice (win0_7.rect t)).set
    rw [View.set_slice_whole, Rect.mem_set_unit]
    exact ht _ (places _).2.2.1

/-! The values turned over. -/

theorem read8 (t : Fin cfg0.N) (X : S1x2048x256.Idx → EReal) (T : Fin 2 → Fin 4096 → Fin 2048 → EReal)
    (h : ∀ (n : Fin 2048) (a : Fin 256) (b : Fin 2) (R : Fin 4096), b.val = t.val / 16 → R.val = 256 * (t.val % 16) + a.val →
      X (ix3 (0 : Fin 1) n a) = T b R n) :
    (cfg0.win 8).cut (grid0.coords t) X
      = ((cfg0.win 8).blk t).view.read (Elt Ideal) (fun i : S2x2048x4096.Idx => T (i 0) (i 2) (i 1)) := by
  obtain ⟨-, -, -, ⟨e0, e1, e2⟩, -⟩ := places t
  funext y
  rw [View.read_apply]
  have h0 : (y 0).val < 1 := (y 0).isLt
  have h1 : (y 1).val < 2048 := (y 1).isLt
  have h2 : (y 2).val < 256 := (y 2).isLt
  have hx : (cfg0.win 8).xinj (grid0.coords t) y = ix3 (0 : Fin 1) (⟨(y 1).val, h1⟩ : Fin 2048) (⟨(y 2).val, h2⟩ : Fin 256) := by
    funext d
    apply Fin.ext
    match d with
    | ⟨0, _⟩ => show (y 0).val = 0; omega
    | ⟨1, _⟩ => rfl
    | ⟨2, _⟩ => rfl
  have hn : ((cfg0.win 8).blk t).view.emb y 1 = (⟨(y 1).val, h1⟩ : Fin 2048) := by
    apply Fin.ext; show win0_8.index t (1 : Fin 3) * 2048 + 1 * (y 1).val = (y 1).val; omega
  show X ((cfg0.win 8).xinj (grid0.coords t) y)
    = T (((cfg0.win 8).blk t).view.emb y 0) (((cfg0.win 8).blk t).view.emb y 2) (((cfg0.win 8).blk t).view.emb y 1)
  rw [hx, hn]
  refine h _ _ _ _ ?_ ?_
  · show win0_8.index t (0 : Fin 3) * 1 + 1 * (y 0).val = _; omega
  · show win0_8.index t (2 : Fin 3) * 256 + 1 * (y 2).val = 256 * (t.val % 16) + (y 2).val; omega

theorem mem8 (t : Fin cfg0.N) (i : S2x2048x4096.Idx) (h0 : t.val / 16 = (i 0).val) (h1 : t.val % 16 = (i 2).val / 256) :
    i ∈ ((cfg0.win 8).blk t).view.set := by
  obtain ⟨-, -, -, ⟨e0, e1, e2⟩, -⟩ := places t
  have h2 : (i 1).val < 2048 := (i 1).isLt
  show i ∈ ((View.whole main_v2_3).slice (win0_8.rect t)).set
  rw [View.set_slice_whole, Rect.mem_set_unit]
  intro d
  match d with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 256 ≤ (i 2).val ∧ (i 2).val < win0_8.index t (2 : Fin 3) * 256 + 256; omega

theorem final8 (c : Dev nD) : (dats m 0 c).arrAt 8 cfg0.N = valuesT m c :=
  (dats m 0 c).arrAt_eq_of_cover 8 _ (fun t _ => (flushed8 m c t).trans (read8 t _ (part (qkv m c) 2) fun n a b R hb hR =>
      (out8_apply _ _ _ _ _ n a).trans (vblk_apply m c t a n b R hb hR)))
    fun i : S2x2048x4096.Idx =>
    have h1 : (i 2).val < 4096 := (i 2).isLt
    let ⟨t, hb, hr⟩ := point_of (i 0).val ((i 2).val / 256) (i 0).isLt (by omega)
    ⟨t, (flushes t).2.2.2.1, mem8 t i hb hr⟩

/-! The means of the normalised keys. -/

theorem read9 (t : Fin cfg0.N) (X : S1x1x1x2048.Idx → EReal) (T : Fin 2 → Fin 16 → Fin 2048 → EReal)
    (h : ∀ (z : S1x1x1x2048.Idx) (b : Fin 2) (r : Fin 16), b.val = t.val / 16 → r.val = t.val % 16 → X z = T b r (z 3)) :
    (cfg0.win 9).cut (grid0.coords t) X
      = ((cfg0.win 9).blk t).view.read (Elt Ideal) (fun i : S2x16x1x2048.Idx => T (i 0) (i 1) (i 3)) := by
  obtain ⟨-, -, -, -, ⟨e0, e1, e2, e3⟩⟩ := places t
  funext y
  rw [View.read_apply]
  have h0 : (y 0).val < 1 := (y 0).isLt
  have h1 : (y 1).val < 1 := (y 1).isLt
  have hn : ((cfg0.win 9).blk t).view.emb y 3 = ((cfg0.win 9).xinj (grid0.coords t) y) 3 := by
    apply Fin.ext; show win0_9.index t (3 : Fin 4) * 2048 + 1 * (y 3).val = (y 3).val; omega
  show X ((cfg0.win 9).xinj (grid0.coords t) y)
    = T (((cfg0.win 9).blk t).view.emb y 0) (((cfg0.win 9).blk t).view.emb y 1) (((cfg0.win 9).blk t).view.emb y 3)
  rw [hn]
  refine h _ _ _ ?_ ?_
  · show win0_9.index t (0 : Fin 4) * 1 + 1 * (y 0).val = _; omega
  · show win0_9.index t (1 : Fin 4) * 1 + 1 * (y 1).val = _; omega

theorem mean_row (c : Dev nD) (t : Fin cfg0.N) (n : Fin 2048) (b : Fin 2) (r : Fin 16) (hb : b.val = t.val / 16) (hr : r.val = t.val % 16) :
    Ideal.div (∑ a : Fin 256, heads (fun n => kblk m c t (ix3 (0 : Fin 1) a n)) (fun d => kgblk m c t (ix2 (0 : Fin 1) d)) n) (Ideal.ofBits .f32 0x43800000#32)
      = mean (qkv m c) (kgain m c) b r n := by
  unfold mean
  congr 1
  exact Finset.sum_congr rfl fun a _ => key_row m c t a n b _ hb (by dsimp only; omega)

theorem mem9 (t : Fin cfg0.N) (i : S2x16x1x2048.Idx) (h0 : t.val / 16 = (i 0).val) (h1 : t.val % 16 = (i 1).val) :
    i ∈ ((cfg0.win 9).blk t).view.set := by
  obtain ⟨-, -, -, -, ⟨e0, e1, e2, e3⟩⟩ := places t
  have h2 : (i 2).val < 1 := (i 2).isLt
  have h3 : (i 3).val < 2048 := (i 3).isLt
  show i ∈ ((View.whole main_v2_4).slice (win0_9.rect t)).set
  rw [View.set_slice_whole, Rect.mem_set_unit]
  intro d
  match d with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 1 ≤ (i 2).val ∧ (i 2).val < win0_9.index t (2 : Fin 4) * 1 + 1; omega
  | ⟨3, _⟩ => show win0_9.index t (3 : Fin 4) * 2048 ≤ (i 3).val ∧ (i 3).val < win0_9.index t (3 : Fin 4) * 2048 + 2048; omega

theorem final9 (c : Dev nD) : (dats m 0 c).arrAt 9 cfg0.N = means m c :=
  (dats m 0 c).arrAt_eq_of_cover 9 _ (fun t _ => (flushed9 m c t).trans (read9 t _ (mean (qkv m c) (kgain m c)) fun z b r hb hr =>
      (out9_apply _ _ _ _ _ z).trans (mean_row m c t _ b r hb hr)))
    fun i : S2x16x1x2048.Idx =>
    let ⟨t, hb, hr⟩ := point_of (i 0).val (i 1).val (i 0).isLt (i 1).isLt
    ⟨t, (flushes t).2.2.2.2, mem9 t i hb hr⟩

/-- The launch's run, its results named. -/
theorem run (ρ : Dev nD → PrngReg) :
    θ_run defs (onTc (τ := τ) (main (F := Ideal))) ⟨m, fun _ => 0, ρ⟩ fun r => ∀ c : Dev nD,
      r.2.mem ((c : Thread nD τ).loc main_v2_0) = keys m c
      ∧ r.2.mem ((c : Thread nD τ).loc main_v2_1) = queriesR m c
      ∧ r.2.mem ((c : Thread nD τ).loc main_v2_2) = keysR m c
      ∧ r.2.mem ((c : Thread nD τ).loc main_v2_3) = valuesT m c
      ∧ r.2.mem ((c : Thread nD τ).loc main_v2_4) = means m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final5 m c), (h c).2.1.trans (final6 m c), (h c).2.2.1.trans (final7 m c),
    (h c).2.2.2.1.trans (final8 m c), (h c).2.2.2.2.1.trans (final9 m c), (h c).2.2.2.2.2⟩) (run_blocks m ρ)

end Cert.Kernel8Ideal.Heads

end
-- ==== Proof.QkNormClaims.lean ====
/- The claims of the query and key normalisation: frames from the generated proofs, and the value of the launch equal to
   the reference's, element by element. -/
module

public import proofs.«01_k».proof.Defs
public import proofs.«01_k».proof.Proof.QkNormValue
public import proofs.«01_k».proof.Proof.Gen.Kernel8.Frame
public import proofs.«01_k».proof.Proof.Gen.Reference8Ideal.Run
public import Idealize.ShloMosaic.Lib.Claim

@[expose] public section

set_option maxRecDepth 8192

noncomputable section

namespace Cert.Proof.QkNormClaims

open Idealize.ShloMosaic Idealize.ShloMosaic.TcCoe Idealize.ShloMosaic.StableHlo Idealize.SL.Sem
open scoped BigOperators

section Ref

open Cert.Reference8Ideal Cert.Reference8Ideal.Gen Cert.Kernel8Ideal.Heads

/-- One of the three parts of the input, its heads apart. -/
def partRef (x : FVec Ideal S2x4096x6144 .f32) (o : Fin 5 → Nat) (h : S2x4096x3x16x128.Slices o S2x4096x1x16x128) : FVec Ideal S2x4096x16x128 .f32 :=
  shapeCast _ (extractStridedSlice S2x4096x1x16x128 o (shapeCast S2x4096x3x16x128 x shapeCasts_S2x4096x6144_S2x4096x3x16x128) h) shapeCasts_S2x4096x1x16x128_S2x4096x16x128

/-- The heads normalised, -/
def normRef (y : FVec Ideal S2x4096x16x128 .f32) (g : FVec Ideal S128 .f32) : FVec Ideal S2x4096x16x128 .f32 :=
  mulf (mulf y (broadcastInDim S2x4096x16x128 ![0, 1, 2, 3] bcast_S2x4096x16x1_S2x4096x16x128_0_1_2_3 (Host.rsqrt (addf (Host.divf (broadcastInDim S2x4096x16x1 ![0, 1, 2] bcast_S2x4096x16_S2x4096x16x1_0_1_2 (Host.reduceAdd (mulf y y) (constant S_ .f32 0x00000000#32) reducesTo_S2x4096x16x128_S2x4096x16_d3 h_S_)) (broadcastInDim S2x4096x16x1 ![] bcast_S_S2x4096x16x1 (constant S_ .f32 0x43000000#32))) (broadcastInDim S2x4096x16x1 ![] bcast_S_S2x4096x16x1 (constant S_ .f32 0x358637BD#32)))))) (broadcastInDim S2x4096x16x128 ![0, 1, 2, 3] bcast_S1x1x1x128_S2x4096x16x128_0_1_2_3 (broadcastInDim S1x1x1x128 ![3] bcast_S128_S1x1x1x128_3 g))

theorem normRef_apply (y : FVec Ideal S2x4096x16x128 .f32) (g : FVec Ideal S128 .f32) (b : Fin 2) (R : Fin 4096) (h : Fin 16) (e : Fin 128) :
    normRef y g (ix4 b R h e) = normed (fun d => y (ix4 b R h d)) (fun d => g (ix1 d)) e := by
  pointwise [normRef, normed]

/-- and the heads put side by side again. -/
abbrev flat (y : FVec Ideal S2x4096x16x128 .f32) : FVec Ideal S2x4096x2048 .f32 :=
  shapeCast _ y shapeCasts_S2x4096x16x128_S2x4096x2048

theorem flat_apply (y : FVec Ideal S2x4096x16x128 .f32) (b : Fin 2) (R : Fin 4096) (n : Fin 2048) :
    flat y (ix3 b R n) = y (ix4 b R (⟨n.val / 128, by omega⟩ : Fin 16) (pos n)) := by
  pointwise [flat, pos]

theorem partRef_apply (x : FVec Ideal S2x4096x6144 .f32) (s : Fin 3) (hs) (b : Fin 2) (R : Fin 4096) (h : Fin 16) (e : Fin 128)
    (n : Fin 2048) (hn : n.val = 128 * h.val + e.val) :
    partRef x ![0, 0, s.val, 0, 0] hs (ix4 b R h e) = part x s b R n := by
  have e1 : partRef x ![0, 0, s.val, 0, 0] hs (ix4 b R h e) = x (ix3 b R (⟨s.val * 2048 + h.val * 128 + e.val, by omega⟩ : Fin 6144)) := by
    pointwise [partRef]
  rw [e1]
  exact part_of x _ s b R n rfl rfl (by show s.val * 2048 + h.val * 128 + e.val = _; omega)

/-- A normalised part as the reference writes it, element by element; -/
theorem norm_ref (x : FVec Ideal S2x4096x6144 .f32) (g : FVec Ideal S128 .f32) (s : Fin 3) (hs) (b : Fin 2) (R : Fin 4096) (n : Fin 2048) :
    flat (normRef (partRef x ![0, 0, s.val, 0, 0] hs) g) (ix3 b R n) = normal x g s b R n := by
  rw [flat_apply, normRef_apply]
  unfold normal heads
  congr 1
  funext d
  exact partRef_apply x s hs b R _ d (col n d) rfl

/-- the values turned over; -/
theorem value_ref (x : FVec Ideal S2x4096x6144 .f32) (hs) (b : Fin 2) (R : Fin 4096) (n : Fin 2048) :
    (truncf .bf16 (transpose S2x2048x4096 [0, 2, 1] (flat (partRef x ![0, 0, 2, 0, 0] hs)) transposes_S2x4096x2048_S2x2048x4096_0_2_1) bitsLt_bf16_f32 : FVec Ideal S2x2048x4096 .bf16) (ix3 b n R)
      = part x 2 b R n := by
  have e : (truncf .bf16 (transpose S2x2048x4096 [0, 2, 1] (flat (partRef x ![0, 0, 2, 0, 0] hs)) transposes_S2x4096x2048_S2x2048x4096_0_2_1) bitsLt_bf16_f32 : FVec Ideal S2x2048x4096 .bf16) (ix3 b n R)
      = flat (partRef x ![0, 0, 2, 0, 0] hs) (ix3 b R n) := by
    generalize flat (partRef x ![0, 0, 2, 0, 0] hs) = y
    pointwise []
  rw [e, flat_apply]
  exact partRef_apply x 2 hs b R _ (pos n) n (by unfold pos; dsimp only; omega)

/-- and the means of 256 rows `k`. -/
def meanRef (k : FVec Ideal S2x4096x2048 .f32) : FVec Ideal S2x16x1x2048 .f32 :=
  shapeCast _ (Host.divf (Host.reduceAdd (shapeCast _ k shapeCasts_S2x4096x2048_S2x16x256x2048) (constant S_ .f32 0x00000000#32) reducesTo_S2x16x256x2048_S2x16x2048_d2 h_S_) (broadcastInDim S2x16x2048 ![] bcast_S_S2x16x2048 (constant S_ .f32 0x43800000#32))) shapeCasts_S2x16x2048_S2x16x1x2048

theorem meanRef_apply (k : FVec Ideal S2x4096x2048 .f32) (b : Fin 2) (r : Fin 16) (z : Fin 1) (n : Fin 2048) :
    meanRef k (ix4 b r z n)
      = Ideal.div (∑ a : Fin 256, k (ix3 b (⟨r.val * 256 + a.val, by omega⟩ : Fin 4096) n)) (Ideal.ofBits .f32 0x43800000#32) := by
  pointwise [meanRef]

theorem mean_ref (x : FVec Ideal S2x4096x6144 .f32) (g : FVec Ideal S128 .f32) (hs) (b : Fin 2) (r : Fin 16) (z : Fin 1) (n : Fin 2048) :
    meanRef (flat (normRef (partRef x ![0, 0, 1, 0, 0] hs) g)) (ix4 b r z n) = mean x g b r n := by
  rw [meanRef_apply]
  unfold mean
  congr 1
  refine Finset.sum_congr rfl fun a _ => (norm_ref x g 1 hs b _ n).trans ?_
  congr 1
  exact Fin.ext (by dsimp only; omega)

end Ref

/-! ## Frames -/

theorem frame : Cert.quiescent_Kernel8 := fun m g _ => Cert.Kernel8.Gen.frame m g
theorem frame_ideal : Cert.quiescent_Kernel8Ideal := fun m g _ => Cert.Kernel8Ideal.Gen.frame m g
theorem frame_ref : Cert.quiescent_Reference8Ideal := fun m g _ =>
  (θ_run Cert.Reference8Ideal.defs _ _).mono (fun r h => ⟨fun c => (h c).2.2.2.2.2, sem_eq_zero_of_no_sems (by decide) r.2⟩)
    (Cert.Reference8Ideal.Value.run (F := Ideal) m g)

/-- THE NORMALISATION: the launch's five results are the reference's. -/
theorem value : Cert.algebraic_Kernel8Ideal_Reference8Ideal := by
  intro m g m' g' _ hagree
  refine ⟨fun c => Cert.Kernel8Ideal.Heads.keys m c, fun c => Cert.Kernel8Ideal.Heads.queriesR m c, fun c => Cert.Kernel8Ideal.Heads.keysR m c,
    fun c => Cert.Kernel8Ideal.Heads.valuesT m c, fun c => Cert.Kernel8Ideal.Heads.means m c, Cert.Kernel8Ideal.Heads.run m g, ?_⟩
  refine (θ_run Cert.Reference8Ideal.defs _ _).mono (fun r h c => ?_) (Cert.Reference8Ideal.Value.run (F := Ideal) m' g')
  obtain ⟨e0, e1, e2⟩ := hagree c
  obtain ⟨r0, r1, r2, r3, r4, kept⟩ := h c
  rw [e0, e2] at r0 r2 r4
  rw [e0, e1] at r1
  rw [e0] at r3
  refine ⟨r0.trans ?_, r1.trans ?_, r2.trans ?_, r3.trans ?_, r4.trans ?_, kept⟩
  · funext j
    rw [eq_ix3 j]
    exact norm_ref _ _ 1 _ _ _ _
  · funext j
    rw [eq_ix3 j]
    exact norm_ref _ _ 0 _ _ _ _
  · funext j
    rw [eq_ix3 j]
    exact norm_ref _ _ 1 _ _ _ _
  · funext j
    rw [eq_ix3 j]
    exact value_ref _ _ _ _ _
  · funext j
    rw [eq_ix4 j]
    exact mean_ref _ _ _ _ _ _ _

end Cert.Proof.QkNormClaims

end
-- ==== Proof.QkSampleBlocks.lean ====
/- What one point of the sample's query and key normalisation leaves in its blocks, at the ideal values: the four rows of
   one batch, with each head's 128 columns stored apart. A head's arithmetic is the prompt's (`heads`). -/
module

public import proofs.«01_k».proof.Proof.Gen.Kernel11Ideal.Value
public import proofs.«01_k».proof.Proof.QkNormBlocks

@[expose] public section

set_option maxRecDepth 8192

noncomputable section

namespace Cert.Kernel11Ideal.Heads

open Cert.Kernel11Ideal Cert.Kernel11Ideal.Gen
open Cert.Sweeps (zero_offsets zero_offsets3)
open Cert.Kernel8Ideal.Heads (normed col pos heads)
open Idealize.ShloMosaic Idealize.ShloMosaic.TcCoe Idealize.SL.Sem
open scoped BigOperators

/-! ## One head -/

/-- A head's block in the points' own arithmetic. -/
theorem head_apply (g : Vec Ideal S1x128 .f32) (x : Vec Ideal S1x4x128 .f32) (a : Fin 4) (e : Fin 128) :
    k0_pay6 g x (ix2 a e) = normed (fun d => x (ix3 (0 : Fin 1) a d)) (fun d => g (ix2 (0 : Fin 1) d)) e := by
  pointwise [k0_pay6, k0_pay3, normed]

/-- A head that starts at column `o`, normalised, is its part of the normalised row. -/
theorem head_cols (g : Vec Ideal S1x128 .f32) (x : Vec Ideal S1x4x2048 .f32) (o : Nat) (ho : o % 128 = 0) (inb) (a : Fin 4) (e : Fin 128)
    (n : Fin 2048) (hn : n.val = o + e.val) :
    k0_pay6 g (View.ld x (Rect.unit (s := S1x4x2048) ![0, 0, o] S1x4x128.size inb)) (ix2 a e)
      = heads (fun n => x (ix3 (0 : Fin 1) a n)) (fun d => g (ix2 (0 : Fin 1) d)) n := by
  rw [head_apply]
  unfold heads
  rw [show pos n = e from Fin.ext (by unfold pos; dsimp only; omega)]
  congr 1
  funext d
  refine View.ld_unit_apply_of x _ _ inb _ _ fun k => ?_
  match k with
  | ⟨0, _⟩ => rfl
  | ⟨1, _⟩ => exact (Nat.zero_add _).symm
  | ⟨2, _⟩ => show 128 * (n.val / 128) + d.val = o + d.val; omega

/-- The leading axis of one that a piece has. -/
theorem relay_apply (w : FVec Ideal S4x128 .f32) (a : Fin 4) (e : Fin 128) :
    shapeCast S1x4x128 w shapeCasts_S4x128_S1x4x128 (ix3 (0 : Fin 1) a e) = w (ix2 a e) := by
  pointwise []

/-- The sum of a head's four rows, over 256. -/
theorem mean_apply (w : FVec Ideal S4x128 .f32) (e : Fin 128) :
    k0_pay2 w (ix4 (0 : Fin 1) (0 : Fin 1) (0 : Fin 1) e)
      = Ideal.div (∑ a : Fin 4, w (ix2 a e)) (Ideal.ofBits .f32 0x43800000#32) := by
  pointwise [k0_pay2]

/-! ## The stored blocks -/

/-- A head's piece of a block, as the normalised row has it, -/
theorem head_piece (g g' : Vec Ideal S1x128 .f32) (hg : g' = g) (x : Vec Ideal S1x4x2048 .f32) (o : Nat) (ho : o % 128 = 0) (inb) (y : S1x4x2048.Idx) :
    View.RectAt (Val := Elt Ideal) (e := .f32) y (Rect.unit (s := S1x4x2048) ![0, 0, o] S1x4x128.size inb)
      (shapeCast S1x4x128 (k0_pay6 (F := Ideal) g' (View.ld x (Rect.unit (s := S1x4x2048) ![0, 0, o] S1x4x128.size inb))) shapeCasts_S4x128_S1x4x128)
      (heads (fun n => x (ix3 (0 : Fin 1) (y 1) n)) (fun d => g (ix2 (0 : Fin 1) d)) (y 2)) := by
  subst hg
  intro z hz
  have h1 : y 1 = z 1 := by rw [← hz]; apply Fin.ext; show 0 + 1 * (z 1).val = (z 1).val; omega
  have h2 : (y 2).val = o + (z 2).val := by rw [← hz]; show o + 1 * (z 2).val = _; omega
  have h0 : z = ix3 (0 : Fin 1) (z 1) (z 2) := by
    funext d
    match d with
    | ⟨0, _⟩ => exact Subsingleton.elim (α := Fin 1) _ _
    | ⟨1, _⟩ => rfl
    | ⟨2, _⟩ => rfl
  rw [h1, ← head_cols g' x o ho inb (z 1) (z 2) (y 2) h2]
  exact (congrArg _ h0).trans (relay_apply _ _ _)

/-- and the head's sums. -/
theorem mean_piece (g g' : Vec Ideal S1x128 .f32) (hg : g' = g) (x : Vec Ideal S1x4x2048 .f32) (o : Nat) (ho : o % 128 = 0) (inb) (inb') (y : S1x1x1x2048.Idx) :
    View.RectAt (Val := Elt Ideal) (e := .f32) y (Rect.unit (s := S1x1x1x2048) ![0, 0, 0, o] S1x1x1x128.size inb')
      (k0_pay2 (k0_pay6 (F := Ideal) g' (View.ld x (Rect.unit (s := S1x4x2048) ![0, 0, o] S1x4x128.size inb))))
      (Ideal.div (∑ a : Fin 4, heads (fun n => x (ix3 (0 : Fin 1) a n)) (fun d => g (ix2 (0 : Fin 1) d)) (y 3)) (Ideal.ofBits .f32 0x43800000#32)) := by
  subst hg
  intro z hz
  have h3 : (y 3).val = o + (z 3).val := by rw [← hz]; show o + 1 * (z 3).val = _; omega
  have h0 : z = ix4 (0 : Fin 1) (0 : Fin 1) (0 : Fin 1) (z 3) := by
    funext d
    match d with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  refine (congrArg _ h0).trans ((mean_apply _ _).trans ?_)
  congr 1
  exact Finset.sum_congr rfl fun a _ => head_cols g' x o ho inb a (z 3) (y 3) h3

section Outs

variable (q k v : Vec Ideal S1x4x2048 .f32) (gq gk : Vec Ideal S1x128 .f32)

theorem gain (g : Vec Ideal S1x128 .f32) : View.ld g r0_0 = g := View.ld_unit_zero (S := S1x128) zero_offsets _ _

/-- The normalised keys, -/
theorem out5_apply (y : S1x4x2048.Idx) :
    out0_5 q k v gq gk y = heads (fun n => k (ix3 (0 : Fin 1) (y 1) n)) (fun d => gk (ix2 (0 : Fin 1) d)) (y 2) := by
  unfold out0_5
  refine View.canon_eq_of_allAt _ y _ (cover0_5 ..) ?_
  repeat' (first | exact View.allAt_nil _ _ | refine View.allAt_cons _ _ _ ?_ ?_)
  all_goals exact head_piece gk _ (gain gk) k _ (by rfl) _ y

/-- the normalised queries, -/
theorem out6_apply (y : S1x4x2048.Idx) :
    out0_6 q k v gq gk y = heads (fun n => q (ix3 (0 : Fin 1) (y 1) n)) (fun d => gq (ix2 (0 : Fin 1) d)) (y 2) := by
  unfold out0_6
  refine View.canon_eq_of_allAt _ y _ (cover0_6 ..) ?_
  repeat' (first | exact View.allAt_nil _ _ | refine View.allAt_cons _ _ _ ?_ ?_)
  all_goals exact head_piece gq _ (gain gq) q _ (by rfl) _ y

/-- the keys once more (the same sixteen pieces as the first result's), -/
theorem out7_eq : out0_7 q k v gq gk = out0_5 q k v gq gk := rfl

/-- the values as they are, -/
theorem out8_eq : out0_8 q k v gq gk = v := by
  unfold out0_8
  rw [View.canon_unit_zero zero_offsets3, View.ld_unit_zero (S := S1x4x2048) zero_offsets3]
  funext y
  rw [eq_ix3 y]
  pointwise [k0_pay5]

/-- and the keys' sums over 256. -/
theorem out9_apply (y : S1x1x1x2048.Idx) :
    out0_9 q k v gq gk y
      = Ideal.div (∑ a : Fin 4, heads (fun n => k (ix3 (0 : Fin 1) a n)) (fun d => gk (ix2 (0 : Fin 1) d)) (y 3)) (Ideal.ofBits .f32 0x43800000#32) := by
  unfold out0_9
  refine View.canon_eq_of_allAt _ y _ (cover0_9 ..) ?_
  repeat' (first | exact View.allAt_nil _ _ | refine View.allAt_cons _ _ _ ?_ ?_)
  all_goals exact mean_piece gk _ (gain gk) k _ (by rfl) _ _ y

end Outs

end Cert.Kernel11Ideal.Heads

end
-- ==== Proof.QkSampleValue.lean ====
/- The value of the sample's query and key normalisation, at the ideal values. The input holds queries, keys and values
   side by side, 2048 columns each, four rows for each of eight batches. The launch leaves the keys with every head
   normalised, the queries and once more the keys the same way, the values as they are, and the sum of a batch's four
   normalised keys over 256. Point `t` of the grid has batch `t`. -/
module

public import proofs.«01_k».proof.Proof.QkSampleBlocks

@[expose] public section

set_option maxRecDepth 8192

noncomputable section

namespace Cert.Kernel11Ideal.Heads

open Cert.Kernel11Ideal Cert.Kernel11Ideal.Gen Cert.Kernel11Ideal.Value
open Cert.Kernel8Ideal.Heads (normed col pos heads)
open Idealize.ShloMosaic Idealize.ShloMosaic.TcCoe Idealize.ShloMosaic.StableHlo Idealize.SL.Sem
open scoped BigOperators

variable (m : (ℓ : Loc nD τ sig) → Buf (Elt Ideal) ℓ)

/-! ## What the launch is to leave -/

/-- Row `R` of batch `b` of the queries (`s = 0`), the keys (`s = 1`) or the values (`s = 2`). -/
def part (x : S8x4x6144.Idx → EReal) (s : Fin 3) (b : Fin 8) (R : Fin 4) (n : Fin 2048) : EReal :=
  x (ix3 b R (⟨2048 * s.val + n.val, by omega⟩ : Fin 6144))

/-- A row of them with its heads normalised, -/
def normal (x : S8x4x6144.Idx → EReal) (g : S128.Idx → EReal) (s : Fin 3) (b : Fin 8) (R : Fin 4) (n : Fin 2048) : EReal :=
  heads (part x s b R) (fun d => g (ix1 d)) n

/-- and the sum of a batch's normalised keys over 256. -/
def mean (x : S8x4x6144.Idx → EReal) (g : S128.Idx → EReal) (b : Fin 8) (n : Fin 2048) : EReal :=
  Ideal.div (∑ a : Fin 4, normal x g 1 b a n) (Ideal.ofBits .f32 0x43800000#32)

/-- The launch's arguments as arrays. -/
abbrev qkv (c : Dev nD) : S8x4x6144.Idx → EReal := m ((c : Thread nD τ).loc main_arg0)
abbrev qgain (c : Dev nD) : S128.Idx → EReal := m ((c : Thread nD τ).loc main_arg1)
abbrev kgain (c : Dev nD) : S128.Idx → EReal := m ((c : Thread nD τ).loc main_arg2)

/-- The arrays; the third is the first again. -/
def keys (c : Dev nD) : S8x4x2048.Idx → EReal := fun i => normal (qkv m c) (kgain m c) 1 (i 0) (i 1) (i 2)
def queries (c : Dev nD) : S8x4x2048.Idx → EReal := fun i => normal (qkv m c) (qgain m c) 0 (i 0) (i 1) (i 2)
def values (c : Dev nD) : S8x4x2048.Idx → EReal := fun i => part (qkv m c) 2 (i 0) (i 1) (i 2)
def means (c : Dev nD) : S8x1x1x2048.Idx → EReal := fun i => mean (qkv m c) (kgain m c) (i 0) (i 3)

/-! ## The blocks a point sees -/

/-- Every block is its batch's, the first three at the queries', the keys' and the values' columns. -/
theorem indices : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 1)
    ∧ (win0_2.index t (0 : Fin 3) = t.val ∧ win0_2.index t (1 : Fin 3) = 0 ∧ win0_2.index t (2 : Fin 3) = 2)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

abbrev qblk (c : Dev nD) (t : Fin cfg0.N) : S1x4x2048.Idx → EReal := iblk m c 0 t
abbrev kblk (c : Dev nD) (t : Fin cfg0.N) : S1x4x2048.Idx → EReal := iblk m c 1 t
abbrev vblk (c : Dev nD) (t : Fin cfg0.N) : S1x4x2048.Idx → EReal := iblk m c 2 t
abbrev qgblk (c : Dev nD) (t : Fin cfg0.N) : S1x128.Idx → EReal := iblk m c 3 t
abbrev kgblk (c : Dev nD) (t : Fin cfg0.N) : S1x128.Idx → EReal := iblk m c 4 t

/-- An element of the input by its coordinates. -/
theorem part_of (x : S8x4x6144.Idx → EReal) (i : S8x4x6144.Idx) (s : Fin 3) (b : Fin 8) (R : Fin 4) (n : Fin 2048)
    (h0 : (i 0).val = b.val) (h1 : (i 1).val = R.val) (h2 : (i 2).val = 2048 * s.val + n.val) : x i = part x s b R n := by
  unfold part
  congr 1
  funext d
  apply Fin.ext
  match d with
  | ⟨0, _⟩ => exact h0
  | ⟨1, _⟩ => exact h1
  | ⟨2, _⟩ => exact h2

section Parts

variable (c : Dev nD) (t : Fin cfg0.N) (z : S1x4x2048.Idx) (b : Fin 8) (hb : b.val = t.val)
include hb

theorem qblk_apply : qblk m c t z = part (qkv m c) 0 b (z 1) (z 2) := by
  obtain ⟨⟨e0, e1, e2⟩, -, -, -, -⟩ := indices t
  have h0 : (z 0).val < 1 := (z 0).isLt
  refine (congrFun (V_main_arg0 m c) _).trans (part_of (qkv m c) _ 0 b (z 1) (z 2) ?_ ?_ ?_)
  · show win0_0.index t (0 : Fin 3) * 1 + 1 * (z 0).val = b.val; omega
  · show win0_0.index t (1 : Fin 3) * 4 + 1 * (z 1).val = (z 1).val; omega
  · show win0_0.index t (2 : Fin 3) * 2048 + 1 * (z 2).val = 2048 * 0 + (z 2).val; omega

theorem kblk_apply : kblk m c t z = part (qkv m c) 1 b (z 1) (z 2) := by
  obtain ⟨-, ⟨e0, e1, e2⟩, -, -, -⟩ := indices t
  have h0 : (z 0).val < 1 := (z 0).isLt
  refine (congrFun (V_main_arg0 m c) _).trans (part_of (qkv m c) _ 1 b (z 1) (z 2) ?_ ?_ ?_)
  · show win0_1.index t (0 : Fin 3) * 1 + 1 * (z 0).val = b.val; omega
  · show win0_1.index t (1 : Fin 3) * 4 + 1 * (z 1).val = (z 1).val; omega
  · show win0_1.index t (2 : Fin 3) * 2048 + 1 * (z 2).val = 2048 * 1 + (z 2).val; omega

theorem vblk_apply : vblk m c t z = part (qkv m c) 2 b (z 1) (z 2) := by
  obtain ⟨-, -, ⟨e0, e1, e2⟩, -, -⟩ := indices t
  have h0 : (z 0).val < 1 := (z 0).isLt
  refine (congrFun (V_main_arg0 m c) _).trans (part_of (qkv m c) _ 2 b (z 1) (z 2) ?_ ?_ ?_)
  · show win0_2.index t (0 : Fin 3) * 1 + 1 * (z 0).val = b.val; omega
  · show win0_2.index t (1 : Fin 3) * 4 + 1 * (z 1).val = (z 1).val; omega
  · show win0_2.index t (2 : Fin 3) * 2048 + 1 * (z 2).val = 2048 * 2 + (z 2).val; omega

end Parts

/-- The gains as a one-row block. -/
theorem gain_cast (g : FVec Ideal S128 .f32) (d : Fin 128) :
    shapeCast S1x128 g shapeCasts_S128_S1x128 (ix2 (0 : Fin 1) d) = g (ix1 d) := by
  pointwise []

theorem qgblk_apply (c : Dev nD) (t : Fin cfg0.N) (d : Fin 128) : qgblk m c t (ix2 (0 : Fin 1) d) = qgain m c (ix1 d) := by
  obtain ⟨-, -, -, ⟨e0, e1⟩, -⟩ := indices t
  unfold qgblk iblk
  rw [View.read_apply]
  have e : V m c main_v0 = shapeCast S1x128 (m ((c : Thread nD τ).loc main_arg1)) shapeCasts_S128_S1x128 := by
    unfold V hostOps0
    after_results
    rfl
  have i : ((cfg0.win 3).blk t).view.emb (ix2 (0 : Fin 1) d) = (ix2 (0 : Fin 1) d : S1x128.Idx) := by
    funext x
    apply Fin.ext
    match x with
    | ⟨0, _⟩ => show win0_3.index t (0 : Fin 2) * 1 + 1 * 0 = 0; omega
    | ⟨1, _⟩ => show win0_3.index t (1 : Fin 2) * 128 + 1 * d.val = d.val; omega
  show V m c main_v0 _ = _
  rw [e, i]
  exact gain_cast _ d

theorem kgblk_apply (c : Dev nD) (t : Fin cfg0.N) (d : Fin 128) : kgblk m c t (ix2 (0 : Fin 1) d) = kgain m c (ix1 d) := by
  obtain ⟨-, -, -, -, ⟨e0, e1⟩⟩ := indices t
  unfold kgblk iblk
  rw [View.read_apply]
  have e : V m c main_v1 = shapeCast S1x128 (m ((c : Thread nD τ).loc main_arg2)) shapeCasts_S128_S1x128 := by
    unfold V hostOps0
    after_results
    rfl
  have i : ((cfg0.win 4).blk t).view.emb (ix2 (0 : Fin 1) d) = (ix2 (0 : Fin 1) d : S1x128.Idx) := by
    funext x
    apply Fin.ext
    match x with
    | ⟨0, _⟩ => show win0_4.index t (0 : Fin 2) * 1 + 1 * 0 = 0; omega
    | ⟨1, _⟩ => show win0_4.index t (1 : Fin 2) * 128 + 1 * d.val = d.val; omega
  show V m c main_v1 _ = _
  rw [e, i]
  exact gain_cast _ d

/-! ## What a point stores, in the array's own coordinates -/

section Stored

variable (c : Dev nD) (t : Fin cfg0.N) (a : Fin 4) (n : Fin 2048) (b : Fin 8) (hb : b.val = t.val)
include hb

theorem query_row : heads (fun n => qblk m c t (ix3 (0 : Fin 1) a n)) (fun d => qgblk m c t (ix2 (0 : Fin 1) d)) n
    = normal (qkv m c) (qgain m c) 0 b a n := by
  unfold normal
  congr 1
  · funext n; exact qblk_apply m c t _ b hb
  · funext d; exact qgblk_apply m c t d

theorem key_row : heads (fun n => kblk m c t (ix3 (0 : Fin 1) a n)) (fun d => kgblk m c t (ix2 (0 : Fin 1) d)) n
    = normal (qkv m c) (kgain m c) 1 b a n := by
  unfold normal
  congr 1
  · funext n; exact kblk_apply m c t _ b hb
  · funext d; exact kgblk_apply m c t d

theorem mean_row : Ideal.div (∑ a : Fin 4, heads (fun n => kblk m c t (ix3 (0 : Fin 1) a n)) (fun d => kgblk m c t (ix2 (0 : Fin 1) d)) n) (Ideal.ofBits .f32 0x43800000#32)
    = mean (qkv m c) (kgain m c) b n := by
  unfold mean
  congr 1
  exact Finset.sum_congr rfl fun a _ => key_row m c t a n b hb

end Stored

/-! ## The five results -/

/-- The results' blocks are their batches'. -/
theorem places : ∀ t : Fin cfg0.N,
    (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 4) = t.val ∧ win0_9.index t (1 : Fin 4) = 0 ∧ win0_9.index t (2 : Fin 4) = 0
      ∧ win0_9.index t (3 : Fin 4) = 0) :=
  (by decide +kernel : ∀ t : Fin grid0.N, _)

theorem flushes : ∀ t : Fin cfg0.N, (cfg0.win 5).flush t = true ∧ (cfg0.win 6).flush t = true ∧ (cfg0.win 7).flush t = true
    ∧ (cfg0.win 8).flush t = true ∧ (cfg0.win 9).flush t = true :=
  (by decide +kernel : ∀ t : Fin grid0.N, win0_5.flush t = true ∧ win0_6.flush t = true ∧ win0_7.flush t = true
    ∧ win0_8.flush t = true ∧ win0_9.flush t = true)

/-- A batch's point. -/
abbrev point (b : Fin 8) : Fin cfg0.N := ⟨b.val, lt_of_lt_of_eq b.isLt N_0.symm⟩

/-- A block of rows `X` that holds batch `t`'s part of `T` agrees with it at the block's place `i` in the array, if the
    block's index `I` is the batch's. -/
theorem at_place {t : Fin cfg0.N} {X : S1x4x2048.Idx → EReal} {T : Fin 8 → Fin 4 → Fin 2048 → EReal}
    (h : ∀ (z : S1x4x2048.Idx) (b : Fin 8), b.val = t.val → X z = T b (z 1) (z 2)) {I : Fin 3 → ℕ}
    (hI : I 0 = t.val ∧ I 1 = 0 ∧ I 2 = 0) (z : S1x4x2048.Idx) (i : S8x4x2048.Idx)
    (hi : ∀ d, (i d).val = I d * S1x4x2048.size d + 1 * (z d).val) : X z = T (i 0) (i 1) (i 2) := by
  obtain ⟨e0, e1, e2⟩ := hI
  have h0 : (z 0).val < 1 := (z 0).isLt
  have i0 : (i 0).val = I 0 * 1 + 1 * (z 0).val := hi 0
  have i1 : (i 1).val = I 1 * 4 + 1 * (z 1).val := hi 1
  have i2 : (i 2).val = I 2 * 2048 + 1 * (z 2).val := hi 2
  rw [show i 1 = z 1 from Fin.ext (by omega), show i 2 = z 2 from Fin.ext (by omega)]
  exact h z _ (by omega)

/-- And such a block reaches every element of its batch. -/
theorem reaches {i : S8x4x2048.Idx} {I : Fin 3 → ℕ} (hI : I 0 = (point (i 0)).val ∧ I 1 = 0 ∧ I 2 = 0) (d : Fin 3) :
    I d * S1x4x2048.size d ≤ (i d).val ∧ (i d).val < I d * S1x4x2048.size d + S1x4x2048.size d := by
  obtain ⟨e0, e1, e2⟩ := hI
  dsimp only at e0
  have h1 : (i 1).val < 4 := (i 1).isLt
  have h2 : (i 2).val < 2048 := (i 2).isLt
  match d with
  | ⟨0, _⟩ => show I 0 * 1 ≤ (i 0).val ∧ (i 0).val < I 0 * 1 + 1; omega
  | ⟨1, _⟩ => show I 1 * 4 ≤ (i 1).val ∧ (i 1).val < I 1 * 4 + 4; omega
  | ⟨2, _⟩ => show I 2 * 2048 ≤ (i 2).val ∧ (i 2).val < I 2 * 2048 + 2048; omega

/-- The normalised keys. -/
theorem final5 (c : Dev nD) : (dats m 0 c).arrAt 5 cfg0.N = keys m c := by
  refine (dats m 0 c).arrAt_eq_of_cover 5 _ (fun t _ => (flushed5 m c t).trans ?_)
    fun i : S8x4x2048.Idx => ⟨point (i 0), (flushes _).1, ?_⟩
  · funext y
    exact at_place (T := normal (qkv m c) (kgain m c) 1) (fun z b hb => (out5_apply _ _ _ _ _ z).trans (key_row m c t _ _ b hb))
      (places _).1 ((cfg0.win 5).xinj (grid0.coords t) y) (((cfg0.win 5).blk t).view.emb y) (fun _ => rfl)
  · show i ∈ ((View.whole main_v2_0).slice (win0_5.rect (point (i 0)))).set
    rw [View.set_slice_whole, Rect.mem_set_unit]
    exact reaches (places _).1

/-- The normalised queries. -/
theorem final6 (c : Dev nD) : (dats m 0 c).arrAt 6 cfg0.N = queries m c := by
  refine (dats m 0 c).arrAt_eq_of_cover 6 _ (fun t _ => (flushed6 m c t).trans ?_)
    fun i : S8x4x2048.Idx => ⟨point (i 0), (flushes _).2.1, ?_⟩
  · funext y
    exact at_place (T := normal (qkv m c) (qgain m c) 0) (fun z b hb => (out6_apply _ _ _ _ _ z).trans (query_row m c t _ _ b hb))
      (places _).2.1 ((cfg0.win 6).xinj (grid0.coords t) y) (((cfg0.win 6).blk t).view.emb y) (fun _ => rfl)
  · show i ∈ ((View.whole main_v2_1).slice (win0_6.rect (point (i 0)))).set
    rw [View.set_slice_whole, Rect.mem_set_unit]
    exact reaches (places _).2.1

/-- The keys once more. -/
theorem final7 (c : Dev nD) : (dats m 0 c).arrAt 7 cfg0.N = keys m c := by
  refine (dats m 0 c).arrAt_eq_of_cover 7 _ (fun t _ => (flushed7 m c t).trans ?_)
    fun i : S8x4x2048.Idx => ⟨point (i 0), (flushes _).2.2.1, ?_⟩
  · funext y
    exact at_place (T := normal (qkv m c) (kgain m c) 1) (fun z b hb => (congrFun (out7_eq _ _ _ _ _) z).trans ((out5_apply _ _ _ _ _ z).trans (key_row m c t _ _ b hb)))
      (places _).2.2.1 ((cfg0.win 7).xinj (grid0.coords t) y) (((cfg0.win 7).blk t).view.emb y) (fun _ => rfl)
  · show i ∈ ((View.whole main_v2_2).slice (win0_7.rect (point (i 0)))).set
    rw [View.set_slice_whole, Rect.mem_set_unit]
    exact reaches (places _).2.2.1

/-- The values. -/
theorem final8 (c : Dev nD) : (dats m 0 c).arrAt 8 cfg0.N = values m c := by
  refine (dats m 0 c).arrAt_eq_of_cover 8 _ (fun t _ => (flushed8 m c t).trans ?_)
    fun i : S8x4x2048.Idx => ⟨point (i 0), (flushes _).2.2.2.1, ?_⟩
  · funext y
    exact at_place (T := part (qkv m c) 2) (fun z b hb => (congrFun (out8_eq _ _ _ _ _) z).trans (vblk_apply m c t z b hb))
      (places _).2.2.2.1 ((cfg0.win 8).xinj (grid0.coords t) y) (((cfg0.win 8).blk t).view.emb y) (fun _ => rfl)
  · show i ∈ ((View.whole main_v2_3).slice (win0_8.rect (point (i 0)))).set
    rw [View.set_slice_whole, Rect.mem_set_unit]
    exact reaches (places _).2.2.2.1

/-! The sums of the normalised keys. -/

theorem read9 (t : Fin cfg0.N) (X : S1x1x1x2048.Idx → EReal) (T : Fin 8 → Fin 2048 → EReal)
    (h : ∀ (z : S1x1x1x2048.Idx) (b : Fin 8), b.val = t.val → X z = T b (z 3)) :
    (cfg0.win 9).cut (grid0.coords t) X
      = ((cfg0.win 9).blk t).view.read (Elt Ideal) (fun i : S8x1x1x2048.Idx => T (i 0) (i 3)) := by
  obtain ⟨-, -, -, -, ⟨e0, e1, e2, e3⟩⟩ := places t
  funext y
  rw [View.read_apply]
  have h0 : (y 0).val < 1 := (y 0).isLt
  have hn : ((cfg0.win 9).blk t).view.emb y 3 = ((cfg0.win 9).xinj (grid0.coords t) y) 3 := by
    apply Fin.ext; show win0_9.index t (3 : Fin 4) * 2048 + 1 * (y 3).val = (y 3).val; omega
  show X ((cfg0.win 9).xinj (grid0.coords t) y) = T (((cfg0.win 9).blk t).view.emb y 0) (((cfg0.win 9).blk t).view.emb y 3)
  rw [hn]
  refine h _ _ ?_
  show win0_9.index t (0 : Fin 4) * 1 + 1 * (y 0).val = _; omega

theorem mem9 (i : S8x1x1x2048.Idx) : i ∈ ((cfg0.win 9).blk (point (i 0))).view.set := by
  obtain ⟨-, -, -, -, ⟨e0, e1, e2, e3⟩⟩ := places (point (i 0))
  have h1 : (i 1).val < 1 := (i 1).isLt
  have h2 : (i 2).val < 1 := (i 2).isLt
  have h3 : (i 3).val < 2048 := (i 3).isLt
  show i ∈ ((View.whole main_v2_4).slice (win0_9.rect (point (i 0)))).set
  rw [View.set_slice_whole, Rect.mem_set_unit]
  intro d
  dsimp only at e0
  match d with
  | ⟨0, _⟩ => show win0_9.index (point (i 0)) (0 : Fin 4) * 1 ≤ (i 0).val ∧ (i 0).val < win0_9.index (point (i 0)) (0 : Fin 4) * 1 + 1; omega
  | ⟨1, _⟩ => show win0_9.index (point (i 0)) (1 : Fin 4) * 1 ≤ (i 1).val ∧ (i 1).val < win0_9.index (point (i 0)) (1 : Fin 4) * 1 + 1; omega
  | ⟨2, _⟩ => show win0_9.index (point (i 0)) (2 : Fin 4) * 1 ≤ (i 2).val ∧ (i 2).val < win0_9.index (point (i 0)) (2 : Fin 4) * 1 + 1; omega
  | ⟨3, _⟩ => show win0_9.index (point (i 0)) (3 : Fin 4) * 2048 ≤ (i 3).val ∧ (i 3).val < win0_9.index (point (i 0)) (3 : Fin 4) * 2048 + 2048; omega

theorem final9 (c : Dev nD) : (dats m 0 c).arrAt 9 cfg0.N = means m c :=
  (dats m 0 c).arrAt_eq_of_cover 9 _
    (fun t _ => (flushed9 m c t).trans (read9 t _ (mean (qkv m c) (kgain m c)) fun z b hb =>
      (out9_apply _ _ _ _ _ z).trans (mean_row m c t _ b hb)))
    fun i : S8x1x1x2048.Idx => ⟨point (i 0), (flushes _).2.2.2.2, mem9 i⟩

/-- The launch's run, its results named. -/
theorem run (ρ : Dev nD → PrngReg) :
    θ_run defs (onTc (τ := τ) (main (F := Ideal))) ⟨m, fun _ => 0, ρ⟩ fun r => ∀ c : Dev nD,
      r.2.mem ((c : Thread nD τ).loc main_v2_0) = keys m c
      ∧ r.2.mem ((c : Thread nD τ).loc main_v2_1) = queries m c
      ∧ r.2.mem ((c : Thread nD τ).loc main_v2_2) = keys m c
      ∧ r.2.mem ((c : Thread nD τ).loc main_v2_3) = values m c
      ∧ r.2.mem ((c : Thread nD τ).loc main_v2_4) = means m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final5 m c), (h c).2.1.trans (final6 m c), (h c).2.2.1.trans (final7 m c),
    (h c).2.2.2.1.trans (final8 m c), (h c).2.2.2.2.1.trans (final9 m c), (h c).2.2.2.2.2⟩) (run_blocks m ρ)

end Cert.Kernel11Ideal.Heads

end
-- ==== Proof.QkSampleClaims.lean ====
/- The claims of the sample's query and key normalisation: frames from the generated proofs, and the value of the launch
   equal to the reference's, element by element. -/
module

public import proofs.«01_k».proof.Defs
public import proofs.«01_k».proof.Proof.QkSampleValue
public import proofs.«01_k».proof.Proof.Gen.Kernel11.Frame
public import proofs.«01_k».proof.Proof.Gen.Reference11Ideal.Run
public import Idealize.ShloMosaic.Lib.Claim

@[expose] public section

set_option maxRecDepth 8192

noncomputable section

namespace Cert.Proof.QkSampleClaims

open Idealize.ShloMosaic Idealize.ShloMosaic.TcCoe Idealize.ShloMosaic.StableHlo Idealize.SL.Sem
open scoped BigOperators

section Ref

open Cert.Reference11Ideal Cert.Reference11Ideal.Gen Cert.Kernel11Ideal.Heads
open Cert.Kernel8Ideal.Heads (normed col pos heads)

/-- One of the three parts of the input, its heads apart. -/
def partRef (x : FVec Ideal S8x4x6144 .f32) (o : Fin 5 → Nat) (h : S8x4x3x16x128.Slices o S8x4x1x16x128) : FVec Ideal S8x4x16x128 .f32 :=
  shapeCast _ (extractStridedSlice S8x4x1x16x128 o (shapeCast S8x4x3x16x128 x shapeCasts_S8x4x6144_S8x4x3x16x128) h) shapeCasts_S8x4x1x16x128_S8x4x16x128

/-- The heads normalised, -/
def normRef (y : FVec Ideal S8x4x16x128 .f32) (g : FVec Ideal S128 .f32) : FVec Ideal S8x4x16x128 .f32 :=
  mulf (mulf y (broadcastInDim S8x4x16x128 ![0, 1, 2, 3] bcast_S8x4x16x1_S8x4x16x128_0_1_2_3 (Host.rsqrt (addf (Host.divf (broadcastInDim S8x4x16x1 ![0, 1, 2] bcast_S8x4x16_S8x4x16x1_0_1_2 (Host.reduceAdd (mulf y y) (constant S_ .f32 0x00000000#32) reducesTo_S8x4x16x128_S8x4x16_d3 h_S_)) (broadcastInDim S8x4x16x1 ![] bcast_S_S8x4x16x1 (constant S_ .f32 0x43000000#32))) (broadcastInDim S8x4x16x1 ![] bcast_S_S8x4x16x1 (constant S_ .f32 0x358637BD#32)))))) (broadcastInDim S8x4x16x128 ![0, 1, 2, 3] bcast_S1x1x1x128_S8x4x16x128_0_1_2_3 (broadcastInDim S1x1x1x128 ![3] bcast_S128_S1x1x1x128_3 g))

theorem normRef_apply (y : FVec Ideal S8x4x16x128 .f32) (g : FVec Ideal S128 .f32) (b : Fin 8) (R : Fin 4) (h : Fin 16) (e : Fin 128) :
    normRef y g (ix4 b R h e) = normed (fun d => y (ix4 b R h d)) (fun d => g (ix1 d)) e := by
  pointwise [normRef, normed]

/-- and the heads put side by side again. -/
abbrev flat (y : FVec Ideal S8x4x16x128 .f32) : FVec Ideal S8x4x2048 .f32 :=
  shapeCast _ y shapeCasts_S8x4x16x128_S8x4x2048

theorem flat_apply (y : FVec Ideal S8x4x16x128 .f32) (b : Fin 8) (R : Fin 4) (n : Fin 2048) :
    flat y (ix3 b R n) = y (ix4 b R (⟨n.val / 128, by omega⟩ : Fin 16) (pos n)) := by
  pointwise [flat, pos]

theorem partRef_apply (x : FVec Ideal S8x4x6144 .f32) (s : Fin 3) (hs) (b : Fin 8) (R : Fin 4) (h : Fin 16) (e : Fin 128)
    (n : Fin 2048) (hn : n.val = 128 * h.val + e.val) :
    partRef x ![0, 0, s.val, 0, 0] hs (ix4 b R h e) = part x s b R n := by
  have e1 : partRef x ![0, 0, s.val, 0, 0] hs (ix4 b R h e) = x (ix3 b R (⟨s.val * 2048 + h.val * 128 + e.val, by omega⟩ : Fin 6144)) := by
    pointwise [partRef]
  rw [e1]
  exact part_of x _ s b R n rfl rfl (by show s.val * 2048 + h.val * 128 + e.val = _; omega)

/-- A normalised part as the reference writes it, element by element; -/
theorem norm_ref (x : FVec Ideal S8x4x6144 .f32) (g : FVec Ideal S128 .f32) (s : Fin 3) (hs) (b : Fin 8) (R : Fin 4) (n : Fin 2048) :
    flat (normRef (partRef x ![0, 0, s.val, 0, 0] hs) g) (ix3 b R n) = normal x g s b R n := by
  rw [flat_apply, normRef_apply]
  unfold normal heads
  congr 1
  funext d
  exact partRef_apply x s hs b R _ d (col n d) rfl

/-- the values; -/
theorem value_ref (x : FVec Ideal S8x4x6144 .f32) (hs) (b : Fin 8) (R : Fin 4) (n : Fin 2048) :
    flat (partRef x ![0, 0, 2, 0, 0] hs) (ix3 b R n) = part x 2 b R n := by
  rw [flat_apply]
  exact partRef_apply x 2 hs b R _ (pos n) n (by unfold pos; dsimp only; omega)

/-- and the sum of four rows `k` over 256. -/
def meanRef (k : FVec Ideal S8x4x2048 .f32) : FVec Ideal S8x1x1x2048 .f32 :=
  shapeCast _ (Host.divf (Host.reduceAdd k (constant S_ .f32 0x00000000#32) reducesTo_S8x4x2048_S8x2048_d1 h_S_) (broadcastInDim S8x2048 ![] bcast_S_S8x2048 (constant S_ .f32 0x43800000#32))) shapeCasts_S8x2048_S8x1x1x2048

theorem meanRef_apply (k : FVec Ideal S8x4x2048 .f32) (b : Fin 8) (r z : Fin 1) (n : Fin 2048) :
    meanRef k (ix4 b r z n) = Ideal.div (∑ a : Fin 4, k (ix3 b a n)) (Ideal.ofBits .f32 0x43800000#32) := by
  pointwise [meanRef]

theorem mean_ref (x : FVec Ideal S8x4x6144 .f32) (g : FVec Ideal S128 .f32) (hs) (b : Fin 8) (r z : Fin 1) (n : Fin 2048) :
    meanRef (flat (normRef (partRef x ![0, 0, 1, 0, 0] hs) g)) (ix4 b r z n) = mean x g b n := by
  rw [meanRef_apply]
  unfold mean
  congr 1
  exact Finset.sum_congr rfl fun a _ => norm_ref x g 1 hs b a n

end Ref

/-! ## Frames -/

theorem frame : Cert.quiescent_Kernel11 := fun m g _ => Cert.Kernel11.Gen.frame m g
theorem frame_ideal : Cert.quiescent_Kernel11Ideal := fun m g _ => Cert.Kernel11Ideal.Gen.frame m g
theorem frame_ref : Cert.quiescent_Reference11Ideal := fun m g _ =>
  (θ_run Cert.Reference11Ideal.defs _ _).mono (fun r h => ⟨fun c => (h c).2.2.2.2.2, sem_eq_zero_of_no_sems (by decide) r.2⟩)
    (Cert.Reference11Ideal.Value.run (F := Ideal) m g)

/-- THE SAMPLE'S NORMALISATION: the launch's five results are the reference's. -/
theorem value : Cert.algebraic_Kernel11Ideal_Reference11Ideal := by
  intro m g m' g' _ hagree
  refine ⟨fun c => Cert.Kernel11Ideal.Heads.keys m c, fun c => Cert.Kernel11Ideal.Heads.queries m c, fun c => Cert.Kernel11Ideal.Heads.keys m c,
    fun c => Cert.Kernel11Ideal.Heads.values m c, fun c => Cert.Kernel11Ideal.Heads.means m c, Cert.Kernel11Ideal.Heads.run m g, ?_⟩
  refine (θ_run Cert.Reference11Ideal.defs _ _).mono (fun r h c => ?_) (Cert.Reference11Ideal.Value.run (F := Ideal) m' g')
  obtain ⟨e0, e1, e2⟩ := hagree c
  obtain ⟨r0, r1, r2, r3, r4, kept⟩ := h c
  rw [e0, e2] at r0 r2 r4
  rw [e0, e1] at r1
  rw [e0] at r3
  refine ⟨r0.trans ?_, r1.trans ?_, r2.trans ?_, r3.trans ?_, r4.trans ?_, kept⟩
  · funext j
    rw [eq_ix3 j]
    exact norm_ref _ _ 1 _ _ _ _
  · funext j
    rw [eq_ix3 j]
    exact norm_ref _ _ 0 _ _ _ _
  · funext j
    rw [eq_ix3 j]
    exact norm_ref _ _ 1 _ _ _ _
  · funext j
    rw [eq_ix3 j]
    exact value_ref _ _ _ _ _
  · funext j
    rw [eq_ix4 j]
    exact mean_ref _ _ _ _ _ _ _

end Cert.Proof.QkSampleClaims

end
-- ==== Proof.Bucket.lean ====
/- The bucket of a relative position, and a table read by it, apart from the launch: a distance below 16 is its own bucket,
   a larger one falls into one of 16 buckets spaced by its logarithm; and a chain of selections over the buckets, or a
   gather at the bucket, reads the table's entry for it. -/
module

public import Idealize.ShloMosaic.Lib.Pointwise

@[expose] public section

noncomputable section

namespace Cert.Bucket

open Idealize.ShloMosaic

/-! ## The bucket -/

/-- The distance of a relative position, which is never negative. -/
def distance (rel : BitVec 32) : BitVec 32 := IntOp.maxsi rel 0#32

/-- Where the logarithm of a distance of at least 16 falls between the buckets 16 and 32. -/
def scaled (n : BitVec 32) : EReal :=
  Ideal.div (Ideal.log (Ideal.div (((IntOp.maxsi n 16#32).toInt : ℝ) : EReal) (Ideal.ofBits .f32 0x41800000#32)))
    (Ideal.ofBits .f32 0x40B17218#32) * Ideal.ofBits .f32 0x41800000#32

/-- The bucket of a distance. -/
def bucket (n : BitVec 32) : BitVec 32 :=
  Scalar.select (IntOp.cmpi .slt n 16#32) n (IntOp.minsi (IntOp.addi 16#32 (Ideal.fptosi 32 (scaled n))) 31#32)

/-- A signed comparison of two words, as of the numbers they stand for. -/
theorem slt_yes {a b : BitVec 32} (h : a.toInt < b.toInt) : IntOp.cmpi .slt a b = 1#1 := by
  show BitVec.ofBool (a.slt b) = 1#1
  rw [BitVec.slt_iff_toInt_lt.mpr h]
  rfl

theorem slt_no {a b : BitVec 32} (h : b.toInt ≤ a.toInt) : IntOp.cmpi .slt a b = 0#1 := by
  have e : a.slt b = false := by
    rw [Bool.eq_false_iff]
    intro hh
    rw [BitVec.slt_iff_toInt_lt] at hh
    omega
  show BitVec.ofBool (a.slt b) = 0#1
  rw [e]
  rfl

/-- The two constants of the logarithm's scale. -/
theorem sixteen : Ideal.ofBits .f32 0x41800000#32 = ((16 : ℝ) : EReal) := by
  simp [Ideal.ofBits, Ideal.ieee, -EReal.coe_mul]; norm_num

theorem range_log : ∃ r : ℝ, 1 ≤ r ∧ Ideal.ofBits .f32 0x40B17218#32 = (r : EReal) := by
  refine ⟨_, ?_, by simp [Ideal.ofBits, Ideal.ieee, -EReal.coe_mul]; rfl⟩
  norm_num

/-- A quotient of two numbers. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The scaled logarithm of a distance from 16 to 32768 is a number from 0 to 32768. -/
theorem scaled_bounds (n : BitVec 32) (h0 : 16 ≤ n.toInt) (h1 : n.toInt ≤ 32768) :
    ∃ v : ℝ, scaled n = (v : EReal) ∧ 0 ≤ v ∧ v ≤ 32768 := by
  obtain ⟨r, hr, er⟩ := range_log
  have hmax : IntOp.maxsi n 16#32 = n := by
    unfold IntOp.maxsi
    by_cases h : (16#32).slt n
    · rw [if_pos h]
    · rw [if_neg h]
      refine BitVec.eq_of_toInt_eq ?_
      rw [BitVec.slt_iff_toInt_lt] at h
      have : (16#32).toInt = 16 := rfl
      omega
  have hd : (1 : ℝ) ≤ (n.toInt : ℝ) / 16 := by
    have : (16 : ℝ) ≤ (n.toInt : ℝ) := by exact_mod_cast h0
    linarith
  have hl0 : 0 ≤ Real.log ((n.toInt : ℝ) / 16) := Real.log_nonneg hd
  have hl1 : Real.log ((n.toInt : ℝ) / 16) ≤ 2048 := by
    have h := Real.log_le_sub_one_of_pos (lt_of_lt_of_le one_pos hd)
    have : (n.toInt : ℝ) ≤ 32768 := by exact_mod_cast h1
    linarith
  refine ⟨Real.log ((n.toInt : ℝ) / 16) / r * 16, ?_, by positivity, ?_⟩
  · unfold scaled
    rw [hmax, sixteen, er, div_coe _ _ (by norm_num), Ideal.log_coe, if_neg (by linarith), div_coe _ _ (by linarith), ← EReal.coe_mul]
  · have : Real.log ((n.toInt : ℝ) / 16) / r ≤ Real.log ((n.toInt : ℝ) / 16) := div_le_self hl0 hr
    linarith

/-- A distance up to 32768 has one of the 32 buckets. -/
theorem bucket_bounds (n : BitVec 32) (h0 : 0 ≤ n.toInt) (h1 : n.toInt ≤ 32768) : 0 ≤ (bucket n).toInt ∧ (bucket n).toInt < 32 := by
  have h16 : (16#32).toInt = 16 := rfl
  have h31 : (31#32).toInt = 31 := rfl
  unfold bucket
  by_cases h : n.toInt < 16
  · rw [slt_yes (by omega)]
    show 0 ≤ n.toInt ∧ n.toInt < 32
    omega
  · rw [slt_no (by omega)]
    obtain ⟨v, ev, hv0, hv1⟩ := scaled_bounds n (by omega) h1
    have hf0 : 0 ≤ ⌊v⌋ := Int.floor_nonneg.mpr hv0
    have hf1 : ⌊v⌋ ≤ 32768 := Int.floor_le_iff.mpr (by push_cast; linarith)
    have ef : (Ideal.fptosi 32 (scaled n)).toInt = ⌊v⌋ := by
      rw [ev, Ideal.fptosi, Ideal.toIntClamped_coe, if_pos hv0, min_eq_right (by norm_num; omega), max_eq_right (by norm_num; omega),
        BitVec.toInt_ofInt]
      exact Int.bmod_eq_of_le (by norm_num; omega) (by norm_num; omega)
    have es : (IntOp.addi 16#32 (Ideal.fptosi 32 (scaled n))).toInt = 16 + ⌊v⌋ := by
      show (16#32 + Ideal.fptosi 32 (scaled n)).toInt = _
      rw [BitVec.toInt_add, ef, h16]
      exact Int.bmod_eq_of_le (by norm_num; omega) (by norm_num; omega)
    show 0 ≤ (IntOp.minsi (IntOp.addi 16#32 (Ideal.fptosi 32 (scaled n))) 31#32).toInt ∧ (IntOp.minsi (IntOp.addi 16#32 (Ideal.fptosi 32 (scaled n))) 31#32).toInt < 32
    unfold IntOp.minsi
    by_cases hs : (IntOp.addi 16#32 (Ideal.fptosi 32 (scaled n))).slt 31#32
    · rw [if_pos hs]
      have := BitVec.slt_iff_toInt_lt.mp hs
      omega
    · rw [if_neg hs]
      omega

/-! ## Reading a table by a chain of selections -/

/-- The selections of the entries 0 to `n`: the entry of the bucket, if it is among them. -/
def chain {α : Type} (f : ℕ → α) (b : BitVec 32) (z : α) : ℕ → α
  | 0 => z
  | n + 1 => Scalar.select (IntOp.cmpi .eq b (BitVec.ofNat 32 n)) (f n) (chain f b z n)

/-- A chain over more entries than the bucket's number reads the bucket's entry. -/
theorem chain_eq {α : Type} (f : ℕ → α) (b : BitVec 32) (z : α) : ∀ n : ℕ, n ≤ 2 ^ 32 → b.toNat < n → chain f b z n = f b.toNat
  | 0, _, h => absurd h (Nat.not_lt_zero _)
  | n + 1, hn, h => by
    unfold chain
    by_cases e : b.toNat = n
    · have hb : b = BitVec.ofNat 32 n := by rw [← e, BitVec.ofNat_toNat, BitVec.setWidth_eq]
      have hc : IntOp.cmpi .eq b (BitVec.ofNat 32 n) = 1#1 := by
        show BitVec.ofBool (b == BitVec.ofNat 32 n) = 1#1
        rw [beq_iff_eq.mpr hb]; rfl
      rw [hc, e]
      rfl
    · have hb : b ≠ BitVec.ofNat 32 n := fun hb => e (by rw [hb, BitVec.toNat_ofNat, Nat.mod_eq_of_lt (by omega)])
      have hc : IntOp.cmpi .eq b (BitVec.ofNat 32 n) = 0#1 := by
        show BitVec.ofBool (b == BitVec.ofNat 32 n) = 0#1
        rw [beq_eq_false_iff_ne.mpr hb]; rfl
      rw [hc]
      exact chain_eq f b z n (by omega) (by omega)

/-! ## Reading a table by a gather -/

/-- A gather of single entries of an operand `[N, M]` at the pairs that `[R, C, 2]` start indices name. -/
abbrev pairDims (N M R C : ℕ) (wf : GatherDims.WF ⟨2, ![N, M]⟩ ⟨3, ![R, C, 2]⟩ ⟨2, ![R, C]⟩ [] [0, 1] [] [0, 1] [] 2 ![1, 1]) :
    GatherDims ⟨2, ![N, M]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- Its element `(r, c)` is the operand at the pair, each coordinate read signed and clamped into its range. -/
theorem gather_pair {α : Type} {N M R C : ℕ} (hN : 0 < N) (hM : 0 < M)
    (wf : GatherDims.WF ⟨2, ![N, M]⟩ ⟨3, ![R, C, 2]⟩ ⟨2, ![R, C]⟩ [] [0, 1] [] [0, 1] [] 2 ![1, 1])
    (x : (⟨2, ![N, M]⟩ : Shape).Idx → α) (idx : IVec ⟨3, ![R, C, 2]⟩ 32) (r : Fin R) (c : Fin C) :
    Host.gather (pairDims N M R C wf) x idx (ix2 r c)
      = x (ix2 ⟨min (idx (ix3 r c 0)).toInt.toNat (N - 1), by omega⟩ ⟨min (idx (ix3 r c 1)).toInt.toNat (M - 1), by omega⟩) := by
  unfold Host.gather
  congr 1
  funext a
  refine Fin.ext ?_
  show (pairDims N M R C wf).start (ix2 r c) idx a + (pairDims N M R C wf).batchCoord (ix2 r c) a
    + (pairDims N M R C wf).offCoord (ix2 r c) a = _
  have hmem : a ∈ (pairDims N M R C wf).startIndexMap := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  match a with
  | ⟨0, _⟩ =>
    have hsi : (pairDims N M R C wf).siIdx (ix2 r c) ⟨List.idxOf (0 : Fin 2) (pairDims N M R C wf).startIndexMap,
        List.idxOf_lt_length_iff.2 hmem⟩ = ix3 r c 0 := by
      funext b; refine Fin.ext ?_
      match b with
      | ⟨0, _⟩ => rfl
      | ⟨1, _⟩ => rfl
      | ⟨2, _⟩ => rfl
    exact congrArg (fun z => min (idx z).toInt.toNat (N - 1)) hsi
  | ⟨1, _⟩ =>
    have hsi : (pairDims N M R C wf).siIdx (ix2 r c) ⟨List.idxOf (1 : Fin 2) (pairDims N M R C wf).startIndexMap,
        List.idxOf_lt_length_iff.2 hmem⟩ = ix3 r c 1 := by
      funext b; refine Fin.ext ?_
      match b with
      | ⟨0, _⟩ => rfl
      | ⟨1, _⟩ => rfl
      | ⟨2, _⟩ => rfl
    exact congrArg (fun z => min (idx z).toInt.toNat (M - 1)) hsi

/-- A gather of single entries of an operand `[N, M]` at the pairs that `[A, R, C, 2]` start indices name. -/
abbrev pairDims3 (N M A R C : ℕ) (wf : GatherDims.WF ⟨2, ![N, M]⟩ ⟨4, ![A, R, C, 2]⟩ ⟨3, ![A, R, C]⟩ [] [0, 1] [] [0, 1] [] 3 ![1, 1]) :
    GatherDims ⟨2, ![N, M]⟩ ⟨4, ![A, R, C, 2]⟩ ⟨3, ![A, R, C]⟩ where
  offsetDims := []
  collapsedSliceDims := [0, 1]
  operandBatchingDims := []
  startIndicesBatchingDims := []
  startIndexMap := [0, 1]
  indexVectorDim := 3
  sliceSizes := ![1, 1]
  wf := wf

/-- Its element `(a, r, c)` is the operand at the pair, each coordinate read signed and clamped into its range. -/
theorem gather_pair3 {α : Type} {N M A R C : ℕ} (hN : 0 < N) (hM : 0 < M)
    (wf : GatherDims.WF ⟨2, ![N, M]⟩ ⟨4, ![A, R, C, 2]⟩ ⟨3, ![A, R, C]⟩ [] [0, 1] [] [0, 1] [] 3 ![1, 1])
    (x : (⟨2, ![N, M]⟩ : Shape).Idx → α) (idx : IVec ⟨4, ![A, R, C, 2]⟩ 32) (a : Fin A) (r : Fin R) (c : Fin C) :
    Host.gather (pairDims3 N M A R C wf) x idx (ix3 a r c)
      = x (ix2 ⟨min (idx (ix4 a r c 0)).toInt.toNat (N - 1), by omega⟩ ⟨min (idx (ix4 a r c 1)).toInt.toNat (M - 1), by omega⟩) := by
  unfold Host.gather
  congr 1
  funext e
  refine Fin.ext ?_
  show (pairDims3 N M A R C wf).start (ix3 a r c) idx e + (pairDims3 N M A R C wf).batchCoord (ix3 a r c) e
    + (pairDims3 N M A R C wf).offCoord (ix3 a r c) e = _
  have hmem : e ∈ (pairDims3 N M A R C wf).startIndexMap := by
    match e with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  match e with
  | ⟨0, _⟩ =>
    have hsi : (pairDims3 N M A R C wf).siIdx (ix3 a r c) ⟨List.idxOf (0 : Fin 2) (pairDims3 N M A R C wf).startIndexMap,
        List.idxOf_lt_length_iff.2 hmem⟩ = ix4 a r c 0 := by
      funext b; refine Fin.ext ?_
      match b with
      | ⟨0, _⟩ => rfl
      | ⟨1, _⟩ => rfl
      | ⟨2, _⟩ => rfl
      | ⟨3, _⟩ => rfl
    exact congrArg (fun z => min (idx z).toInt.toNat (N - 1)) hsi
  | ⟨1, _⟩ =>
    have hsi : (pairDims3 N M A R C wf).siIdx (ix3 a r c) ⟨List.idxOf (1 : Fin 2) (pairDims3 N M A R C wf).startIndexMap,
        List.idxOf_lt_length_iff.2 hmem⟩ = ix4 a r c 1 := by
      funext b; refine Fin.ext ?_
      match b with
      | ⟨0, _⟩ => rfl
      | ⟨1, _⟩ => rfl
      | ⟨2, _⟩ => rfl
      | ⟨3, _⟩ => rfl
    exact congrArg (fun z => min (idx z).toInt.toNat (M - 1)) hsi

/-- The word of a small number stands for it. -/
theorem number (n : ℕ) (hn : n < 2 ^ 31) : (BitVec.ofNat 32 n).toInt = n := by
  rw [BitVec.toInt_eq_toNat_bmod, BitVec.toNat_ofNat, Nat.mod_eq_of_lt (by omega)]
  exact Int.bmod_eq_of_le (by norm_num) (by norm_num; omega)

/-- A start index that is not negative is read as it is. -/
theorem wrapped (b n : BitVec 32) (h : 0 ≤ b.toInt) :
    Scalar.select (IntOp.cmpi .slt b 0#32) (IntOp.addi b n) b = b := by
  rw [slt_no (a := b) (b := 0#32) h]
  rfl

/-! ## The relative positions of a table -/

/-- The bucket of a relative position, as a number. -/
def bucketOf (rel : BitVec 32) : ℕ := (bucket (distance rel)).toNat

/-- It is one of the 32 buckets, and its word is not negative. -/
theorem bucketOf_bounds (rel : BitVec 32) (h : rel.toInt ≤ 32768) :
    bucketOf rel < 32 ∧ (bucket (distance rel)).toInt = bucketOf rel := by
  have h0 : (0#32).toInt = 0 := rfl
  have hd : 0 ≤ (distance rel).toInt ∧ (distance rel).toInt ≤ 32768 := by
    unfold distance IntOp.maxsi
    by_cases hs : (0#32).slt rel
    · rw [if_pos hs]
      have := BitVec.slt_iff_toInt_lt.mp hs
      omega
    · rw [if_neg hs]
      omega
  obtain ⟨b0, b1⟩ := bucket_bounds _ hd.1 hd.2
  have e : (bucket (distance rel)).toInt = bucketOf rel := by
    refine BitVec.toInt_eq_toNat_of_msb ?_
    rw [BitVec.msb_eq_toInt]
    exact decide_eq_false (by omega)
  exact ⟨by omega, e⟩

/-- A difference of two small numbers. -/
theorem difference (a b : ℕ) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, number a (by omega), number b (by omega)]
  exact Int.bmod_eq_of_le (by norm_num; omega) (by norm_num; omega)

/-- The relative position of a column of the prompt's table. -/
def relative (l : ℕ) : BitVec 32 := IntOp.subi (BitVec.ofNat 32 l) 255#32

/-- The bucket of that column, and its bounds. -/
def columnBucket (l : ℕ) : ℕ := bucketOf (relative l)

theorem column_bounds (l : ℕ) (hl : l < 4352) : columnBucket l < 32 ∧ (bucket (distance (relative l))).toInt = columnBucket l :=
  bucketOf_bounds _ (by have := difference l 255 (by omega) (by norm_num); unfold relative; omega)

/-- The relative position of a column in a row of the sample's table: row `i` is the query at position `16384 + i`. -/
def relativeAt (i l : ℕ) : BitVec 32 := IntOp.subi (BitVec.ofNat 32 (16384 + i)) (BitVec.ofNat 32 l)

/-- The bucket at that row and column, and its bounds. -/
def rowBucket (i l : ℕ) : ℕ := bucketOf (relativeAt i l)

theorem row_bounds (i l : ℕ) (hi : i < 4) (hl : l < 16512) :
    rowBucket i l < 32 ∧ (bucket (distance (relativeAt i l))).toInt = rowBucket i l :=
  bucketOf_bounds _ (by have := difference (16384 + i) l (by omega) (by omega); unfold relativeAt; omega)

end Cert.Bucket

end
-- ==== Proof.BiasTableValue.lean ====
/- The value of the table of relative biases, at the ideal values: at a head and a column it holds the bias that the head
   gives to the bucket of the column's relative position. The launch has one point, which computes the buckets of all
   columns and selects each head's entry for each of them. -/
module

public import proofs.«01_k».proof.Proof.Gen.Kernel15Ideal.Value
public import proofs.«01_k».proof.Proof.Sweeps
public import proofs.«01_k».proof.Proof.Bucket

@[expose] public section

set_option maxRecDepth 8192

noncomputable section

namespace Cert.Kernel15Ideal.BiasTable

open Cert.Kernel15Ideal Cert.Kernel15Ideal.Gen Cert.Kernel15Ideal.Value Cert.Sweeps Cert.Bucket
open Idealize.ShloMosaic Idealize.ShloMosaic.TcCoe Idealize.SL.Sem

variable (m : (ℓ : Loc nD τ sig) → Buf (Elt Ideal) ℓ)

/-- The biases as an array, buckets by heads, and the block of them that the point sees, heads by buckets. -/
abbrev bias (c : Dev nD) : S32x16.Idx → EReal := m ((c : Thread nD τ).loc main_arg0)
abbrev blk (c : Dev nD) (t : Fin cfg0.N) : S16x32.Idx → EReal := iblk m c 0 t

/-- Every window is one block. -/
theorem indices : ∀ t : Fin cfg0.N,
    (win0_0.index t (0 : Fin 2) = 0 ∧ win0_0.index t (1 : Fin 2) = 0)
    ∧ (win0_1.index t (0 : Fin 3) = 0 ∧ win0_1.index t (1 : Fin 3) = 0 ∧ win0_1.index t (2 : Fin 3) = 0) :=
  (by decide +kernel : ∀ t : Fin grid0.N, _)

theorem flushes : ∀ t : Fin cfg0.N, (cfg0.win 1).flush t = true :=
  (by decide +kernel : ∀ t : Fin grid0.N, win0_1.flush t = true)

theorem transposed (w : FVec Ideal S32x16 .f32) (h : Fin 16) (k : Fin 32) :
    transpose S16x32 [1, 0] w transposes_S32x16_S16x32_1_0 (ix2 h k) = w (ix2 k h) := by
  pointwise []

theorem blk_eq (c : Dev nD) (t : Fin cfg0.N) (h : Fin 16) (k : Fin 32) : blk m c t (ix2 h k) = bias m c (ix2 k h) := by
  obtain ⟨⟨e0, e1⟩, -⟩ := indices t
  have e : V m c main_v0 = transpose S16x32 [1, 0] (m ((c : Thread nD τ).loc main_arg0)) transposes_S32x16_S16x32_1_0 := by
    unfold V hostOps0
    after_results
  refine (congrFun e _).trans ((congrArg _ (place _ h k ?_ ?_)).trans (transposed _ h k))
  · show win0_0.index t (0 : Fin 2) * 16 + 1 * h.val = h.val; omega
  · show win0_0.index t (1 : Fin 2) * 32 + 1 * k.val = k.val; omega

/-- A column's word, as the point computes it. -/
theorem column (l : ℕ) : IntOp.addi (Scalar.addi 4294967041#32 0#32) (IntOp.muli 1#32 (BitVec.ofNat 32 l)) = relative l := by
  show (4294967041#32 + 0#32) + 1#32 * BitVec.ofNat 32 l = BitVec.ofNat 32 l - 255#32
  rw [BitVec.one_mul, BitVec.sub_eq_add_neg, BitVec.add_comm]
  rfl

/-- The buckets the point computes. -/
theorem pay2_apply (i : grid0.Coords) (l : Fin 4352) :
    k0_pay2 (F := Ideal) i (ix2 (0 : Fin 1) l) = bucket (distance (relative l.val)) := by
  pointwise [k0_pay2]
  rw [column]
  rfl

/-- The block the point stores, -/
abbrev stored (c : Dev nD) (t : Fin cfg0.N) : S1x16x4352.Idx → EReal := out0_1 (F := Ideal) (grid0.coords t) (iblk m c 0 t)

/-- the selections it is made of, -/
theorem stored_chain (i : grid0.Coords) (x : Vec Ideal S16x32 .f32) (h : Fin 16) (l : Fin 4352) :
    out0_1 (F := Ideal) i x (ix3 (0 : Fin 1) h l)
      = chain (fun k => (x (ix2 h (Fin.ofNat 32 k)) : EReal)) (k0_pay2 (F := Ideal) i (ix2 (0 : Fin 1) l)) 0 32 := by
  unfold out0_1
  rw [View.canon_unit_zero zero_offsets3]
  unfold k0_pay18 k0_pay19
  rw [View.ld_unit_zero (S := S16x32) zero_offsets]
  pointwise [k0_pay1, k0_pay3, k0_pay4, k0_pay5, k0_pay6, k0_pay7, k0_pay8, k0_pay9, k0_pay10, k0_pay11, k0_pay12, k0_pay13,
    k0_pay14, k0_pay15, k0_pay16, k0_pay17]
  rfl

/-- and so its elements. -/
theorem stored_eq (c : Dev nD) (t : Fin cfg0.N) (h : Fin 16) (l : Fin 4352) :
    stored m c t (ix3 (0 : Fin 1) h l) = bias m c (ix2 (Fin.ofNat 32 (columnBucket l.val)) h) := by
  unfold stored
  rw [stored_chain, pay2_apply, chain_eq _ _ _ 32 (by norm_num) (column_bounds l.val l.isLt).1]
  exact blk_eq m c t h _

/-- The table the launch is to leave. -/
def table (c : Dev nD) : Buf (Elt Ideal) ((c : Thread nD τ).loc main_v1) :=
  fun i : S1x16x4352.Idx => bias m c (ix2 (Fin.ofNat 32 (columnBucket (i 2).val)) (i 1))

/-- What the point writes back is the table. -/
theorem flushed_eq (c : Dev nD) (t : Fin cfg0.N) :
    (dats m 0 c).flushed 1 t = ((cfg0.win 1).blk t).view.read (Elt Ideal) (table m c) := by
  rw [flushed1]
  obtain ⟨-, e0, e1, e2⟩ := indices t
  funext y
  rw [View.read_apply]
  have hy0 : (y 0).val < 1 := (y 0).isLt
  have hy1 : (y 1).val < 16 := (y 1).isLt
  have hy2 : (y 2).val < 4352 := (y 2).isLt
  have hx : (cfg0.win 1).xinj (grid0.coords t) y = ix3 (0 : Fin 1) (⟨(y 1).val, hy1⟩ : Fin 16) (⟨(y 2).val, hy2⟩ : Fin 4352) := by
    funext d
    match d with
    | ⟨0, _⟩ => refine Fin.ext ?_; show (y 0).val = 0; omega
    | ⟨1, _⟩ => rfl
    | ⟨2, _⟩ => rfl
  show stored m c t ((cfg0.win 1).xinj (grid0.coords t) y)
    = bias m c (ix2 (Fin.ofNat 32 (columnBucket (((cfg0.win 1).blk t).view.emb y 2).val)) (((cfg0.win 1).blk t).view.emb y 1))
  have h1 : ((cfg0.win 1).blk t).view.emb y 1 = (⟨(y 1).val, hy1⟩ : Fin 16) := by
    refine Fin.ext ?_; show win0_1.index t (1 : Fin 3) * 16 + 1 * (y 1).val = (y 1).val; omega
  have h2 : (((cfg0.win 1).blk t).view.emb y 2).val = (y 2).val := by
    show win0_1.index t (2 : Fin 3) * 4352 + 1 * (y 2).val = (y 2).val; omega
  rw [hx, stored_eq, h1, h2]

/-- Every place of the array is in the one block. -/
theorem covers (i : S1x16x4352.Idx) :
    ∃ t : Fin cfg0.N, (cfg0.win 1).flush t = true ∧ i ∈ ((cfg0.win 1).blk t).view.set := by
  have h0 : (i 0).val < 1 := (i 0).isLt
  have h1 : (i 1).val < 16 := (i 1).isLt
  have h2 : (i 2).val < 4352 := (i 2).isLt
  have hN : cfg0.N = 1 := N_0
  have hlt : 0 < cfg0.N := by omega
  obtain ⟨-, e0, e1, e2⟩ := indices ⟨0, hlt⟩
  refine ⟨⟨0, hlt⟩, flushes _, ?_⟩
  show i ∈ ((View.whole main_v1).slice (win0_1.rect ⟨0, hlt⟩)).set
  rw [View.set_slice_whole, Rect.mem_set_unit]
  intro d
  match d with
  | ⟨0, _⟩ => show win0_1.index _ (0 : Fin 3) * 1 ≤ (i 0).val ∧ (i 0).val < win0_1.index _ (0 : Fin 3) * 1 + 1; omega
  | ⟨1, _⟩ => show win0_1.index _ (1 : Fin 3) * 16 ≤ (i 1).val ∧ (i 1).val < win0_1.index _ (1 : Fin 3) * 16 + 16; omega
  | ⟨2, _⟩ => show win0_1.index _ (2 : Fin 3) * 4352 ≤ (i 2).val ∧ (i 2).val < win0_1.index _ (2 : Fin 3) * 4352 + 4352; omega

/-- THE RESULT ARRAY after the run is the table. -/
theorem final (c : Dev nD) : (dats m 0 c).arrAt 1 cfg0.N = table m c :=
  (dats m 0 c).arrAt_eq_of_cover 1 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v1) = table m c
      ∧ r.2.mem ((c : Thread nD τ).loc main_arg0) = m ((c : Thread nD τ).loc main_arg0) :=
  (θ_run defs _ _).mono (fun r h c => ⟨(h c).1.trans (final m c), (h c).2⟩) (run_blocks m ρ)

theorem result_apply (c : Dev nD) (a : Fin 1) (h : Fin 16) (l : Fin 4352) :
    table m c (ix3 a h l) = bias m c (ix2 (Fin.ofNat 32 (columnBucket l.val)) h) := rfl

end Cert.Kernel15Ideal.BiasTable

end
-- ==== Proof.BiasSampleValue.lean ====
/- The value of the table of relative biases as the sample calls for it, at the ideal values: at a row, a head and a column
   it holds the bias that the head gives to the bucket of the column's position relative to the row's query. The launch has
   a point for each of the four rows, which computes the buckets of all columns and selects each head's entry for each. -/
module

public import proofs.«01_k».proof.Proof.Gen.Kernel20Ideal.Value
public import proofs.«01_k».proof.Proof.Sweeps
public import proofs.«01_k».proof.Proof.Bucket

@[expose] public section

set_option maxRecDepth 8192

noncomputable section

namespace Cert.Kernel20Ideal.BiasTable

open Cert.Kernel20Ideal Cert.Kernel20Ideal.Gen Cert.Kernel20Ideal.Value Cert.Sweeps Cert.Bucket
open Idealize.ShloMosaic Idealize.ShloMosaic.TcCoe Idealize.SL.Sem

variable (m : (ℓ : Loc nD τ sig) → Buf (Elt Ideal) ℓ)

/-- The biases as an array, buckets by heads, and the block of them that the point sees, heads by buckets. -/
abbrev bias (c : Dev nD) : S32x16.Idx → EReal := m ((c : Thread nD τ).loc main_arg0)
abbrev blk (c : Dev nD) (t : Fin cfg0.N) : S16x32.Idx → EReal := iblk m c 0 t

/-- The biases are one block; each row of the result is one. -/
theorem indices : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0) :=
  (by decide +kernel : ∀ t : Fin grid0.N, _)

theorem flushes : ∀ t : Fin cfg0.N, (cfg0.win 1).flush t = true :=
  (by decide +kernel : ∀ t : Fin grid0.N, win0_1.flush t = true)

theorem transposed (w : FVec Ideal S32x16 .f32) (h : Fin 16) (k : Fin 32) :
    transpose S16x32 [1, 0] w transposes_S32x16_S16x32_1_0 (ix2 h k) = w (ix2 k h) := by
  pointwise []

theorem blk_eq (c : Dev nD) (t : Fin cfg0.N) (h : Fin 16) (k : Fin 32) : blk m c t (ix2 h k) = bias m c (ix2 k h) := by
  obtain ⟨⟨e0, e1⟩, -⟩ := indices t
  have e : V m c main_v0 = transpose S16x32 [1, 0] (m ((c : Thread nD τ).loc main_arg0)) transposes_S32x16_S16x32_1_0 := by
    unfold V hostOps0
    after_results
  refine (congrFun e _).trans ((congrArg _ (place _ h k ?_ ?_)).trans (transposed _ h k))
  · show win0_0.index t (0 : Fin 2) * 16 + 1 * h.val = h.val; omega
  · show win0_0.index t (1 : Fin 2) * 32 + 1 * k.val = k.val; omega

/-- A point's coordinate is its number. -/
theorem coordinate : ∀ t : Fin cfg0.N, ((grid0.coords t) 0).val = t.val :=
  (by decide +kernel : ∀ t : Fin grid0.N, _)

/-- A column's word, as the point computes it. -/
theorem column (i l : ℕ) : IntOp.addi (Scalar.addi 16384#32 (BitVec.ofNat 32 i)) (IntOp.muli 4294967295#32 (BitVec.ofNat 32 l))
    = relativeAt i l := by
  show (16384#32 + BitVec.ofNat 32 i) + (-1#32) * BitVec.ofNat 32 l = BitVec.ofNat 32 (16384 + i) - BitVec.ofNat 32 l
  rw [BitVec.ofNat_add, BitVec.neg_mul, BitVec.one_mul, BitVec.sub_eq_add_neg]

/-- The buckets the point computes. -/
theorem pay2_apply (i : grid0.Coords) (l : Fin 16512) :
    k0_pay2 (F := Ideal) i (ix2 (0 : Fin 1) l) = bucket (distance (relativeAt (i 0).val l.val)) := by
  pointwise [k0_pay2]
  rw [column]
  rfl

/-- The block the point stores, -/
abbrev stored (c : Dev nD) (t : Fin cfg0.N) : S1x16x16512.Idx → EReal := out0_1 (F := Ideal) (grid0.coords t) (iblk m c 0 t)

/-- the selections it is made of, -/
theorem stored_chain (i : grid0.Coords) (x : Vec Ideal S16x32 .f32) (h : Fin 16) (l : Fin 16512) :
    out0_1 (F := Ideal) i x (ix3 (0 : Fin 1) h l)
      = chain (fun k => (x (ix2 h (Fin.ofNat 32 k)) : EReal)) (k0_pay2 (F := Ideal) i (ix2 (0 : Fin 1) l)) 0 32 := by
  unfold out0_1
  rw [View.canon_unit_zero zero_offsets3]
  unfold k0_pay18 k0_pay19
  rw [View.ld_unit_zero (S := S16x32) zero_offsets]
  pointwise [k0_pay1, k0_pay3, k0_pay4, k0_pay5, k0_pay6, k0_pay7, k0_pay8, k0_pay9, k0_pay10, k0_pay11, k0_pay12, k0_pay13,
    k0_pay14, k0_pay15, k0_pay16, k0_pay17]
  rfl

/-- and so its elements. -/
theorem stored_eq (c : Dev nD) (t : Fin cfg0.N) (h : Fin 16) (l : Fin 16512) :
    stored m c t (ix3 (0 : Fin 1) h l) = bias m c (ix2 (Fin.ofNat 32 (rowBucket t.val l.val)) h) := by
  have ht : t.val < 4 := lt_of_lt_of_eq t.isLt N_0
  unfold stored
  rw [stored_chain, pay2_apply, coordinate t, chain_eq _ _ _ 32 (by norm_num) (row_bounds t.val l.val ht l.isLt).1]
  exact blk_eq m c t h _

/-- The table the launch is to leave. -/
def table (c : Dev nD) : Buf (Elt Ideal) ((c : Thread nD τ).loc main_v1) :=
  fun i : S4x16x16512.Idx => bias m c (ix2 (Fin.ofNat 32 (rowBucket (i 0).val (i 2).val)) (i 1))

/-- What a point writes back is its row of the table. -/
theorem flushed_eq (c : Dev nD) (t : Fin cfg0.N) :
    (dats m 0 c).flushed 1 t = ((cfg0.win 1).blk t).view.read (Elt Ideal) (table m c) := by
  rw [flushed1]
  obtain ⟨-, e0, e1, e2⟩ := indices t
  funext y
  rw [View.read_apply]
  have hy0 : (y 0).val < 1 := (y 0).isLt
  have hy1 : (y 1).val < 16 := (y 1).isLt
  have hy2 : (y 2).val < 16512 := (y 2).isLt
  have hx : (cfg0.win 1).xinj (grid0.coords t) y = ix3 (0 : Fin 1) (⟨(y 1).val, hy1⟩ : Fin 16) (⟨(y 2).val, hy2⟩ : Fin 16512) := by
    funext d
    match d with
    | ⟨0, _⟩ => refine Fin.ext ?_; show (y 0).val = 0; omega
    | ⟨1, _⟩ => rfl
    | ⟨2, _⟩ => rfl
  show stored m c t ((cfg0.win 1).xinj (grid0.coords t) y)
    = bias m c (ix2 (Fin.ofNat 32 (rowBucket (((cfg0.win 1).blk t).view.emb y 0).val (((cfg0.win 1).blk t).view.emb y 2).val)) (((cfg0.win 1).blk t).view.emb y 1))
  have h0 : (((cfg0.win 1).blk t).view.emb y 0).val = t.val := by
    show win0_1.index t (0 : Fin 3) * 1 + 1 * (y 0).val = t.val; omega
  have h1 : ((cfg0.win 1).blk t).view.emb y 1 = (⟨(y 1).val, hy1⟩ : Fin 16) := by
    refine Fin.ext ?_; show win0_1.index t (1 : Fin 3) * 16 + 1 * (y 1).val = (y 1).val; omega
  have h2 : (((cfg0.win 1).blk t).view.emb y 2).val = (y 2).val := by
    show win0_1.index t (2 : Fin 3) * 16512 + 1 * (y 2).val = (y 2).val; omega
  rw [hx, stored_eq, h0, h1, h2]

/-- Every place of the array is in the block of its row. -/
theorem covers (i : S4x16x16512.Idx) :
    ∃ t : Fin cfg0.N, (cfg0.win 1).flush t = true ∧ i ∈ ((cfg0.win 1).blk t).view.set := by
  have h0 : (i 0).val < 4 := (i 0).isLt
  have h1 : (i 1).val < 16 := (i 1).isLt
  have h2 : (i 2).val < 16512 := (i 2).isLt
  have hN : cfg0.N = 4 := N_0
  have hlt : (i 0).val < cfg0.N := by omega
  obtain ⟨-, e0, e1, e2⟩ := indices ⟨(i 0).val, hlt⟩
  dsimp only at e0
  refine ⟨⟨(i 0).val, hlt⟩, flushes _, ?_⟩
  show i ∈ ((View.whole main_v1).slice (win0_1.rect ⟨(i 0).val, hlt⟩)).set
  rw [View.set_slice_whole, Rect.mem_set_unit]
  intro d
  match d with
  | ⟨0, _⟩ => show win0_1.index _ (0 : Fin 3) * 1 ≤ (i 0).val ∧ (i 0).val < win0_1.index _ (0 : Fin 3) * 1 + 1; omega
  | ⟨1, _⟩ => show win0_1.index _ (1 : Fin 3) * 16 ≤ (i 1).val ∧ (i 1).val < win0_1.index _ (1 : Fin 3) * 16 + 16; omega
  | ⟨2, _⟩ => show win0_1.index _ (2 : Fin 3) * 16512 ≤ (i 2).val ∧ (i 2).val < win0_1.index _ (2 : Fin 3) * 16512 + 16512; omega

/-- THE RESULT ARRAY after the run is the table. -/
theorem final (c : Dev nD) : (dats m 0 c).arrAt 1 cfg0.N = table m c :=
  (dats m 0 c).arrAt_eq_of_cover 1 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v1) = table m c
      ∧ r.2.mem ((c : Thread nD τ).loc main_arg0) = m ((c : Thread nD τ).loc main_arg0) :=
  (θ_run defs _ _).mono (fun r h c => ⟨(h c).1.trans (final m c), (h c).2⟩) (run_blocks m ρ)

theorem result_apply (c : Dev nD) (a : Fin 4) (h : Fin 16) (l : Fin 16512) :
    table m c (ix3 a h l) = bias m c (ix2 (Fin.ofNat 32 (rowBucket a.val l.val)) h) := rfl

end Cert.Kernel20Ideal.BiasTable

end
-- ==== Proof.CastValue.lean ====
/- The value of the weight cast, at the ideal values: the result array holds layer 3 of the stacked weights. The grid walks
   4 row blocks by 4 column blocks, and each point stores one block of the layer in the narrower format. -/
module

public import proofs.«01_k».proof.Proof.Gen.Kernel16Ideal.Value
public import proofs.«01_k».proof.Proof.Sweeps

@[expose] public section

set_option maxRecDepth 8192

noncomputable section

namespace Cert.Kernel16Ideal.Cast

open Cert.Kernel16Ideal Cert.Kernel16Ideal.Gen Cert.Kernel16Ideal.Value Cert.Sweeps
open Idealize.ShloMosaic Idealize.ShloMosaic.TcCoe Idealize.SL.Sem

variable (m : (ℓ : Loc nD τ sig) → Buf (Elt Ideal) ℓ)

/-- The stacked weights as an array, and the block of them at a point. -/
abbrev wts (c : Dev nD) : S4x2048x8192.Idx → EReal := m ((c : Thread nD τ).loc main_arg0)
abbrev blk (c : Dev nD) (t : Fin cfg0.N) : S1x512x2048.Idx → EReal := iblk m c 0 t

/-- Point `t` reads and writes row block `t / 4` and column block `t % 4`, of layer 3. -/
theorem indices : ∀ t : Fin cfg0.N,
    (win0_0.index t (0 : Fin 3) = 3 ∧ win0_0.index t (1 : Fin 3) = t.val / 4 ∧ win0_0.index t (2 : Fin 3) = t.val % 4)
    ∧ (win0_1.index t (0 : Fin 2) = t.val / 4 ∧ win0_1.index t (1 : Fin 2) = t.val % 4) :=
  (by decide +kernel : ∀ t : Fin grid0.N, _)

theorem flushes : ∀ t : Fin cfg0.N, (cfg0.win 1).flush t = true :=
  (by decide +kernel : ∀ t : Fin grid0.N, win0_1.flush t = true)

theorem pay1_apply (w : Vec Ideal S1x512x2048 .f32) (a : Fin 512) (b : Fin 2048) :
    k0_pay1 w (ix2 a b) = (w (ix3 (0 : Fin 1) a b) : EReal) := by
  pointwise [k0_pay1]

theorem blk_eq (c : Dev nD) (t : Fin cfg0.N) (a : Fin 512) (b : Fin 2048) (R : Fin 2048) (C : Fin 8192)
    (hR : R.val = 512 * (t.val / 4) + a.val) (hC : C.val = 2048 * (t.val % 4) + b.val) :
    blk m c t (ix3 (0 : Fin 1) a b) = wts m c (ix3 (3 : Fin 4) R C) := by
  obtain ⟨⟨e0, e1, e2⟩, -⟩ := indices t
  refine (congrFun (V_main_arg0 m c) _).trans (congrArg (wts m c) ?_)
  funext d
  match d with
  | ⟨0, _⟩ => refine Fin.ext ?_; show win0_0.index t (0 : Fin 3) * 1 + 1 * 0 = 3; omega
  | ⟨1, _⟩ => refine Fin.ext ?_; show win0_0.index t (1 : Fin 3) * 512 + 1 * a.val = R.val; omega
  | ⟨2, _⟩ => refine Fin.ext ?_; show win0_0.index t (2 : Fin 3) * 2048 + 1 * b.val = C.val; omega

/-- Layer 3 of the weights as an array of its own. -/
def layer (c : Dev nD) : Buf (Elt Ideal) ((c : Thread nD τ).loc main_v0) :=
  fun i : S2048x8192.Idx => wts m c (ix3 (3 : Fin 4) (i 0) (i 1))

/-- The block a point stores, -/
abbrev stored (c : Dev nD) (t : Fin cfg0.N) : S512x2048.Idx → EReal := out0_1 (F := Ideal) (iblk m c 0 t)

/-- element by element. -/
theorem stored_eq (c : Dev nD) (t : Fin cfg0.N) (a : Fin 512) (b : Fin 2048) (R : Fin 2048) (C : Fin 8192)
    (hR : R.val = 512 * (t.val / 4) + a.val) (hC : C.val = 2048 * (t.val % 4) + b.val) :
    stored m c t (ix2 a b) = wts m c (ix3 (3 : Fin 4) R C) := by
  unfold stored out0_1
  rw [View.canon_unit_zero zero_offsets, View.ld_unit_zero (S := S1x512x2048) zero_offsets3, pay1_apply]
  exact blk_eq m c t a b R C hR hC

/-- What a point writes back is its block of the layer. -/
theorem flushed_eq (c : Dev nD) (t : Fin cfg0.N) :
    (dats m 0 c).flushed 1 t = ((cfg0.win 1).blk t).view.read (Elt Ideal) (layer m c) := by
  rw [flushed1]
  obtain ⟨-, e0, e1⟩ := indices t
  funext y
  rw [View.read_apply]
  have hy0 : (y 0).val < 512 := (y 0).isLt
  have hy1 : (y 1).val < 2048 := (y 1).isLt
  have hx : (cfg0.win 1).xinj (grid0.coords t) y = ix2 (⟨(y 0).val, hy0⟩ : Fin 512) (⟨(y 1).val, hy1⟩ : Fin 2048) := by
    funext d; match d with | ⟨0, _⟩ => rfl | ⟨1, _⟩ => rfl
  show stored m c t ((cfg0.win 1).xinj (grid0.coords t) y)
    = wts m c (ix3 (3 : Fin 4) (((cfg0.win 1).blk t).view.emb y 0) (((cfg0.win 1).blk t).view.emb y 1))
  rw [hx]
  refine stored_eq m c t _ _ _ _ ?_ ?_
  · show win0_1.index t (0 : Fin 2) * 512 + 1 * (y 0).val = _; dsimp only; omega
  · show win0_1.index t (1 : Fin 2) * 2048 + 1 * (y 1).val = _; dsimp only; omega

/-- A place is in a point's block when its coordinates are in the block's ranges. -/
theorem mem_block (t : Fin cfg0.N) (i : S2048x8192.Idx)
    (h0 : 512 * (t.val / 4) ≤ (i 0).val ∧ (i 0).val < 512 * (t.val / 4) + 512)
    (h1 : 2048 * (t.val % 4) ≤ (i 1).val ∧ (i 1).val < 2048 * (t.val % 4) + 2048) :
    i ∈ ((cfg0.win 1).blk t).view.set := by
  obtain ⟨-, e0, e1⟩ := indices t
  show i ∈ ((View.whole main_v0).slice (win0_1.rect t)).set
  rw [View.set_slice_whole, Rect.mem_set_unit]
  intro d
  match d with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- Every place of the array is in some point's block. -/
theorem covers (i : S2048x8192.Idx) :
    ∃ t : Fin cfg0.N, (cfg0.win 1).flush t = true ∧ i ∈ ((cfg0.win 1).blk t).view.set := by
  have h0 : (i 0).val < 2048 := (i 0).isLt
  have h1 : (i 1).val < 8192 := (i 1).isLt
  have hN : cfg0.N = 16 := N_0
  have hlt : 4 * ((i 0).val / 512) + (i 1).val / 2048 < cfg0.N := by omega
  exact ⟨⟨_, hlt⟩, flushes _, mem_block ⟨_, hlt⟩ i (by dsimp only; omega) (by dsimp only; omega)⟩

/-- THE RESULT ARRAY after the run is the layer. -/
theorem final (c : Dev nD) : (dats m 0 c).arrAt 1 cfg0.N = layer m c :=
  (dats m 0 c).arrAt_eq_of_cover 1 _ (fun t _ => flushed_eq m c t) (fun i => covers i)

/-- The launch's run, its result named. -/
theorem run (ρ : Dev nD → PrngReg) :
    θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0) :=
  (θ_run defs _ _).mono (fun r h c => ⟨(h c).1.trans (final m c), (h c).2⟩) (run_blocks m ρ)

theorem result_apply (c : Dev nD) (R : Fin 2048) (C : Fin 8192) : layer m c (ix2 R C) = wts m c (ix3 (3 : Fin 4) R C) := rfl

end Cert.Kernel16Ideal.Cast

end
-- ==== Proof.TableClaims.lean ====
/- The claims about the launches that only prepare arrays for others, the tables of relative biases, the prompt's and the
   sample's, and the cast of one layer's weights: each launch's frame, and its result beside the reference's. -/
module

public import proofs.«01_k».proof.Defs
public import proofs.«01_k».proof.Proof.Gen.Kernel15.Frame
public import proofs.«01_k».proof.Proof.Gen.Kernel16.Frame
public import proofs.«01_k».proof.Proof.Gen.Kernel20.Frame
public import proofs.«01_k».proof.Proof.BiasTableValue
public import proofs.«01_k».proof.Proof.BiasSampleValue
public import proofs.«01_k».proof.Proof.CastValue
public import proofs.«01_k».proof.Proof.Gen.Reference15Ideal.Run
public import proofs.«01_k».proof.Proof.Gen.Reference16Ideal.Run
public import proofs.«01_k».proof.Proof.Gen.Reference20Ideal.Run
public import Idealize.ShloMosaic.Lib.Claim

@[expose] public section

set_option maxRecDepth 8192

noncomputable section

namespace Cert.Proof.TableClaims

open Idealize.ShloMosaic Idealize.ShloMosaic.TcCoe Idealize.SL.Sem

/-! ## Frames -/

/-- Each launch ends with its arguments unchanged and every counter at zero. -/
theorem frame_bias : Cert.quiescent_Kernel15 := fun m g _ => Cert.Kernel15.Gen.frame m g
theorem frame_bias_ideal : Cert.quiescent_Kernel15Ideal := fun m g _ => Cert.Kernel15Ideal.Gen.frame m g
theorem frame_cast : Cert.quiescent_Kernel16 := fun m g _ => Cert.Kernel16.Gen.frame m g
theorem frame_cast_ideal : Cert.quiescent_Kernel16Ideal := fun m g _ => Cert.Kernel16Ideal.Gen.frame m g
theorem frame_bias_sample : Cert.quiescent_Kernel20 := fun m g _ => Cert.Kernel20.Gen.frame m g
theorem frame_bias_sample_ideal : Cert.quiescent_Kernel20Ideal := fun m g _ => Cert.Kernel20Ideal.Gen.frame m g

/-- And so does each reference, which has no counters. -/
theorem frame_bias_ref : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)
theorem frame_cast_ref : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)
theorem frame_bias_sample_ref : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-! ## Values -/

section BiasRef

open Cert.Reference15Ideal Cert.Reference15Ideal.Gen Cert.Bucket

/-- The buckets of the columns, as the reference writes them, -/
def bucketsRef : IVec S4352 32 :=
  select (cmpi .slt (maxsi (subi (iotaInDim S4352 32 0) (broadcastInDim S4352 ![] bcast_S_S4352 (constantI S_ 32 255#32))) (broadcastInDim S4352 ![] bcast_S_S4352 (constantI S_ 32 0#32))) (broadcastInDim S4352 ![] bcast_S_S4352 (constantI S_ 32 16#32))) (maxsi (subi (iotaInDim S4352 32 0) (broadcastInDim S4352 ![] bcast_S_S4352 (constantI S_ 32 255#32))) (broadcastInDim S4352 ![] bcast_S_S4352 (constantI S_ 32 0#32))) (minsi (addi (broadcastInDim S4352 ![] bcast_S_S4352 (constantI S_ 32 16#32)) (fptosi 32 (mulf (Host.divf (Host.log (Host.divf (sitofp .f32 (maxsi (maxsi (subi (iotaInDim S4352 32 0) (broadcastInDim S4352 ![] bcast_S_S4352 (constantI S_ 32 255#32))) (broadcastInDim S4352 ![] bcast_S_S4352 (constantI S_ 32 0#32))) (broadcastInDim S4352 ![] bcast_S_S4352 (constantI S_ 32 16#32)))) (broadcastInDim S4352 ![] bcast_S_S4352 (constant S_ .f32 0x41800000#32)))) (broadcastInDim S4352 ![] bcast_S_S4352 (constant S_ .f32 0x40B17218#32))) (broadcastInDim S4352 ![] bcast_S_S4352 (constant S_ .f32 0x41800000#32)) : FVec Ideal S4352 .f32))) (broadcastInDim S4352 ![] bcast_S_S4352 (constantI S_ 32 31#32)))

/-- element by element; -/
theorem bucketsRef_apply (l : Fin 4352) : bucketsRef (ix1 l) = bucket (distance (relative l.val)) := by
  unfold bucketsRef
  pointwise []
  rfl

/-- the pairs of a head and a bucket that the reference reads the biases at, -/
def pairsRef : IVec S16x4352x2 32 :=
  concatenate S16x4352x2 2 [⟨S16x4352x1, (broadcastInDim S16x4352x1 ![0, 1] bcast_S16x4352_S16x4352x1_0_1 (broadcastInDim S16x4352 ![0, 1] bcast_S16x1_S16x4352_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x4352x1, (broadcastInDim S16x4352x1 ![0, 1] bcast_S16x4352_S16x4352x1_0_1 (broadcastInDim S16x4352 ![0, 1] bcast_S1x4352_S16x4352_0_1 (select (cmpi .slt (broadcastInDim S1x4352 ![1] bcast_S4352_S1x4352_1 bucketsRef) (broadcastInDim S1x4352 ![] bcast_S_S1x4352 (constantI S_ 32 0#32))) (addi (broadcastInDim S1x4352 ![1] bcast_S4352_S1x4352_1 bucketsRef) (broadcastInDim S1x4352 ![] bcast_S_S1x4352 (constantI S_ 32 32#32))) (broadcastInDim S1x4352 ![1] bcast_S4352_S1x4352_1 bucketsRef))))⟩] concatenates_S16x4352x1_S16x4352x1_S16x4352x2_d2

theorem pairsRef_head (h : Fin 16) (l : Fin 4352) : (pairsRef (ix3 h l 0)).toInt = h.val := by
  unfold pairsRef
  pointwise []
  have e := number h.val (by omega)
  rw [wrapped _ _ (by omega), e]

theorem pairsRef_bucket (h : Fin 16) (l : Fin 4352) : (pairsRef (ix3 h l 1)).toInt = columnBucket l.val := by
  unfold pairsRef
  pointwise []
  have e := (column_bounds l.val l.isLt).2
  rw [bucketsRef_apply, wrapped _ _ (by omega), e]

/-- and the bias it reads. -/
theorem bias_ref (w : FVec Ideal S32x16 .f32) (a : Fin 1) (h : Fin 16) (l : Fin 4352) :
    broadcastInDim S1x16x4352 ![1, 2] bcast_S16x4352_S1x16x4352_1_2 (Host.gather gather_S16x32_S16x4352x2_S16x4352_n_01_n_n_01_2_11
        (transpose S16x32 [1, 0] w transposes_S32x16_S16x32_1_0) pairsRef) (ix3 a h l)
      = w (ix2 (Fin.ofNat 32 (columnBucket l.val)) h) := by
  have hb := (column_bounds l.val l.isLt).1
  pointwise []
  refine (gather_pair (by norm_num) (by norm_num) _ _ pairsRef h l).trans ?_
  simp only [pairsRef_head, pairsRef_bucket, Int.toNat_natCast]
  pointwise []
  refine congrArg w (congr (congrArg ix2 (Fin.ext ?_)) (Fin.ext ?_))
  · show min (columnBucket l.val) (32 - 1) = columnBucket l.val % 32
    omega
  · show min h.val (16 - 1) = h.val
    omega

end BiasRef

/-- THE TABLE OF RELATIVE BIASES: the launch's result is the reference's. -/
theorem bias : Cert.algebraic_Kernel15Ideal_Reference15Ideal := by
  intro m g m' g' _ hagree
  refine ⟨fun c => Cert.Kernel15Ideal.BiasTable.table m c, Cert.Kernel15Ideal.BiasTable.run m g, ?_⟩
  refine (θ_run Cert.Reference15Ideal.defs _ _).mono (fun r h c => ⟨(h c).1.trans ?_, (h c).2⟩)
    (Cert.Reference15Ideal.Value.run (F := Ideal) m' g')
  have e0 := hagree c
  funext j
  rw [eq_ix3 j]
  refine (bias_ref (m' ((c.tc : Thread Cert.Reference15Ideal.nD Cert.Reference15Ideal.τ).loc Cert.Reference15Ideal.main_arg0)) _ _ _).trans ?_
  refine Eq.trans ?_ (Cert.Kernel15Ideal.BiasTable.result_apply m c _ _ _).symm
  rw [e0]

section BiasSampleRef

open Cert.Reference20Ideal Cert.Reference20Ideal.Gen Cert.Bucket

/-- The relative positions of the sample's table, as the reference writes them, -/
def positionsSample : IVec S4x16512 32 :=
  subi (broadcastInDim S4x16512 ![0, 1] bcast_S4x1_S4x16512_0_1 (broadcastInDim S4x1 ![0] bcast_S4_S4x1_0 (addi (broadcastInDim S4 ![] bcast_S_S4 (constantI S_ 32 16384#32)) (iotaInDim S4 32 0)))) (broadcastInDim S4x16512 ![0, 1] bcast_S1x16512_S4x16512_0_1 (broadcastInDim S1x16512 ![1] bcast_S16512_S1x16512_1 (iotaInDim S16512 32 0)))

theorem positionsSample_apply (i : Fin 4) (l : Fin 16512) : positionsSample (ix2 i l) = relativeAt i.val l.val := by
  unfold positionsSample
  pointwise []
  unfold relativeAt
  rw [BitVec.ofNat_add]
  rfl

/-- their buckets, -/
def bucketsSample : IVec S4x16512 32 :=
  select (cmpi .slt (maxsi positionsSample (broadcastInDim S4x16512 ![] bcast_S_S4x16512 (constantI S_ 32 0#32))) (broadcastInDim S4x16512 ![] bcast_S_S4x16512 (constantI S_ 32 16#32))) (maxsi positionsSample (broadcastInDim S4x16512 ![] bcast_S_S4x16512 (constantI S_ 32 0#32))) (minsi (addi (broadcastInDim S4x16512 ![] bcast_S_S4x16512 (constantI S_ 32 16#32)) (fptosi 32 (mulf (Host.divf (Host.log (Host.divf (sitofp .f32 (maxsi (maxsi positionsSample (broadcastInDim S4x16512 ![] bcast_S_S4x16512 (constantI S_ 32 0#32))) (broadcastInDim S4x16512 ![] bcast_S_S4x16512 (constantI S_ 32 16#32)))) (broadcastInDim S4x16512 ![] bcast_S_S4x16512 (constant S_ .f32 0x41800000#32)))) (broadcastInDim S4x16512 ![] bcast_S_S4x16512 (constant S_ .f32 0x40B17218#32))) (broadcastInDim S4x16512 ![] bcast_S_S4x16512 (constant S_ .f32 0x41800000#32)) : FVec Ideal S4x16512 .f32))) (broadcastInDim S4x16512 ![] bcast_S_S4x16512 (constantI S_ 32 31#32)))

theorem bucketsSample_apply (i : Fin 4) (l : Fin 16512) : bucketsSample (ix2 i l) = bucket (distance (relativeAt i.val l.val)) := by
  rw [← positionsSample_apply]
  unfold bucketsSample
  pointwise []
  rfl

/-- the pairs of a head and a bucket that the reference reads the biases at, -/
def pairsSample : IVec S4x16x16512x2 32 :=
  concatenate S4x16x16512x2 3 [⟨S4x16x16512x1, (broadcastInDim S4x16x16512x1 ![0, 1, 2] bcast_S4x16x16512_S4x16x16512x1_0_1_2 (broadcastInDim S4x16x16512 ![1, 2] bcast_S16x1_S4x16x16512_1_2 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S4x16x16512x1, (broadcastInDim S4x16x16512x1 ![0, 1, 2] bcast_S4x16x16512_S4x16x16512x1_0_1_2 (broadcastInDim S4x16x16512 ![0, 1, 2] bcast_S4x1x16512_S4x16x16512_0_1_2 (select (cmpi .slt (broadcastInDim S4x1x16512 ![0, 2] bcast_S4x16512_S4x1x16512_0_2 bucketsSample) (broadcastInDim S4x1x16512 ![] bcast_S_S4x1x16512 (constantI S_ 32 0#32))) (addi (broadcastInDim S4x1x16512 ![0, 2] bcast_S4x16512_S4x1x16512_0_2 bucketsSample) (broadcastInDim S4x1x16512 ![] bcast_S_S4x1x16512 (constantI S_ 32 32#32))) (broadcastInDim S4x1x16512 ![0, 2] bcast_S4x16512_S4x1x16512_0_2 bucketsSample))))⟩] concatenates_S4x16x16512x1_S4x16x16512x1_S4x16x16512x2_d3

theorem pairsSample_head (i : Fin 4) (h : Fin 16) (l : Fin 16512) : (pairsSample (ix4 i h l 0)).toInt = h.val := by
  unfold pairsSample
  pointwise []
  have e := number h.val (by omega)
  rw [wrapped _ _ (by omega), e]

theorem pairsSample_bucket (i : Fin 4) (h : Fin 16) (l : Fin 16512) : (pairsSample (ix4 i h l 1)).toInt = rowBucket i.val l.val := by
  unfold pairsSample
  pointwise []
  have e := (row_bounds i.val l.val i.isLt l.isLt).2
  rw [bucketsSample_apply, wrapped _ _ (by omega), e]

/-- and the bias it reads. -/
theorem bias_sample_ref (w : FVec Ideal S32x16 .f32) (i : Fin 4) (h : Fin 16) (l : Fin 16512) :
    Host.gather gather_S16x32_S4x16x16512x2_S4x16x16512_n_01_n_n_01_3_11
        (transpose S16x32 [1, 0] w transposes_S32x16_S16x32_1_0) pairsSample (ix3 i h l)
      = w (ix2 (Fin.ofNat 32 (rowBucket i.val l.val)) h) := by
  have hb := (row_bounds i.val l.val i.isLt l.isLt).1
  refine (gather_pair3 (by norm_num) (by norm_num) _ _ pairsSample i h l).trans ?_
  simp only [pairsSample_head, pairsSample_bucket, Int.toNat_natCast]
  pointwise []
  refine congrArg w (congr (congrArg ix2 (Fin.ext ?_)) (Fin.ext ?_))
  · show min (rowBucket i.val l.val) (32 - 1) = rowBucket i.val l.val % 32
    omega
  · show min h.val (16 - 1) = h.val
    omega

end BiasSampleRef

/-- THE SAMPLE'S TABLE OF RELATIVE BIASES: the launch's result is the reference's. -/
theorem bias_sample : Cert.algebraic_Kernel20Ideal_Reference20Ideal := by
  intro m g m' g' _ hagree
  refine ⟨fun c => Cert.Kernel20Ideal.BiasTable.table m c, Cert.Kernel20Ideal.BiasTable.run m g, ?_⟩
  refine (θ_run Cert.Reference20Ideal.defs _ _).mono (fun r h c => ⟨(h c).1.trans ?_, (h c).2⟩)
    (Cert.Reference20Ideal.Value.run (F := Ideal) m' g')
  have e0 := hagree c
  funext j
  rw [eq_ix3 j]
  refine (bias_sample_ref (m' ((c.tc : Thread Cert.Reference20Ideal.nD Cert.Reference20Ideal.τ).loc Cert.Reference20Ideal.main_arg0)) _ _ _).trans ?_
  refine Eq.trans ?_ (Cert.Kernel20Ideal.BiasTable.result_apply m c _ _ _).symm
  rw [e0]

/-- A layer of the stacked weights as the reference writes it, element by element. -/
theorem cast_ref (w : FVec Ideal Cert.Reference16Ideal.S4x2048x8192 .f32) (R : Fin 2048) (C : Fin 8192) :
    (truncf .bf16 (shapeCast Cert.Reference16Ideal.S2048x8192 (extractStridedSlice Cert.Reference16Ideal.S1x2048x8192 ![3, 0, 0] w
        Cert.Reference16Ideal.Gen.slices_S4x2048x8192_S1x2048x8192_3_0_0) Cert.Reference16Ideal.Gen.shapeCasts_S1x2048x8192_S2048x8192)
        Cert.Reference16Ideal.Gen.bitsLt_bf16_f32 : FVec Ideal Cert.Reference16Ideal.S2048x8192 .bf16) (ix2 R C)
      = w (ix3 (3 : Fin 4) R C) := by
  pointwise []

/-- THE CAST WEIGHTS: the launch's result is the reference's. -/
theorem cast : Cert.algebraic_Kernel16Ideal_Reference16Ideal := by
  intro m g m' g' _ hagree
  refine ⟨fun c => Cert.Kernel16Ideal.Cast.layer m c, Cert.Kernel16Ideal.Cast.run m g, ?_⟩
  refine (θ_run Cert.Reference16Ideal.defs _ _).mono (fun r h c => ⟨(h c).1.trans ?_, (h c).2⟩)
    (Cert.Reference16Ideal.Value.run (F := Ideal) m' g')
  have e0 := hagree c
  funext j
  rw [eq_ix2 j]
  refine Eq.trans ?_ (Cert.Kernel16Ideal.Cast.result_apply m c _ _).symm
  rw [e0]
  exact cast_ref _ _ _

end Cert.Proof.TableClaims

end
-- ==== Proof.PageTable.lean ====
/- The table of pages that the launch of the block means of the keys prefetches: where the precondition says that every entry
   names a page of the pool, every block that the launch asks for lies inside the pool. -/
module

public import proofs.«01_k».proof.Defs
public import proofs.«01_k».proof.Proof.Gen.Kernel17.Frame
public import proofs.«01_k».proof.Proof.Gen.Kernel17Ideal.Frame
public import proofs.«01_k».proof.Proof.Gen.Pre_pages_of_pool
public import proofs.«01_k».proof.Proof.Bucket
public import Idealize.ShloMosaic.Lib.ReduceAll

@[expose] public section

set_option maxRecDepth 16384

noncomputable section

namespace Cert.PageTable

open Idealize.ShloMosaic Idealize.ShloMosaic.TcCoe Idealize.SL.Sem

/-- A word that is at least 0 and below 1280 is the number of a page. -/
theorem page_number (b : BitVec 32) (h0 : 0 ≤ b.toInt) (h1 : b.toInt < 1280) : b.toInt = b.toNat ∧ b.toNat < 1280 := by
  have e : b.toInt = b.toNat := by
    refine BitVec.toInt_eq_toNat_of_msb ?_
    rw [BitVec.msb_eq_toInt]
    exact decide_eq_false (by omega)
  exact ⟨e, by omega⟩

instance : Subsingleton Cert.Pre_pages_of_pool.S_.Idx := ⟨fun a b => funext fun x => x.elim0⟩

/-- Under the precondition every entry of the table is one. -/
theorem entry {F : FTy → Type} [FloatOps F] (k : Vec F ⟨5, ![2, 1280, 128, 16, 128]⟩ .f32) (pt : IVec ⟨2, ![8, 128]⟩ 32)
    (h : Cert.Pre_pages_of_pool.fn (F := F) k pt = fun _ => 1#1) (i : Shape.Idx ⟨2, ![8, 128]⟩) :
    (pt i).toInt = (pt i).toNat ∧ (pt i).toNat < 1280 := by
  have e := congrFun h (fun x => x.elim0)
  have q := Host.reduce_andi_all _ _ _ _ _ e i
  obtain ⟨a, b⟩ := IntOp.andi_eq_one.1 q
  exact page_number _ (IntOp.cmpi_sge.1 a) (IntOp.cmpi_slt.1 b)

/-- The table as one row: its entry n is the entry (n / 128, n % 128). -/
theorem row_apply {α : Type} (pt : Shape.Idx ⟨2, ![8, 128]⟩ → α) (h : Shape.ShapeCasts ⟨2, ![8, 128]⟩ ⟨1, ![1024]⟩) (i : Fin 8) (j : Fin 128)
    (n : Fin 1024) (hn : n.val = 128 * i.val + j.val) : shapeCast ⟨1, ![1024]⟩ pt h (ix1 n) = pt (ix2 i j) := by
  refine shapeCast_apply pt h _ _ ?_
  rw [Shape.rowMajor_val_two, Shape.rowMajor_val_one]
  show i.val * 128 + j.val = n.val
  omega

/-- The entries that the four parts of a step read. -/
theorem slot_lt (i : Fin 8) (n : Fin 32) (r : Fin 4) : 128 * i.val + 4 * n.val + r.val < 1024 := by omega

theorem slot_lt' (n : Fin 32) (r : Fin 4) : 4 * n.val + r.val < 128 := by omega

end Cert.PageTable

/-! ## The launch over the extended reals -/

namespace Cert.Kernel17Ideal.PageTable

open Cert.Kernel17Ideal Cert.Kernel17Ideal.Gen Cert.PageTable
open Idealize.ShloMosaic Idealize.ShloMosaic.TcCoe Idealize.SL.Sem

variable {F : FTy → Type} [FloatOps F] (m : (ℓ : Loc nD τ sig) → Buf (Elt F) ℓ)

/-- The table that the launch prefetches is the argument as one row. -/
theorem V_table (c : Dev nD) : V m c main_v0 = shapeCast S1024 (m (c.tc.loc main_arg1)) shapeCasts_S8x128_S1024 := by
  unfold V hostOps0
  after_results
  rfl

/-- The page that part r of the step (i, n) reads. -/
def page (pt : IVec S8x128 32) (i : grid0.Coords) (r : Fin 4) : BitVec 32 := pt (ix2 (i 0 : Fin 8) ⟨4 * (i 1).val + r.val, slot_lt' (i 1) r⟩)

/-- The word of the row that the part reads is that page. -/
theorem word (i : grid0.Coords) (r : Fin 4) (off : Fin 1 → ℕ) (h : ∀ a, off a + S1.size a ≤ S1024.size a)
    (ho : off 0 = 128 * (i 0).val + 4 * (i 1).val + r.val) :
    Pipeline.Prefetch.Contents.at (tbl m) 0 (Rect.unit (s := S1024) off S1.size h) numel1_S1
      = page (m (((0 : Dev nD).tc).loc main_arg1)) i r := by
  show V m 0 main_v0 _ = _
  rw [V_table m 0]
  refine Eq.trans (congrArg _ ?_) (row_apply _ _ (i 0 : Fin 8) ⟨4 * (i 1).val + r.val, slot_lt' (i 1) r⟩ ⟨128 * (i 0).val + 4 * (i 1).val + r.val, slot_lt (i 0) (i 1) r⟩
    (Nat.add_assoc _ _ _))
  refine funext fun a => Fin.ext ?_
  fin_cases a
  show off 0 + _ = _
  rw [ho]
  rfl

theorem transform_0 (i : grid0.Coords) : cc0_transform_0 k0_off1_inb numel1_S1 (tbl m) i
    = ![1, (page (m (((0 : Dev nD).tc).loc main_arg1)) i 0).toNat, 0, 0, 0] :=
  congrArg (fun w : BitVec 32 => (![1, w.toNat, 0, 0, 0] : Fin 5 → ℕ)) (word m i 0 _ (k0_off1_inb i 0) (congrFun (k0_off1_eq i 0) 0))

theorem transform_1 (i : grid0.Coords) : cc0_transform_1 k0_off1_inb numel1_S1 (tbl m) i
    = ![1, (page (m (((0 : Dev nD).tc).loc main_arg1)) i 1).toNat, 0, 0, 0] :=
  congrArg (fun w : BitVec 32 => (![1, w.toNat, 0, 0, 0] : Fin 5 → ℕ)) (word m i 1 _ (k0_off1_inb i 1) (congrFun (k0_off1_eq i 1) 0))

theorem transform_2 (i : grid0.Coords) : cc0_transform_2 k0_off1_inb numel1_S1 (tbl m) i
    = ![1, (page (m (((0 : Dev nD).tc).loc main_arg1)) i 2).toNat, 0, 0, 0] :=
  congrArg (fun w : BitVec 32 => (![1, w.toNat, 0, 0, 0] : Fin 5 → ℕ)) (word m i 2 _ (k0_off1_inb i 2) (congrFun (k0_off1_eq i 2) 0))

theorem transform_3 (i : grid0.Coords) : cc0_transform_3 k0_off1_inb numel1_S1 (tbl m) i
    = ![1, (page (m (((0 : Dev nD).tc).loc main_arg1)) i 3).toNat, 0, 0, 0] :=
  congrArg (fun w : BitVec 32 => (![1, w.toNat, 0, 0, 0] : Fin 5 → ℕ)) (word m i 3 _ (k0_off1_inb i 3) (congrFun (k0_off1_eq i 3) 0))

/-- A page of the second layer lies inside the pool. -/
theorem inside (p : ℕ) (hp : p < 1280) (a : Fin 5) :
    ((![1, p, 0, 0, 0] : Fin 5 → ℕ) a + 1) * S1x1x128x16x128.size a ≤ S2x1280x128x16x128.size a := by
  fin_cases a
  · show (1 + 1) * 1 ≤ 2
    norm_num
  · show (p + 1) * 1 ≤ 1280
    omega
  · show (0 + 1) * 128 ≤ 128
    norm_num
  · show (0 + 1) * 16 ≤ 16
    norm_num
  · show (0 + 1) * 128 ≤ 128
    norm_num

/-- So every block that the launch asks for does. -/
theorem ok (h : ∀ i, (m (((0 : Dev nD).tc).loc main_arg1) i).toNat < 1280) : Ok m :=
  ⟨fun i => ⟨fun a => by rw [transform_0 m i]; exact inside _ (h _) a, .inl rfl⟩,
   fun i => ⟨fun a => by rw [transform_1 m i]; exact inside _ (h _) a, .inl rfl⟩,
   fun i => ⟨fun a => by rw [transform_2 m i]; exact inside _ (h _) a, .inl rfl⟩,
   fun i => ⟨fun a => by rw [transform_3 m i]; exact inside _ (h _) a, .inl rfl⟩⟩

end Cert.Kernel17Ideal.PageTable

/-! ## The launch over machine floats -/

namespace Cert.Kernel17.PageTable

open Cert.Kernel17 Cert.Kernel17.Gen Cert.PageTable
open Idealize.ShloMosaic Idealize.ShloMosaic.TcCoe Idealize.SL.Sem

variable {F : FTy → Type} [FloatOps F] (m : (ℓ : Loc nD τ sig) → Buf (Elt F) ℓ)

/-- The table that the launch prefetches is the argument as one row. -/
theorem V_table (c : Dev nD) : V m c main_v0 = shapeCast S1024 (m (c.tc.loc main_arg1)) shapeCasts_S8x128_S1024 := by
  unfold V hostOps0
  after_results
  rfl

/-- The page that part r of the step (i, n) reads. -/
def page (pt : IVec S8x128 32) (i : grid0.Coords) (r : Fin 4) : BitVec 32 := pt (ix2 (i 0 : Fin 8) ⟨4 * (i 1).val + r.val, slot_lt' (i 1) r⟩)

/-- The word of the row that the part reads is that page. -/
theorem word (i : grid0.Coords) (r : Fin 4) (off : Fin 1 → ℕ) (h : ∀ a, off a + S1.size a ≤ S1024.size a)
    (ho : off 0 = 128 * (i 0).val + 4 * (i 1).val + r.val) :
    Pipeline.Prefetch.Contents.at (tbl m) 0 (Rect.unit (s := S1024) off S1.size h) numel1_S1
      = page (m (((0 : Dev nD).tc).loc main_arg1)) i r := by
  show V m 0 main_v0 _ = _
  rw [V_table m 0]
  refine Eq.trans (congrArg _ ?_) (row_apply _ _ (i 0 : Fin 8) ⟨4 * (i 1).val + r.val, slot_lt' (i 1) r⟩ ⟨128 * (i 0).val + 4 * (i 1).val + r.val, slot_lt (i 0) (i 1) r⟩
    (Nat.add_assoc _ _ _))
  refine funext fun a => Fin.ext ?_
  fin_cases a
  show off 0 + _ = _
  rw [ho]
  rfl

theorem transform_0 (i : grid0.Coords) : cc0_transform_0 k0_off1_inb numel1_S1 (tbl m) i
    = ![1, (page (m (((0 : Dev nD).tc).loc main_arg1)) i 0).toNat, 0, 0, 0] :=
  congrArg (fun w : BitVec 32 => (![1, w.toNat, 0, 0, 0] : Fin 5 → ℕ)) (word m i 0 _ (k0_off1_inb i 0) (congrFun (k0_off1_eq i 0) 0))

theorem transform_1 (i : grid0.Coords) : cc0_transform_1 k0_off1_inb numel1_S1 (tbl m) i
    = ![1, (page (m (((0 : Dev nD).tc).loc main_arg1)) i 1).toNat, 0, 0, 0] :=
  congrArg (fun w : BitVec 32 => (![1, w.toNat, 0, 0, 0] : Fin 5 → ℕ)) (word m i 1 _ (k0_off1_inb i 1) (congrFun (k0_off1_eq i 1) 0))

theorem transform_2 (i : grid0.Coords) : cc0_transform_2 k0_off1_inb numel1_S1 (tbl m) i
    = ![1, (page (m (((0 : Dev nD).tc).loc main_arg1)) i 2).toNat, 0, 0, 0] :=
  congrArg (fun w : BitVec 32 => (![1, w.toNat, 0, 0, 0] : Fin 5 → ℕ)) (word m i 2 _ (k0_off1_inb i 2) (congrFun (k0_off1_eq i 2) 0))

theorem transform_3 (i : grid0.Coords) : cc0_transform_3 k0_off1_inb numel1_S1 (tbl m) i
    = ![1, (page (m (((0 : Dev nD).tc).loc main_arg1)) i 3).toNat, 0, 0, 0] :=
  congrArg (fun w : BitVec 32 => (![1, w.toNat, 0, 0, 0] : Fin 5 → ℕ)) (word m i 3 _ (k0_off1_inb i 3) (congrFun (k0_off1_eq i 3) 0))

/-- A page of the second layer lies inside the pool. -/
theorem inside (p : ℕ) (hp : p < 1280) (a : Fin 5) :
    ((![1, p, 0, 0, 0] : Fin 5 → ℕ) a + 1) * S1x1x128x16x128.size a ≤ S2x1280x128x16x128.size a := by
  fin_cases a
  · show (1 + 1) * 1 ≤ 2
    norm_num
  · show (p + 1) * 1 ≤ 1280
    omega
  · show (0 + 1) * 128 ≤ 128
    norm_num
  · show (0 + 1) * 16 ≤ 16
    norm_num
  · show (0 + 1) * 128 ≤ 128
    norm_num

/-- So every block that the launch asks for does. -/
theorem ok (h : ∀ i, (m (((0 : Dev nD).tc).loc main_arg1) i).toNat < 1280) : Ok m :=
  ⟨fun i => ⟨fun a => by rw [transform_0 m i]; exact inside _ (h _) a, .inl rfl⟩,
   fun i => ⟨fun a => by rw [transform_1 m i]; exact inside _ (h _) a, .inl rfl⟩,
   fun i => ⟨fun a => by rw [transform_2 m i]; exact inside _ (h _) a, .inl rfl⟩,
   fun i => ⟨fun a => by rw [transform_3 m i]; exact inside _ (h _) a, .inl rfl⟩⟩

end Cert.Kernel17.PageTable
-- ==== Proof.PageMeansBlocks.lean ====
/- What one point of the block means leaves in its block, at the ideal values: two rows, each the mean of two pages. -/
module

public import proofs.«01_k».proof.Proof.PageTable
public import proofs.«01_k».proof.Proof.Sweeps
public import Idealize.ShloMosaic.Lib.Pipeline.ValueKit.Tiles

@[expose] public section

set_option maxRecDepth 8192

noncomputable section

namespace Cert.Kernel17Ideal.PageMeans

open Cert.Kernel17Ideal Cert.Kernel17Ideal.Gen Cert.Sweeps
open Idealize.ShloMosaic Idealize.ShloMosaic.TcCoe Idealize.SL.Sem
open scoped BigOperators

/-- The mean of two pages of 128 rows each. -/
def pairMean (p q : Fin 128 → EReal) : EReal := Ideal.div ((∑ r : Fin 128, p r) + ∑ r : Fin 128, q r) (Ideal.ofBits .f32 0x43800000#32)

theorem offsets5 : (![0, 0, 0, 0, 0] : Fin 5 → ℕ) = fun _ => 0 := by
  funext a
  fin_cases a <;> rfl

theorem first_apply (p q : Vec Ideal S1x1x128x16x128 .f32) (g : Fin 16) (d : Fin 128) :
    k0_pay2 p q (ix4 (0 : Fin 1) (0 : Fin 1) g d)
      = pairMean (fun r => p (ix5 (0 : Fin 1) (0 : Fin 1) r g d)) (fun r => q (ix5 (0 : Fin 1) (0 : Fin 1) r g d)) := by
  unfold pairMean
  pointwise [k0_pay2]

theorem second_apply (p q : Vec Ideal S1x1x128x16x128 .f32) (g : Fin 16) (d : Fin 128) :
    k0_pay1 (k0_pay3 p q) (ix4 (0 : Fin 1) (0 : Fin 1) g d)
      = pairMean (fun r => p (ix5 (0 : Fin 1) (0 : Fin 1) r g d)) (fun r => q (ix5 (0 : Fin 1) (0 : Fin 1) r g d)) := by
  unfold pairMean
  pointwise [k0_pay1, k0_pay3]

/-- An index of a stored row. -/
theorem row_index (z : S1x1x16x128.Idx) : z = ix4 (0 : Fin 1) (0 : Fin 1) (z 2) (z 3) := by
  funext d
  match d with
  | ⟨0, _⟩ => exact Subsingleton.elim (α := Fin 1) _ _
  | ⟨1, _⟩ => exact Subsingleton.elim (α := Fin 1) _ _
  | ⟨2, _⟩ => rfl
  | ⟨3, _⟩ => rfl

/-- A stored row, at the element of the block that it holds. -/
theorem row_piece (w : Vec Ideal S1x1x16x128 .f32) (f : Fin 16 → Fin 128 → EReal)
    (hw : ∀ g d, w (ix4 (0 : Fin 1) (0 : Fin 1) g d) = f g d) (b : ℕ) (inb) (y : S1x2x16x128.Idx) (E : EReal)
    (hE : (y 1).val = b → E = f (y 2) (y 3)) :
    View.RectAt (Val := Elt Ideal) (e := .f32) y (Rect.unit (s := S1x2x16x128) ![0, b, 0, 0] S1x1x16x128.size inb) w E := by
  intro z hz
  have hz1 : (z 1).val < 1 := (z 1).isLt
  have h1 : (y 1).val = b := by rw [← hz]; show b + 1 * (z 1).val = b; omega
  have h2 : y 2 = z 2 := by rw [← hz]; apply Fin.ext; show 0 + 1 * (z 2).val = (z 2).val; omega
  have h3 : y 3 = z 3 := by rw [← hz]; apply Fin.ext; show 0 + 1 * (z 3).val = (z 3).val; omega
  rw [hE h1, h2, h3]
  exact (congrArg w (row_index z)).trans (hw _ _)

section Cases

variable (c : Dev nD) (i : grid0.Coords)
  (a3 : Memref sig .tc .vmem S1x1x128x16x128 .f32) (h3 : a3.IsWhole) (a4 : Memref sig .tc .vmem S1x1x128x16x128 .f32) (h4 : a4.IsWhole)
  (a5 : Memref sig .tc .vmem S1x1x128x16x128 .f32) (h5 : a5.IsWhole) (a6 : Memref sig .tc .vmem S1x1x128x16x128 .f32) (h6 : a6.IsWhole)
  (a7 : Memref sig .tc .vmem S1x2x16x128 .f32) (h7 : a7.IsWhole)
  (x0 x1 x2 x3 : Vec Ideal S1x1x128x16x128 .f32) (xt : TbBuf0 (F := Ideal) c tbM0_0)

/-- The mean of two staged pages at one place. -/
def staged (p q : Vec Ideal S1x1x128x16x128 .f32) (g : Fin 16) (d : Fin 128) : EReal :=
  pairMean (fun r => p (ix5 (0 : Fin 1) (0 : Fin 1) r g d)) (fun r => q (ix5 (0 : Fin 1) (0 : Fin 1) r g d))

/-- What a point stores: row 0 from its first two pages and row 1 from the other two. -/
theorem point (y : S1x2x16x128.Idx) (E : EReal) (e0 : (y 1).val = 0 → E = staged x0 x1 (y 2) (y 3))
    (e1 : (y 1).val = 1 → E = staged x2 x3 (y 2) (y 3)) :
    out0_A_4 c i a3 h3 a4 h4 a5 h5 a6 h6 a7 h7 x0 x1 x2 x3 xt y = E := by
  have hc := cover0_A_4 c i a3 h3 a4 h4 a5 h5 a6 h6 a7 h7 x0 x1 x2 x3 xt
  unfold out0_A_4
  rw [View.read_writes_eq_canon _ _ _ hc]
  refine View.canon_eq_of_allAt _ y _ (hc y) ?_
  clear hc
  unfold kernelRun0_A
  dsimp only
  sl_unfold_words
  simp only [View.readAt_eq_ld, h3.read_unread, h4.read_unread, h5.read_unread, h6.read_unread,
    View.ld_unit_zero (S := S1x1x128x16x128) offsets5]
  refine View.allAt_cons _ _ _ ?_ (View.allAt_cons _ _ _ ?_ (View.allAt_nil _ _))
  · exact row_piece _ (staged x2 x3) (second_apply x2 x3) 1 _ y E e1
  · exact row_piece _ (staged x0 x1) (first_apply x0 x1) 0 _ y E e0

end Cases

end Cert.Kernel17Ideal.PageMeans
-- ==== Proof.PageMeansValue.lean ====
/- The value of the block means of the sample's cached keys, at the ideal values: the result array holds, for every batch
   entry and every pair of its pages, the mean of their 256 rows. The grid walks 8 batch entries by 32 steps, and each point
   stores two of those means. -/
module

public import proofs.«01_k».proof.Proof.PageMeansBlocks

@[expose] public section

set_option maxRecDepth 16384

noncomputable section

namespace Cert.Kernel17Ideal.PageMeans

open Cert.Kernel17Ideal Cert.Kernel17Ideal.Gen Cert.Kernel17Ideal.PageTable Cert.PageTable
open Idealize.ShloMosaic Idealize.ShloMosaic.TcCoe Idealize.SL.Sem

variable (m : (ℓ : Loc nD τ sig) → Buf (Elt Ideal) ℓ) (hO : Ok m)

/-- The cached keys and the table of pages as arrays. -/
abbrev keys (c : Dev nD) : S2x1280x128x16x128.Idx → EReal := m ((c : Thread nD τ).loc main_arg0)
abbrev table : IVec S8x128 32 := m (((0 : Dev nD).tc).loc main_arg1)

/-- An element of the second layer's page number `p`. -/
def ofPage (k : S2x1280x128x16x128.Idx → EReal) (p : BitVec 32) (r : Fin 128) (g : Fin 16) (d : Fin 128) : EReal :=
  k (ix5 (1 : Fin 2) (Fin.ofNat 1280 p.toNat) r g d)

/-- Point `t` handles batch entry `t / 32` and step `t % 32`. -/
theorem point_coords : ∀ t : Fin grid0.N, (grid0.coords t 0).val = t.val / 32 ∧ (grid0.coords t 1).val = t.val % 32 := by
  decide +kernel

/-- A block at a page's place is that page. -/
theorem read_page (k : S2x1280x128x16x128.Idx → EReal) (p : BitVec 32) (hp : p.toNat < 1280) (f : Fin 5 → ℕ) (e : f = ![1, p.toNat, 0, 0, 0])
    (r : Fin 128) (g : Fin 16) (d : Fin 128) (j : S2x1280x128x16x128.Idx)
    (hj : ∀ a : Fin 5, (j a).val = f a * S1x1x128x16x128.size a + 1 * (ix5 (0 : Fin 1) (0 : Fin 1) r g d a).val) : k j = ofPage k p r g d := by
  subst e
  refine congrArg k ?_
  funext a
  refine Fin.ext ((hj a).trans ?_)
  match a with
  | ⟨0, _⟩ => rfl
  | ⟨1, _⟩ => show p.toNat * 1 + 1 * 0 = p.toNat % 1280; rw [Nat.mod_eq_of_lt hp]; omega
  | ⟨2, _⟩ => show 0 * 128 + 1 * r.val = r.val; omega
  | ⟨3, _⟩ => show 0 * 16 + 1 * g.val = g.val; omega
  | ⟨4, _⟩ => show 0 * 128 + 1 * d.val = d.val; omega

section Blocks

variable (hp : ∀ i, (table m i).toNat < 1280) (c : Dev nD) (t : Fin (cfgM m hO).N) (r : Fin 128) (g : Fin 16) (d : Fin 128)

include hp

theorem block_0 : (iblk m hO c 0 t : S1x1x128x16x128.Idx → EReal) (ix5 (0 : Fin 1) (0 : Fin 1) r g d)
    = ofPage (keys m c) (page (table m) (grid0.coords t) 0) r g d :=
  (congrFun (V_main_arg0 m c) _).trans (read_page _ _ (hp _) _ (transform_0 m (grid0.coords t)) r g d _ fun _ => rfl)

theorem block_1 : (iblk m hO c 1 t : S1x1x128x16x128.Idx → EReal) (ix5 (0 : Fin 1) (0 : Fin 1) r g d)
    = ofPage (keys m c) (page (table m) (grid0.coords t) 1) r g d :=
  (congrFun (V_main_arg0 m c) _).trans (read_page _ _ (hp _) _ (transform_1 m (grid0.coords t)) r g d _ fun _ => rfl)

theorem block_2 : (iblk m hO c 2 t : S1x1x128x16x128.Idx → EReal) (ix5 (0 : Fin 1) (0 : Fin 1) r g d)
    = ofPage (keys m c) (page (table m) (grid0.coords t) 2) r g d :=
  (congrFun (V_main_arg0 m c) _).trans (read_page _ _ (hp _) _ (transform_2 m (grid0.coords t)) r g d _ fun _ => rfl)

theorem block_3 : (iblk m hO c 3 t : S1x1x128x16x128.Idx → EReal) (ix5 (0 : Fin 1) (0 : Fin 1) r g d)
    = ofPage (keys m c) (page (table m) (grid0.coords t) 3) r g d :=
  (congrFun (V_main_arg0 m c) _).trans (read_page _ _ (hp _) _ (transform_3 m (grid0.coords t)) r g d _ fun _ => rfl)

end Blocks

/-- The pages of a batch entry's pair. -/
def pairPage (pt : IVec S8x128 32) (i : Fin 8) (n : Fin 64) (b : Fin 2) : BitVec 32 := pt (ix2 i ⟨2 * n.val + b.val, by omega⟩)

/-- The means as an array: pair n of batch entry i. -/
def mean (k : S2x1280x128x16x128.Idx → EReal) (pt : IVec S8x128 32) (i : Fin 8) (n : Fin 64) (g : Fin 16) (d : Fin 128) : EReal :=
  pairMean (fun r => ofPage k (pairPage pt i n 0) r g d) (fun r => ofPage k (pairPage pt i n 1) r g d)

def means (c : Dev nD) : Buf (Elt Ideal) ((c : Thread nD τ).loc main_v1) :=
  fun i : S8x64x16x128.Idx => mean (keys m c) (table m) (i 0) (i 1) (i 2) (i 3)

/-- A part's page is its pair's. -/
theorem page_pair (pt : IVec S8x128 32) (x : grid0.Coords) (r : Fin 4) (i : Fin 8) (n : Fin 64) (b : Fin 2) (hi : i.val = (x 0).val)
    (hn : 2 * n.val + b.val = 4 * (x 1).val + r.val) : page pt x r = pairPage pt i n b := by
  unfold page pairPage
  refine congrArg pt (funext fun a => ?_)
  match a with
  | ⟨0, _⟩ => exact Fin.ext hi.symm
  | ⟨1, _⟩ => exact Fin.ext hn.symm

/-- The block a point leaves, element by element. -/
theorem stored_eq (hp : ∀ i, (table m i).toNat < 1280) (c : Dev nD) (t : Fin (cfgM m hO).N) (y : S1x2x16x128.Idx) (i : Fin 8) (n : Fin 64) (g : Fin 16) (d : Fin 128)
    (hi : i.val = t.val / 32) (hn : n.val = 2 * (t.val % 32) + (y 1).val) (hg : g.val = (y 2).val) (hd : d.val = (y 3).val) :
    outsAt0 m hO c t y = mean (keys m c) (table m) i n g d := by
  obtain ⟨c0, c1⟩ := point_coords t
  have hg' : y 2 = g := Fin.ext hg.symm
  have hd' : y 3 = d := Fin.ext hd.symm
  unfold outsAt0
  refine point _ _ _ _ _ _ _ _ _ _ _ _ _ _ _ _ _ y _ (fun e => ?_) (fun e => ?_)
  · rw [hg', hd']
    unfold mean staged
    simp only [block_0 m hO hp, block_1 m hO hp]
    rw [page_pair _ _ 0 i n 0 (hi.trans c0.symm) (by show 2 * n.val + 0 = 4 * _ + 0; omega), page_pair _ _ 1 i n 1 (hi.trans c0.symm) (by show 2 * n.val + 1 = 4 * _ + 1; omega)]
  · rw [hg', hd']
    unfold mean staged
    simp only [block_2 m hO hp, block_3 m hO hp]
    rw [page_pair _ _ 2 i n 0 (hi.trans c0.symm) (by show 2 * n.val + 0 = 4 * _ + 2; omega), page_pair _ _ 3 i n 1 (hi.trans c0.symm) (by show 2 * n.val + 1 = 4 * _ + 3; omega)]

/-- Where a point's block lies. -/
theorem indices : ∀ t : Fin grid0.N, cc0_transform_4 (grid0.coords t) (0 : Fin 4) = t.val / 32 ∧ cc0_transform_4 (grid0.coords t) (1 : Fin 4) = t.val % 32
    ∧ cc0_transform_4 (grid0.coords t) (2 : Fin 4) = 0 ∧ cc0_transform_4 (grid0.coords t) (3 : Fin 4) = 0 := by
  decide +kernel

/-- What a point writes back is its block of the means. -/
theorem flushed_eq (hp : ∀ i, (table m i).toNat < 1280) (c : Dev nD) (t : Fin (cfgM m hO).N) :
    (dats m hO 0 c).flushed 4 t = (((cfgM m hO).win 4).blk t).view.read (Elt Ideal) (means m c) := by
  show ((cfgM m hO).win 4).cut (grid0.coords t) ((dats m hO 0 c).after 4 t) = _
  rw [after0_4]
  obtain ⟨e0, e1, e2, e3⟩ := indices t
  refine funext fun (y : S1x2x16x128.Idx) => ?_
  have hy0 : (y 0).val < 1 := (y 0).isLt
  show outsAt0 m hO c t y = means m c ((((cfgM m hO).win 4).blk t).view.emb y)
  refine stored_eq m hO hp c t y _ _ _ _ ?_ ?_ ?_ ?_
  · show cc0_transform_4 (grid0.coords t) (0 : Fin 4) * 1 + 1 * (y 0).val = _; omega
  · show cc0_transform_4 (grid0.coords t) (1 : Fin 4) * 2 + 1 * (y 1).val = 2 * (t.val % 32) + (y 1).val; omega
  · show cc0_transform_4 (grid0.coords t) (2 : Fin 4) * 16 + 1 * (y 2).val = (y 2).val; omega
  · show cc0_transform_4 (grid0.coords t) (3 : Fin 4) * 128 + 1 * (y 3).val = (y 3).val; omega

/-- A place is in a point's block when its batch entry and its pair are. -/
theorem mem_block (t : Fin (cfgM m hO).N) (i : S8x64x16x128.Idx) (h0 : (i 0).val = t.val / 32) (h1 : (i 1).val / 2 = t.val % 32) :
    i ∈ (((cfgM m hO).win 4).blk t).view.set := by
  obtain ⟨e0, e1, e2, e3⟩ := indices t
  have b2 : (i 2).val < 16 := (i 2).isLt
  have b3 : (i 3).val < 128 := (i 3).isLt
  refine (congrArg (i ∈ ·) (View.set_slice_whole main_v1 (((cfgM m hO).win 4).rect t))).mpr (Rect.mem_set_unit.mpr fun d => ?_)
  match d with
  | ⟨0, _⟩ => show cc0_transform_4 (grid0.coords t) (0 : Fin 4) * 1 ≤ (i 0).val ∧ (i 0).val < cc0_transform_4 (grid0.coords t) (0 : Fin 4) * 1 + 1; omega
  | ⟨1, _⟩ => show cc0_transform_4 (grid0.coords t) (1 : Fin 4) * 2 ≤ (i 1).val ∧ (i 1).val < cc0_transform_4 (grid0.coords t) (1 : Fin 4) * 2 + 2; omega
  | ⟨2, _⟩ => show cc0_transform_4 (grid0.coords t) (2 : Fin 4) * 16 ≤ (i 2).val ∧ (i 2).val < cc0_transform_4 (grid0.coords t) (2 : Fin 4) * 16 + 16; omega
  | ⟨3, _⟩ => show cc0_transform_4 (grid0.coords t) (3 : Fin 4) * 128 ≤ (i 3).val ∧ (i 3).val < cc0_transform_4 (grid0.coords t) (3 : Fin 4) * 128 + 128; omega

/-- Every place of the array is in some point's block. -/
theorem covers (i : S8x64x16x128.Idx) :
    ∃ t : Fin (cfgM m hO).N, ((cfgM m hO).win 4).flush t = true ∧ i ∈ (((cfgM m hO).win 4).blk t).view.set := by
  have h0 : (i 0).val < 8 := (i 0).isLt
  have h1 : (i 1).val < 64 := (i 1).isLt
  have hlt : 32 * (i 0).val + (i 1).val / 2 < grid0.N := by rw [N_0]; omega
  exact ⟨⟨_, hlt⟩, flush0_4 _ _, mem_block m hO ⟨_, hlt⟩ i (by dsimp only; omega) (by dsimp only; omega)⟩

/-- THE RESULT ARRAY after the run is the means. -/
theorem final (hp : ∀ i, (table m i).toNat < 1280) (c : Dev nD) : (dats m hO 0 c).arrAt 4 (cfgM m hO).N = means m c :=
  (dats m hO 0 c).arrAt_eq_of_cover 4 _ (fun t _ => flushed_eq m hO hp c t) (fun i => covers m hO i)

/-- The launch's run, its result named, where the table names pages of the pool. -/
theorem run (hp : ∀ i, (table m i).toNat < 1280) (ρ : Dev nD → PrngReg) :
    θ_run defs (onTc (τ := τ) (main (F := Ideal))) ⟨m, fun _ => 0, ρ⟩ fun r => ∀ c : Dev nD,
      r.2.mem ((c : Thread nD τ).loc main_v1) = means m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (final m (ok m hp) hp c),
      ((h c).1 3).trans (((dats m (ok m hp) 0 c).arrAt_in 3 rfl _).trans ((A_eq m (ok m hp) c 3).trans (V_main_arg0 m c))),
      ((h c).2 main_arg1 (by decide : main_arg1 ∈ Pipeline.restRefs sig spec0)).trans (V_main_arg1 m c)⟩)
    (run_main m ρ (ok m hp))

end Cert.Kernel17Ideal.PageMeans
-- ==== Proof.PageMeansReference.lean ====
/- The block means of the sample's cached keys as the reference writes them, element by element: it reads the named pages,
   sums each page's rows, and divides the sum over each pair of pages by the 256 rows. -/
module

public import proofs.«01_k».proof.Proof.PageMeansValue
public import proofs.«01_k».proof.Proof.Gen.Reference17Ideal.Run

@[expose] public section

set_option maxRecDepth 8192

noncomputable section

namespace Cert.Reference17Ideal.PageMeans

open Cert.Reference17Ideal Cert.Reference17Ideal.Gen Cert.Bucket Cert.Kernel17Ideal.PageMeans
open Idealize.ShloMosaic Idealize.ShloMosaic.TcCoe Idealize.SL.Sem
open scoped BigOperators

/-- The reading of whole pages. -/
abbrev pageDims : GatherDims S2x1280x128x16x128 S8x128x2 S8x128x128x16x128 :=
  gather_S2x1280x128x16x128_S8x128x2_S8x128x128x16x128_234_01_n_n_01_2_1112816128

theorem start_index (i : Fin 8) (j r : Fin 128) (g : Fin 16) (d : Fin 128) (b : Fin 2) :
    pageDims.siIdx (ix5 i j r g d) b = ix3 i j b := by
  funext a
  refine Fin.ext ?_
  match a with
  | ⟨0, _⟩ => rfl
  | ⟨1, _⟩ => rfl
  | ⟨2, _⟩ => rfl

/-- On the first two axes it starts at the pair of indices, -/
theorem start_0 (idx : IVec S8x128x2 32) (i : Fin 8) (j r : Fin 128) (g : Fin 16) (d : Fin 128) :
    pageDims.start (ix5 i j r g d) idx 0 + pageDims.batchCoord (ix5 i j r g d) 0 + pageDims.offCoord (ix5 i j r g d) 0
      = min (idx (ix3 i j 0)).toInt.toNat 1 := by
  rw [GatherDims.batchCoord_eq_zero _ _ _ List.not_mem_nil, GatherDims.offCoord_eq_zero _ _ _ (by decide)]
  have hmem : (0 : Fin 5) ∈ pageDims.startIndexMap := List.mem_cons_self
  unfold GatherDims.start
  rw [dif_pos hmem]
  exact congrArg (fun z => min (idx z).toInt.toNat 1) (start_index i j r g d 0)

theorem start_1 (idx : IVec S8x128x2 32) (i : Fin 8) (j r : Fin 128) (g : Fin 16) (d : Fin 128) :
    pageDims.start (ix5 i j r g d) idx 1 + pageDims.batchCoord (ix5 i j r g d) 1 + pageDims.offCoord (ix5 i j r g d) 1
      = min (idx (ix3 i j 1)).toInt.toNat 1279 := by
  rw [GatherDims.batchCoord_eq_zero _ _ _ List.not_mem_nil, GatherDims.offCoord_eq_zero _ _ _ (by decide)]
  have hmem : (1 : Fin 5) ∈ pageDims.startIndexMap := List.mem_cons_of_mem _ List.mem_cons_self
  unfold GatherDims.start
  rw [dif_pos hmem]
  exact congrArg (fun z => min (idx z).toInt.toNat 1279) (start_index i j r g d 1)

/-- and on the others it takes the page as it is. -/
theorem start_rest (idx : IVec S8x128x2 32) (y : S8x128x128x16x128.Idx) (a : Fin 5) (ha : 2 ≤ a.val) :
    pageDims.start y idx a + pageDims.batchCoord y a + pageDims.offCoord y a = (y a).val := by
  rw [GatherDims.batchCoord_eq_zero _ _ _ List.not_mem_nil]
  unfold GatherDims.start GatherDims.offCoord
  fin_cases a
  · exact absurd ha (by decide)
  · exact absurd ha (by decide)
  all_goals
    rw [dif_neg (by decide), dif_pos (by decide)]
    exact Nat.zero_add _

theorem gather_page {α : Type} (x : S2x1280x128x16x128.Idx → α) (idx : IVec S8x128x2 32) (i : Fin 8) (j r : Fin 128) (g : Fin 16) (d : Fin 128) :
    Host.gather pageDims x idx (ix5 i j r g d)
      = x (ix5 (⟨min (idx (ix3 i j 0)).toInt.toNat 1, by omega⟩ : Fin 2) (⟨min (idx (ix3 i j 1)).toInt.toNat 1279, by omega⟩ : Fin 1280) r g d) := by
  unfold Host.gather
  refine congrArg x ?_
  funext a
  refine Fin.ext ?_
  match a with
  | ⟨0, _⟩ => exact start_0 idx i j r g d
  | ⟨1, _⟩ => exact start_1 idx i j r g d
  | ⟨2, _⟩ => exact start_rest idx _ 2 (by decide)
  | ⟨3, _⟩ => exact start_rest idx _ 3 (by decide)
  | ⟨4, _⟩ => exact start_rest idx _ 4 (by decide)

/-- The pairs of a layer and a page that the reference reads at, of a table, -/
def pairs (pt : IVec S8x128 32) : IVec S8x128x2 32 :=
  concatenate S8x128x2 2 [⟨S8x128x1, (broadcastInDim S8x128x1 ![0, 1] bcast_S8x128_S8x128x1_0_1 (id (broadcastInDim S8x128 ![] bcast_S_S8x128 (constantI S_ 32 1#32))))⟩, ⟨S8x128x1, (broadcastInDim S8x128x1 ![0, 1] bcast_S8x128_S8x128x1_0_1 (select (cmpi .slt pt (broadcastInDim S8x128 ![] bcast_S_S8x128 (constantI S_ 32 0#32))) (addi pt (broadcastInDim S8x128 ![] bcast_S_S8x128 (constantI S_ 32 1280#32))) pt))⟩] concatenates_S8x128x1_S8x128x1_S8x128x2_d2

theorem pairs_layer (pt : IVec S8x128 32) (i : Fin 8) (j : Fin 128) : pairs pt (ix3 i j 0) = 1#32 := by
  unfold pairs
  pointwise []
  rfl

theorem pairs_page (pt : IVec S8x128 32) (i : Fin 8) (j : Fin 128) (h : 0 ≤ (pt (ix2 i j)).toInt) : pairs pt (ix3 i j 1) = pt (ix2 i j) := by
  unfold pairs
  pointwise []
  exact wrapped _ _ h

/-- and what it reads there. -/
theorem read_pages (k : S2x1280x128x16x128.Idx → EReal) (pt : IVec S8x128 32) (hp : ∀ x, (pt x).toInt = (pt x).toNat ∧ (pt x).toNat < 1280)
    (i : Fin 8) (j r : Fin 128) (g : Fin 16) (d : Fin 128) :
    Host.gather pageDims k (pairs pt) (ix5 i j r g d) = ofPage k (pt (ix2 i j)) r g d := by
  obtain ⟨e, l⟩ := hp (ix2 i j)
  rw [gather_page]
  refine congrArg k ?_
  funext a
  refine Fin.ext ?_
  match a with
  | ⟨0, _⟩ => show min (pairs pt (ix3 i j 0)).toInt.toNat 1 = 1; rw [pairs_layer]; rfl
  | ⟨1, _⟩ =>
    show min (pairs pt (ix3 i j 1)).toInt.toNat 1279 = (pt (ix2 i j)).toNat % 1280
    rw [pairs_page pt i j (by omega), e]
    omega
  | ⟨2, _⟩ => rfl
  | ⟨3, _⟩ => rfl
  | ⟨4, _⟩ => rfl

/-- The means of a batch entry's pairs of pages. -/
theorem mean_ref (k : FVec Ideal S2x1280x128x16x128 .f32) (pt : IVec S8x128 32) (hp : ∀ x, (pt x).toInt = (pt x).toNat ∧ (pt x).toNat < 1280)
    (i : Fin 8) (n : Fin 64) (g : Fin 16) (d : Fin 128) :
    (Host.divf (Host.reduceAdd (shapeCast _ (Host.reduceAdd (Host.gather pageDims k (pairs pt)) (constant S_ .f32 0x00000000#32)
        reducesTo_S8x128x128x16x128_S8x128x16x128_d2 h_S_) shapeCasts_S8x128x16x128_S8x64x2x16x128) (constant S_ .f32 0x00000000#32)
        reducesTo_S8x64x2x16x128_S8x64x16x128_d2 h_S_) (broadcastInDim S8x64x16x128 ![] bcast_S_S8x64x16x128 (constant S_ .f32 0x43800000#32)) :
          FVec Ideal S8x64x16x128 .f32) (ix4 i n g d) = mean k pt i n g d := by
  unfold mean pairMean
  pointwise []
  have e : ∀ (b : Fin 2) (h : n.val * 2 + b.val < 128), pt (ix2 i ⟨n.val * 2 + b.val, h⟩) = pairPage pt i n b := by
    intro b h
    refine congrArg (fun z : Fin 128 => pt (ix2 i z)) (Fin.ext ?_)
    show n.val * 2 + b.val = 2 * n.val + b.val
    omega
  simp only [read_pages k pt hp, e, Fin.sum_univ_two]

end Cert.Reference17Ideal.PageMeans
-- ==== Proof.PageMeansClaims.lean ====
/- The claims about the block means of the sample's cached keys: the launch's frame, and its result beside the reference's,
   where the table names pages of the pool. -/
module

public import proofs.«01_k».proof.Defs
public import proofs.«01_k».proof.Proof.PageTable
public import proofs.«01_k».proof.Proof.PageMeansReference
public import Idealize.ShloMosaic.Lib.Claim

@[expose] public section

set_option maxRecDepth 8192

noncomputable section

namespace Cert.Proof.PageMeansClaims

open Idealize.ShloMosaic Idealize.ShloMosaic.TcCoe Idealize.SL.Sem

/-- Where the table names pages of the pool, the launch ends with its arguments unchanged and every counter at zero, -/
theorem frame : Cert.quiescent_Kernel17 := fun m g h =>
  Cert.Kernel17.Gen.frame m g (Cert.Kernel17.PageTable.ok m fun i => (Cert.PageTable.entry _ _ (h 0) i).2)

theorem frame_ideal : Cert.quiescent_Kernel17Ideal := fun m g h =>
  Cert.Kernel17Ideal.Gen.frame m g (Cert.Kernel17Ideal.PageTable.ok m fun i => (Cert.PageTable.entry _ _ (h 0) i).2)

/-- and so does the reference, which has no counters. -/
theorem frame_ref : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- THE BLOCK MEANS: where the table names pages of the pool, the launch's result is the reference's. -/
theorem value : Cert.algebraic_Kernel17Ideal_Reference17Ideal := by
  intro m g m' g' h hagree
  have hp := fun i => Cert.PageTable.entry _ _ (h 0) i
  refine ⟨fun c => Cert.Kernel17Ideal.PageMeans.means m c, Cert.Kernel17Ideal.PageMeans.run m (fun i => (hp i).2) g, ?_⟩
  refine (θ_run Cert.Reference17Ideal.defs _ _).mono (fun r h c => ⟨(h c).1.trans ?_, (h c).2⟩)
    (Cert.Reference17Ideal.Value.run (F := Ideal) m' g')
  obtain rfl : c = 0 := Subsingleton.elim _ _
  obtain ⟨e0, e1⟩ := hagree 0
  funext j
  rw [eq_ix4 j, e0, e1]
  exact Cert.Reference17Ideal.PageMeans.mean_ref _ _ hp _ _ _ _

end Cert.Proof.PageMeansClaims
-- ==== Proof.lean ====
module

public import proofs.«01_k».proof.Defs
public import proofs.«01_k».proof.Proof.AttnClaims
public import proofs.«01_k».proof.Proof.MlpClaims
public import proofs.«01_k».proof.Proof.ProjectionClaims
public import proofs.«01_k».proof.Proof.QkNormClaims
public import proofs.«01_k».proof.Proof.QkSampleClaims
public import proofs.«01_k».proof.Proof.TableClaims
public import proofs.«01_k».proof.Proof.PageMeansClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Pre_pages_of_pool

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_pages_of_pool.Gen.facts,
    AttnClaims.frame, AttnClaims.frame_ideal, AttnClaims.frame_ref,
    MlpClaims.frame_norm, MlpClaims.frame_norm_ideal, MlpClaims.frame_norm_ref,
    MlpClaims.frame_residual, MlpClaims.frame_residual_ideal, MlpClaims.frame_residual_ref,
    ProjectionClaims.frame_delta, ProjectionClaims.frame_delta_ideal, ProjectionClaims.frame_delta_ref,
    ProjectionClaims.frame_qkv, ProjectionClaims.frame_qkv_ideal, ProjectionClaims.frame_qkv_ref,
    ProjectionClaims.frame_delta_out, ProjectionClaims.frame_delta_out_ideal, ProjectionClaims.frame_delta_out_ref,
    ProjectionClaims.frame_attn_out, ProjectionClaims.frame_attn_out_ideal, ProjectionClaims.frame_attn_out_ref,
    QkNormClaims.frame, QkNormClaims.frame_ideal, QkNormClaims.frame_ref,
    ProjectionClaims.frame_delta_sample, ProjectionClaims.frame_delta_sample_ideal, ProjectionClaims.frame_delta_sample_ref,
    ProjectionClaims.frame_qkv_sample, ProjectionClaims.frame_qkv_sample_ideal, ProjectionClaims.frame_qkv_sample_ref,
    QkSampleClaims.frame, QkSampleClaims.frame_ideal, QkSampleClaims.frame_ref,
    ProjectionClaims.frame_gates, ProjectionClaims.frame_gates_ideal, ProjectionClaims.frame_gates_ref,
    MlpClaims.frame_norm_sample, MlpClaims.frame_norm_sample_ideal, MlpClaims.frame_norm_sample_ref,
    MlpClaims.frame_residual_sample, MlpClaims.frame_residual_sample_ideal, MlpClaims.frame_residual_sample_ref,
    TableClaims.frame_bias, TableClaims.frame_bias_ideal, TableClaims.frame_bias_ref,
    TableClaims.frame_cast, TableClaims.frame_cast_ideal, TableClaims.frame_cast_ref,
    PageMeansClaims.frame, PageMeansClaims.frame_ideal, PageMeansClaims.frame_ref,
    ProjectionClaims.frame_delta_out_sample, ProjectionClaims.frame_delta_out_sample_ideal, ProjectionClaims.frame_delta_out_sample_ref,
    ProjectionClaims.frame_attn_out_sample, ProjectionClaims.frame_attn_out_sample_ideal, ProjectionClaims.frame_attn_out_sample_ref,
    TableClaims.frame_bias_sample, TableClaims.frame_bias_sample_ideal, TableClaims.frame_bias_sample_ref,
    AttnClaims.preserves, trivial, MlpClaims.norm, trivial, MlpClaims.residual,
    trivial, ProjectionClaims.delta, trivial, ProjectionClaims.qkv, trivial, ProjectionClaims.delta_out, trivial, ProjectionClaims.attn_out,
    trivial, QkNormClaims.value, trivial, ProjectionClaims.delta_sample, trivial, ProjectionClaims.qkv_sample,
    trivial, QkSampleClaims.value, trivial, ProjectionClaims.gates, trivial, MlpClaims.norm_sample,
    trivial, MlpClaims.residual_sample,
    trivial, TableClaims.bias, trivial, TableClaims.cast,
    trivial, PageMeansClaims.value,
    trivial, ProjectionClaims.delta_out_sample, trivial, ProjectionClaims.attn_out_sample,
    trivial, TableClaims.bias_sample⟩

end Cert.Proof

end
